-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.2.2.2 = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCRefIdeal (m : (ℓ : Loc Cert.FfnCRefIdeal.nD Cert.FfnCRefIdeal.τ Cert.FfnCRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))).2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))).2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6)
      ∧ r.2.mem ((c.tc : Thread Cert.FfnB.nD Cert.FfnB.τ).loc Cert.FfnB.main_arg7) = m ((c.tc : Thread Cert.FfnB.nD Cert.FfnB.τ).loc Cert.FfnB.main_arg7)
      ∧ r.2.mem ((c.tc : Thread Cert.FfnB.nD Cert.FfnB.τ).loc Cert.FfnB.main_arg8) = m ((c.tc : Thread Cert.FfnB.nD Cert.FfnB.τ).loc Cert.FfnB.main_arg8))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
      ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
      ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6)
      ∧ r.2.mem ((c.tc : Thread Cert.FfnBRefIdeal.nD Cert.FfnBRefIdeal.τ).loc Cert.FfnBRefIdeal.main_arg7) = m ((c.tc : Thread Cert.FfnBRefIdeal.nD Cert.FfnBRefIdeal.τ).loc Cert.FfnBRefIdeal.main_arg7)
      ∧ r.2.mem ((c.tc : Thread Cert.FfnBRefIdeal.nD Cert.FfnBRefIdeal.τ).loc Cert.FfnBRefIdeal.main_arg8) = m ((c.tc : Thread Cert.FfnBRefIdeal.nD Cert.FfnBRefIdeal.τ).loc Cert.FfnBRefIdeal.main_arg8))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3)
      ∧ r.2.mem ((c.tc : Thread Cert.FfnC.nD Cert.FfnC.τ).loc Cert.FfnC.main_arg4) = m ((c.tc : Thread Cert.FfnC.nD Cert.FfnC.τ).loc Cert.FfnC.main_arg4)
      ∧ r.2.mem ((c.tc : Thread Cert.FfnC.nD Cert.FfnC.τ).loc Cert.FfnC.main_arg5) = m ((c.tc : Thread Cert.FfnC.nD Cert.FfnC.τ).loc Cert.FfnC.main_arg5)
      ∧ r.2.mem ((c.tc : Thread Cert.FfnC.nD Cert.FfnC.τ).loc Cert.FfnC.main_arg6) = m ((c.tc : Thread Cert.FfnC.nD Cert.FfnC.τ).loc Cert.FfnC.main_arg6)
      ∧ r.2.mem ((c.tc : Thread Cert.FfnC.nD Cert.FfnC.τ).loc Cert.FfnC.main_arg7) = m ((c.tc : Thread Cert.FfnC.nD Cert.FfnC.τ).loc Cert.FfnC.main_arg7)
      ∧ r.2.mem ((c.tc : Thread Cert.FfnC.nD Cert.FfnC.τ).loc Cert.FfnC.main_arg8) = m ((c.tc : Thread Cert.FfnC.nD Cert.FfnC.τ).loc Cert.FfnC.main_arg8))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
      ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
      ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6)
      ∧ r.2.mem ((c.tc : Thread Cert.FfnCIdeal.nD Cert.FfnCIdeal.τ).loc Cert.FfnCIdeal.main_arg7) = m ((c.tc : Thread Cert.FfnCIdeal.nD Cert.FfnCIdeal.τ).loc Cert.FfnCIdeal.main_arg7)
      ∧ r.2.mem ((c.tc : Thread Cert.FfnCIdeal.nD Cert.FfnCIdeal.τ).loc Cert.FfnCIdeal.main_arg8) = m ((c.tc : Thread Cert.FfnCIdeal.nD Cert.FfnCIdeal.τ).loc Cert.FfnCIdeal.main_arg8))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4)
      ∧ r.2.mem ((c.tc : Thread Cert.FfnCRefIdeal.nD Cert.FfnCRefIdeal.τ).loc Cert.FfnCRefIdeal.main_arg5) = m ((c.tc : Thread Cert.FfnCRefIdeal.nD Cert.FfnCRefIdeal.τ).loc Cert.FfnCRefIdeal.main_arg5)
      ∧ r.2.mem ((c.tc : Thread Cert.FfnCRefIdeal.nD Cert.FfnCRefIdeal.τ).loc Cert.FfnCRefIdeal.main_arg6) = m ((c.tc : Thread Cert.FfnCRefIdeal.nD Cert.FfnCRefIdeal.τ).loc Cert.FfnCRefIdeal.main_arg6)
      ∧ r.2.mem ((c.tc : Thread Cert.FfnCRefIdeal.nD Cert.FfnCRefIdeal.τ).loc Cert.FfnCRefIdeal.main_arg7) = m ((c.tc : Thread Cert.FfnCRefIdeal.nD Cert.FfnCRefIdeal.τ).loc Cert.FfnCRefIdeal.main_arg7)
      ∧ r.2.mem ((c.tc : Thread Cert.FfnCRefIdeal.nD Cert.FfnCRefIdeal.τ).loc Cert.FfnCRefIdeal.main_arg8) = m ((c.tc : Thread Cert.FfnCRefIdeal.nD Cert.FfnCRefIdeal.τ).loc Cert.FfnCRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def preserves_Mla_MlaIdeal : Prop :=
  IdealRules.named_const.Statement Cert.MlaIdeal.κ "q_scale" .f32 0x3E16C740#32 (((Real.sqrt 96)⁻¹ * (Real.log 2)⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)) →
    ∃ (v0 : (c : Dev Cert.MlaIdeal.nD) → Buf (Elt Ideal) ((c.tc : Thread Cert.MlaIdeal.nD Cert.MlaIdeal.τ).loc Cert.MlaIdeal.main_v42)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v42) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v87) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)) →
    ∃ (v0 : (c : Dev Cert.FfnAIdeal.nD) → Buf (Elt Ideal) ((c.tc : Thread Cert.FfnAIdeal.nD Cert.FfnAIdeal.τ).loc Cert.FfnAIdeal.main_v0)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v0) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v22) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)
      ∧ m' ((c.tc : Thread Cert.FfnBRefIdeal.nD Cert.FfnBRefIdeal.τ).loc Cert.FfnBRefIdeal.main_arg7) = m ((c.tc : Thread Cert.FfnBIdeal.nD Cert.FfnBIdeal.τ).loc Cert.FfnBIdeal.main_arg7)
      ∧ m' ((c.tc : Thread Cert.FfnBRefIdeal.nD Cert.FfnBRefIdeal.τ).loc Cert.FfnBRefIdeal.main_arg8) = m ((c.tc : Thread Cert.FfnBIdeal.nD Cert.FfnBIdeal.τ).loc Cert.FfnBIdeal.main_arg8)) →
    ∃ (v0 : (c : Dev Cert.FfnBIdeal.nD) → Buf (Elt Ideal) ((c.tc : Thread Cert.FfnBIdeal.nD Cert.FfnBIdeal.τ).loc Cert.FfnBIdeal.main_v0)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v0) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
          ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
          ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v60) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6)
          ∧ r.2.mem ((c.tc : Thread Cert.FfnBRefIdeal.nD Cert.FfnBRefIdeal.τ).loc Cert.FfnBRefIdeal.main_arg7) = m' ((c.tc : Thread Cert.FfnBRefIdeal.nD Cert.FfnBRefIdeal.τ).loc Cert.FfnBRefIdeal.main_arg7)
          ∧ r.2.mem ((c.tc : Thread Cert.FfnBRefIdeal.nD Cert.FfnBRefIdeal.τ).loc Cert.FfnBRefIdeal.main_arg8) = m' ((c.tc : Thread Cert.FfnBRefIdeal.nD Cert.FfnBRefIdeal.τ).loc Cert.FfnBRefIdeal.main_arg8))

def preserves_FfnC_FfnCIdeal : Prop :=
  True

def algebraic_FfnCIdeal_FfnCRefIdeal [hFfnCIdeal : Cert.FfnCIdeal.Facts] [hFfnCRefIdeal : Cert.FfnCRefIdeal.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)
      ∧ m' ((c.tc : Thread Cert.FfnCRefIdeal.nD Cert.FfnCRefIdeal.τ).loc Cert.FfnCRefIdeal.main_arg4) = m ((c.tc : Thread Cert.FfnCIdeal.nD Cert.FfnCIdeal.τ).loc Cert.FfnCIdeal.main_arg4)
      ∧ m' ((c.tc : Thread Cert.FfnCRefIdeal.nD Cert.FfnCRefIdeal.τ).loc Cert.FfnCRefIdeal.main_arg5) = m ((c.tc : Thread Cert.FfnCIdeal.nD Cert.FfnCIdeal.τ).loc Cert.FfnCIdeal.main_arg5)
      ∧ m' ((c.tc : Thread Cert.FfnCRefIdeal.nD Cert.FfnCRefIdeal.τ).loc Cert.FfnCRefIdeal.main_arg6) = m ((c.tc : Thread Cert.FfnCIdeal.nD Cert.FfnCIdeal.τ).loc Cert.FfnCIdeal.main_arg6)
      ∧ m' ((c.tc : Thread Cert.FfnCRefIdeal.nD Cert.FfnCRefIdeal.τ).loc Cert.FfnCRefIdeal.main_arg7) = m ((c.tc : Thread Cert.FfnCIdeal.nD Cert.FfnCIdeal.τ).loc Cert.FfnCIdeal.main_arg7)
      ∧ m' ((c.tc : Thread Cert.FfnCRefIdeal.nD Cert.FfnCRefIdeal.τ).loc Cert.FfnCRefIdeal.main_arg8) = m ((c.tc : Thread Cert.FfnCIdeal.nD Cert.FfnCIdeal.τ).loc Cert.FfnCIdeal.main_arg8)) →
    ∃ (v0 : (c : Dev Cert.FfnCIdeal.nD) → Buf (Elt Ideal) ((c.tc : Thread Cert.FfnCIdeal.nD Cert.FfnCIdeal.τ).loc Cert.FfnCIdeal.main_v0)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v0) = v0 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
          ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
          ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
          ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6)
          ∧ r.2.mem ((c.tc : Thread Cert.FfnCIdeal.nD Cert.FfnCIdeal.τ).loc Cert.FfnCIdeal.main_arg7) = m ((c.tc : Thread Cert.FfnCIdeal.nD Cert.FfnCIdeal.τ).loc Cert.FfnCIdeal.main_arg7)
          ∧ r.2.mem ((c.tc : Thread Cert.FfnCIdeal.nD Cert.FfnCIdeal.τ).loc Cert.FfnCIdeal.main_arg8) = m ((c.tc : Thread Cert.FfnCIdeal.nD Cert.FfnCIdeal.τ).loc Cert.FfnCIdeal.main_arg8))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v48) = v0 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3)
          ∧ r.2.mem ((c.tc : Thread Cert.FfnCRefIdeal.nD Cert.FfnCRefIdeal.τ).loc Cert.FfnCRefIdeal.main_arg4) = m' ((c.tc : Thread Cert.FfnCRefIdeal.nD Cert.FfnCRefIdeal.τ).loc Cert.FfnCRefIdeal.main_arg4)
          ∧ r.2.mem ((c.tc : Thread Cert.FfnCRefIdeal.nD Cert.FfnCRefIdeal.τ).loc Cert.FfnCRefIdeal.main_arg5) = m' ((c.tc : Thread Cert.FfnCRefIdeal.nD Cert.FfnCRefIdeal.τ).loc Cert.FfnCRefIdeal.main_arg5)
          ∧ r.2.mem ((c.tc : Thread Cert.FfnCRefIdeal.nD Cert.FfnCRefIdeal.τ).loc Cert.FfnCRefIdeal.main_arg6) = m' ((c.tc : Thread Cert.FfnCRefIdeal.nD Cert.FfnCRefIdeal.τ).loc Cert.FfnCRefIdeal.main_arg6)
          ∧ r.2.mem ((c.tc : Thread Cert.FfnCRefIdeal.nD Cert.FfnCRefIdeal.τ).loc Cert.FfnCRefIdeal.main_arg7) = m' ((c.tc : Thread Cert.FfnCRefIdeal.nD Cert.FfnCRefIdeal.τ).loc Cert.FfnCRefIdeal.main_arg7)
          ∧ r.2.mem ((c.tc : Thread Cert.FfnCRefIdeal.nD Cert.FfnCRefIdeal.τ).loc Cert.FfnCRefIdeal.main_arg8) = m' ((c.tc : Thread Cert.FfnCRefIdeal.nD Cert.FfnCRefIdeal.τ).loc Cert.FfnCRefIdeal.main_arg8))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v28_0)) (v1 : (c : Dev Cert.InprojIdeal.nD) → Buf (Elt Ideal) ((c.tc : Thread Cert.InprojIdeal.nD Cert.InprojIdeal.τ).loc Cert.InprojIdeal.main_v28_1)) (v2 : (c : Dev Cert.InprojIdeal.nD) → Buf (Elt Ideal) ((c.tc : Thread Cert.InprojIdeal.nD Cert.InprojIdeal.τ).loc Cert.InprojIdeal.main_v28_2)) (v3 : (c : Dev Cert.InprojIdeal.nD) → Buf (Elt Ideal) ((c.tc : Thread Cert.InprojIdeal.nD Cert.InprojIdeal.τ).loc Cert.InprojIdeal.main_v28_3)) (v4 : (c : Dev Cert.InprojIdeal.nD) → Buf (Elt Ideal) ((c.tc : Thread Cert.InprojIdeal.nD Cert.InprojIdeal.τ).loc Cert.InprojIdeal.main_v28_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v28_0) = v0 c
          ∧ r.2.mem ((c.tc : Thread Cert.InprojIdeal.nD Cert.InprojIdeal.τ).loc Cert.InprojIdeal.main_v28_1) = v1 c
          ∧ r.2.mem ((c.tc : Thread Cert.InprojIdeal.nD Cert.InprojIdeal.τ).loc Cert.InprojIdeal.main_v28_2) = v2 c
          ∧ r.2.mem ((c.tc : Thread Cert.InprojIdeal.nD Cert.InprojIdeal.τ).loc Cert.InprojIdeal.main_v28_3) = v3 c
          ∧ r.2.mem ((c.tc : Thread Cert.InprojIdeal.nD Cert.InprojIdeal.τ).loc Cert.InprojIdeal.main_v28_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v40) = v0 c
          ∧ r.2.mem ((c.tc : Thread Cert.InprojRefIdeal.nD Cert.InprojRefIdeal.τ).loc Cert.InprojRefIdeal.main_v41) = v1 c
          ∧ r.2.mem ((c.tc : Thread Cert.InprojRefIdeal.nD Cert.InprojRefIdeal.τ).loc Cert.InprojRefIdeal.main_v21) = v2 c
          ∧ r.2.mem ((c.tc : Thread Cert.InprojRefIdeal.nD Cert.InprojRefIdeal.τ).loc Cert.InprojRefIdeal.main_v42) = v3 c
          ∧ r.2.mem ((c.tc : Thread Cert.InprojRefIdeal.nD Cert.InprojRefIdeal.τ).loc Cert.InprojRefIdeal.main_v43) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v11_0)) (v1 : (c : Dev Cert.RopeIdeal.nD) → Buf (Elt Ideal) ((c.tc : Thread Cert.RopeIdeal.nD Cert.RopeIdeal.τ).loc Cert.RopeIdeal.main_v11_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11_0) = v0 c
          ∧ r.2.mem ((c.tc : Thread Cert.RopeIdeal.nD Cert.RopeIdeal.τ).loc Cert.RopeIdeal.main_v11_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v15) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v2) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def Claim : Prop :=
  ∃ (hMla : Cert.Mla.Facts) (hMlaIdeal : Cert.MlaIdeal.Facts) (hMlaRefIdeal : Cert.MlaRefIdeal.Facts) (hFfnA : Cert.FfnA.Facts) (hFfnAIdeal : Cert.FfnAIdeal.Facts) (hFfnARefIdeal : Cert.FfnARefIdeal.Facts) (hFfnB : Cert.FfnB.Facts) (hFfnBIdeal : Cert.FfnBIdeal.Facts) (hFfnBRefIdeal : Cert.FfnBRefIdeal.Facts) (hFfnC : Cert.FfnC.Facts) (hFfnCIdeal : Cert.FfnCIdeal.Facts) (hFfnCRefIdeal : Cert.FfnCRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hRope : Cert.Rope.Facts) (hRopeIdeal : Cert.RopeIdeal.Facts) (hRopeRefIdeal : Cert.RopeRefIdeal.Facts) (hCast : Cert.Cast.Facts) (hCastIdeal : Cert.CastIdeal.Facts) (hCastRefIdeal : Cert.CastRefIdeal.Facts) (hPre_mla_finite : Cert.Pre_mla_finite.Facts) (hPre_inproj_finite : Cert.Pre_inproj_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_FfnA (hFfnA := hFfnA)
    ∧ quiescent_FfnAIdeal (hFfnAIdeal := hFfnAIdeal)
    ∧ quiescent_FfnARefIdeal (hFfnARefIdeal := hFfnARefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_FfnC (hFfnC := hFfnC)
    ∧ quiescent_FfnCIdeal (hFfnCIdeal := hFfnCIdeal)
    ∧ quiescent_FfnCRefIdeal (hFfnCRefIdeal := hFfnCRefIdeal)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Merge (hMerge := hMerge)
    ∧ quiescent_MergeIdeal (hMergeIdeal := hMergeIdeal)
    ∧ quiescent_MergeRefIdeal (hMergeRefIdeal := hMergeRefIdeal)
    ∧ quiescent_Rope (hRope := hRope)
    ∧ quiescent_RopeIdeal (hRopeIdeal := hRopeIdeal)
    ∧ quiescent_RopeRefIdeal (hRopeRefIdeal := hRopeRefIdeal)
    ∧ quiescent_Cast (hCast := hCast)
    ∧ quiescent_CastIdeal (hCastIdeal := hCastIdeal)
    ∧ quiescent_CastRefIdeal (hCastRefIdeal := hCastRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_FfnA_FfnAIdeal
    ∧ algebraic_FfnAIdeal_FfnARefIdeal (hFfnAIdeal := hFfnAIdeal) (hFfnARefIdeal := hFfnARefIdeal)
    ∧ preserves_FfnB_FfnBIdeal
    ∧ algebraic_FfnBIdeal_FfnBRefIdeal (hFfnBIdeal := hFfnBIdeal) (hFfnBRefIdeal := hFfnBRefIdeal)
    ∧ preserves_FfnC_FfnCIdeal
    ∧ algebraic_FfnCIdeal_FfnCRefIdeal (hFfnCIdeal := hFfnCIdeal) (hFfnCRefIdeal := hFfnCRefIdeal)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Merge_MergeIdeal
    ∧ algebraic_MergeIdeal_MergeRefIdeal (hMergeIdeal := hMergeIdeal) (hMergeRefIdeal := hMergeRefIdeal)
    ∧ preserves_Rope_RopeIdeal
    ∧ algebraic_RopeIdeal_RopeRefIdeal (hRopeIdeal := hRopeIdeal) (hRopeRefIdeal := hRopeRefIdeal)
    ∧ preserves_Cast_CastIdeal
    ∧ algebraic_CastIdeal_CastRefIdeal (hCastIdeal := hCastIdeal) (hCastRefIdeal := hCastRefIdeal)
-- ==== Pre_inproj_finite.lean ====
abbrev S32768x1024 : Shape := ⟨2, ![32768, 1024]⟩
abbrev S1024 : Shape := ⟨1, ![1024]⟩
abbrev S1024x7328 : Shape := ⟨2, ![1024, 7328]⟩
abbrev S_ : Shape := ⟨0, ![]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S_S1024x7328 : S_.BroadcastsInDim S1024x7328 (![] : Fin 0 → Fin S1024x7328.rank)

variable [Facts]

def fn {F : FTy → Type} [FloatOps F] (main_arg0 : FVec F S32768x1024 .f32) (main_arg1 : FVec F S1024 .f32) (main_arg2 : FVec F S1024x7328 .f32) : IVec S32768x1024 1 × IVec S1024 1 × IVec S1024x7328 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7328 .f32 := Host.absf main_arg2
  let main_cst_1 : FVec F S_ .f32 := constant S_ .f32 0x7F800000#32
  let main_v7 : FVec F S1024x7328 .f32 := broadcastInDim S1024x7328 ![] bcast_S_S1024x7328 main_cst_1
  let main_v8 : IVec S1024x7328 1 := cmpf .olt main_v6 main_v7
  (main_v2, main_v5, main_v8)
-- ==== Pre_mla_finite.lean ====
abbrev S16x2048x384 : Shape := ⟨3, ![16, 2048, 384]⟩
abbrev S16x2048x256 : Shape := ⟨3, ![16, 2048, 256]⟩
abbrev S16x2048x32 : Shape := ⟨3, ![16, 2048, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x2048x1x16 : Shape := ⟨4, ![16, 2048, 1, 16]⟩
abbrev S_ : Shape := ⟨0, ![]⟩

class Facts : Prop where
  bcast_S_S16x2048x384 : S_.BroadcastsInDim S16x2048x384 (![] : Fin 0 → Fin S16x2048x384.rank)
  bcast_S_S16x2048x256 : S_.BroadcastsInDim S16x2048x256 (![] : Fin 0 → Fin S16x2048x256.rank)
  bcast_S_S16x2048x32 : S_.BroadcastsInDim S16x2048x32 (![] : Fin 0 → Fin S16x2048x32.rank)
  bcast_S_S384 : S_.BroadcastsInDim S384 (![] : Fin 0 → Fin S384.rank)
  bcast_S_S384x768 : S_.BroadcastsInDim S384x768 (![] : Fin 0 → Fin S384x768.rank)
  bcast_S_S256 : S_.BroadcastsInDim S256 (![] : Fin 0 → Fin S256.rank)
  bcast_S_S256x1024 : S_.BroadcastsInDim S256x1024 (![] : Fin 0 → Fin S256x1024.rank)
  bcast_S_S16x2048x1x16 : S_.BroadcastsInDim S16x2048x1x16 (![] : Fin 0 → Fin S16x2048x1x16.rank)

variable [Facts]

def fn_part1 {F : FTy → Type} [FloatOps F] (main_arg6 : FVec F S256x1024 .f32) (main_arg7 : FVec F S16x2048x1x16 .f32) (main_arg8 : FVec F S16x2048x1x16 .f32) (main_v2 : IVec S16x2048x384 1) (main_v5 : IVec S16x2048x256 1) (main_v8 : IVec S16x2048x32 1) (main_v11 : IVec S384 1) (main_v14 : IVec S384x768 1) (main_v17 : IVec S256 1) : IVec S16x2048x384 1 × IVec S16x2048x256 1 × IVec S16x2048x32 1 × IVec S384 1 × IVec S384x768 1 × IVec S256 1 × IVec S256x1024 1 × IVec S16x2048x1x16 1 × IVec S16x2048x1x16 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S16x2048x1x16 .f32 := Host.absf main_arg7
  let main_cst_6 : FVec F S_ .f32 := constant S_ .f32 0x7F800000#32
  let main_v22 : FVec F S16x2048x1x16 .f32 := broadcastInDim S16x2048x1x16 ![] bcast_S_S16x2048x1x16 main_cst_6
  let main_v23 : IVec S16x2048x1x16 1 := cmpf .olt main_v21 main_v22
  let main_v24 : FVec F S16x2048x1x16 .f32 := Host.absf main_arg8
  let main_cst_7 : FVec F S_ .f32 := constant S_ .f32 0x7F800000#32
  let main_v25 : FVec F S16x2048x1x16 .f32 := broadcastInDim S16x2048x1x16 ![] bcast_S_S16x2048x1x16 main_cst_7
  let main_v26 : IVec S16x2048x1x16 1 := cmpf .olt main_v24 main_v25
  (main_v2, main_v5, main_v8, main_v11, main_v14, main_v17, main_v20, main_v23, main_v26)

def fn {F : FTy → Type} [FloatOps F] (main_arg0 : FVec F S16x2048x384 .f32) (main_arg1 : FVec F S16x2048x256 .f32) (main_arg2 : FVec F S16x2048x32 .f32) (main_arg3 : FVec F S384 .f32) (main_arg4 : FVec F S384x768 .f32) (main_arg5 : FVec F S256 .f32) (main_arg6 : FVec F S256x1024 .f32) (main_arg7 : FVec F S16x2048x1x16 .f32) (main_arg8 : FVec F S16x2048x1x16 .f32) : IVec S16x2048x384 1 × IVec S16x2048x256 1 × IVec S16x2048x32 1 × IVec S384 1 × IVec S384x768 1 × IVec S256 1 × IVec S256x1024 1 × IVec S16x2048x1x16 1 × IVec S16x2048x1x16 1 :=
  let main_v0 : FVec F S16x2048x384 .f32 := Host.absf main_arg0
  let main_cst : FVec F S_ .f32 := constant S_ .f32 0x7F800000#32
  let main_v1 : FVec F S16x2048x384 .f32 := broadcastInDim S16x2048x384 ![] bcast_S_S16x2048x384 main_cst
  let main_v2 : IVec S16x2048x384 1 := cmpf .olt main_v0 main_v1
  let main_v3 : FVec F S16x2048x256 .f32 := Host.absf main_arg1
  let main_cst_0 : FVec F S_ .f32 := constant S_ .f32 0x7F800000#32
  let main_v4 : FVec F S16x2048x256 .f32 := broadcastInDim S16x2048x256 ![] bcast_S_S16x2048x256 main_cst_0
  let main_v5 : IVec S16x2048x256 1 := cmpf .olt main_v3 main_v4
  let main_v6 : FVec F S16x2048x32 .f32 := Host.absf main_arg2
  let main_cst_1 : FVec F S_ .f32 := constant S_ .f32 0x7F800000#32
  let main_v7 : FVec F S16x2048x32 .f32 := broadcastInDim S16x2048x32 ![] bcast_S_S16x2048x32 main_cst_1
  let main_v8 : IVec S16x2048x32 1 := cmpf .olt main_v6 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384x768 .f32 := Host.absf main_arg4
  let main_cst_3 : FVec F S_ .f32 := constant S_ .f32 0x7F800000#32
  let main_v13 : FVec F S384x768 .f32 := broadcastInDim S384x768 ![] bcast_S_S384x768 main_cst_3
  let main_v14 : IVec S384x768 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_arg8 main_v2 main_v5 main_v8 main_v11 main_v14 main_v17
-- ==== Mla.lean ====
abbrev S16x2048x384 : Shape := ⟨3, ![16, 2048, 384]⟩
abbrev S16x2048x256 : Shape := ⟨3, ![16, 2048, 256]⟩
abbrev S16x2048x32 : Shape := ⟨3, ![16, 2048, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x2048x1x16 : Shape := ⟨4, ![16, 2048, 1, 16]⟩
abbrev S1x16x1x2048x1x32 : Shape := ⟨6, ![1, 16, 1, 2048, 1, 32]⟩
abbrev S1x16x1x2048x4x32 : Shape := ⟨6, ![1, 16, 1, 2048, 4, 32]⟩
abbrev S16x2048x128 : Shape := ⟨3, ![16, 2048, 128]⟩
abbrev S16x2048x16 : Shape := ⟨3, ![16, 2048, 16]⟩
abbrev S16x2048x896 : Shape := ⟨3, ![16, 2048, 896]⟩
abbrev S384x8x96 : Shape := ⟨3, ![384, 8, 96]⟩
abbrev S384x8x64 : Shape := ⟨3, ![384, 8, 64]⟩
abbrev S384x512 : Shape := ⟨2, ![384, 512]⟩
abbrev S384x8x32 : Shape := ⟨3, ![384, 8, 32]⟩
abbrev S256x8x128 : Shape := ⟨3, ![256, 8, 128]⟩
abbrev S1x16x1x2048x1x16 : Shape := ⟨6, ![1, 16, 1, 2048, 1, 16]⟩
abbrev S1x16x1x2048x8x16 : Shape := ⟨6, ![1, 16, 1, 2048, 8, 16]⟩
abbrev S1x384 : Shape := ⟨2, ![1, 384]⟩
abbrev S1x256 : Shape := ⟨2, ![1, 256]⟩
abbrev S384x256 : Shape := ⟨2, ![384, 256]⟩
abbrev S384x8x16 : Shape := ⟨3, ![384, 8, 16]⟩
abbrev S256x8x64 : Shape := ⟨3, ![256, 8, 64]⟩
abbrev S256x512 : Shape := ⟨2, ![256, 512]⟩
abbrev S16x2048x512 : Shape := ⟨3, ![16, 2048, 512]⟩
abbrev S1x2048x896 : Shape := ⟨3, ![1, 2048, 896]⟩
abbrev S1x2048x128 : Shape := ⟨3, ![1, 2048, 128]⟩
abbrev S4x2048x256 : Shape := ⟨3, ![4, 2048, 256]⟩
abbrev S4x2048x128 : Shape := ⟨3, ![4, 2048, 128]⟩
abbrev S1x512x896 : Shape := ⟨3, ![1, 512, 896]⟩
abbrev S512x896 : Shape := ⟨2, ![512, 896]⟩
abbrev S512x384 : Shape := ⟨2, ![512, 384]⟩
abbrev S512x256 : Shape := ⟨2, ![512, 256]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S256x256 : Shape := ⟨2, ![256, 256]⟩
abbrev S1x128 : Shape := ⟨2, ![1, 128]⟩
abbrev S1x256x256 : Shape := ⟨3, ![1, 256, 256]⟩
abbrev S256x1 : Shape := ⟨2, ![256, 1]⟩
abbrev S1x256x128 : Shape := ⟨3, ![1, 256, 128]⟩
abbrev S256x128 : Shape := ⟨2, ![256, 128]⟩

abbrev nBuf : Space → Nat
  | .hbm => 52
  | .vmem => 18
  | .smem => 0
  | _ => 0

abbrev bufTy : (tb : Table) → Fin (tcTables nBuf tb) → BufTy
  | .hbm, ⟨0, _⟩ => ⟨S16x2048x384, .f32⟩
  | .hbm, ⟨1, _⟩ => ⟨S16x2048x256, .f32⟩
  | .hbm, ⟨2, _⟩ => ⟨S16x2048x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S16x2048x1x16, .f32⟩
  | .hbm, ⟨8, _⟩ => ⟨S16x2048x1x16, .f32⟩
  | .hbm, ⟨9, _⟩ => ⟨S1x16x1x2048x1x32, .f32⟩
  | .hbm, ⟨10, _⟩ => ⟨S1x16x1x2048x4x32, .f32⟩
  | .hbm, ⟨11, _⟩ => ⟨S16x2048x128, .f32⟩
  | .hbm, ⟨12, _⟩ => ⟨S16x2048x16, .f32⟩
  | .hbm, ⟨13, _⟩ => ⟨S16x2048x16, .f32⟩
  | .hbm, ⟨14, _⟩ => ⟨S16x2048x16, .f32⟩
  | .hbm, ⟨15, _⟩ => ⟨S16x2048x32, .f32⟩
  | .hbm, ⟨16, _⟩ => ⟨S1x16x1x2048x1x32, .f32⟩
  | .hbm, ⟨17, _⟩ => ⟨S1x16x1x2048x4x32, .f32⟩
  | .hbm, ⟨18, _⟩ => ⟨S16x2048x128, .f32⟩
  | .hbm, ⟨19, _⟩ => ⟨S16x2048x896, .f32⟩
  | .hbm, ⟨20, _⟩ => ⟨S16x2048x896, .bf16⟩
  | .hbm, ⟨21, _⟩ => ⟨S384x8x96, .f32⟩
  | .hbm, ⟨22, _⟩ => ⟨S384x8x64, .f32⟩
  | .hbm, ⟨23, _⟩ => ⟨S384x512, .f32⟩
  | .hbm, ⟨24, _⟩ => ⟨S384x512, .bf16⟩
  | .hbm, ⟨25, _⟩ => ⟨S384x8x32, .f32⟩
  | .hbm, ⟨26, _⟩ => ⟨S256x8x128, .f32⟩
  | .hbm, ⟨27, _⟩ => ⟨S16x2048x16, .f32⟩
  | .hbm, ⟨28, _⟩ => ⟨S1x16x1x2048x1x16, .f32⟩
  | .hbm, ⟨29, _⟩ => ⟨S1x16x1x2048x8x16, .f32⟩
  | .hbm, ⟨30, _⟩ => ⟨S16x2048x128, .f32⟩
  | .hbm, ⟨31, _⟩ => ⟨S16x2048x16, .f32⟩
  | .hbm, ⟨32, _⟩ => ⟨S1x16x1x2048x1x16, .f32⟩
  | .hbm, ⟨33, _⟩ => ⟨S1x16x1x2048x8x16, .f32⟩
  | .hbm, ⟨34, _⟩ => ⟨S16x2048x128, .f32⟩
  | .hbm, ⟨35, _⟩ => ⟨S1x384, .f32⟩
  | .hbm, ⟨36, _⟩ => ⟨S1x256, .f32⟩
  | .hbm, ⟨37, _⟩ => ⟨S384x256, .f32⟩
  | .hbm, ⟨38, _⟩ => ⟨S384x256, .bf16⟩
  | .hbm, ⟨39, _⟩ => ⟨S384x8x16, .f32⟩
  | .hbm, ⟨40, _⟩ => ⟨S384x8x16, .f32⟩
  | .hbm, ⟨41, _⟩ => ⟨S384x8x16, .f32⟩
  | .hbm, ⟨42, _⟩ => ⟨S384x8x32, .f32⟩
  | .hbm, ⟨43, _⟩ => ⟨S384x256, .f32⟩
  | .hbm, ⟨44, _⟩ => ⟨S384x256, .bf16⟩
  | .hbm, ⟨45, _⟩ => ⟨S256x8x64, .f32⟩
  | .hbm, ⟨46, _⟩ => ⟨S256x512, .f32⟩
  | .hbm, ⟨47, _⟩ => ⟨S256x512, .bf16⟩
  | .hbm, ⟨48, _⟩ => ⟨S256x8x64, .f32⟩
  | .hbm, ⟨49, _⟩ => ⟨S256x512, .f32⟩
  | .hbm, ⟨50, _⟩ => ⟨S256x512, .bf16⟩
  | .hbm, ⟨51, _⟩ => ⟨S16x2048x512, .bf16⟩
  | .local _ .vmem, ⟨0, _⟩ => ⟨S1x2048x896, .bf16⟩
  | .local _ .vmem, ⟨1, _⟩ => ⟨S1x2048x896, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x384, .f32⟩
  | .local _ .vmem, ⟨7, _⟩ => ⟨S1x256, .f32⟩
  | .local _ .vmem, ⟨8, _⟩ => ⟨S384x512, .bf16⟩
  | .local _ .vmem, ⟨9, _⟩ => ⟨S384x256, .bf16⟩
  | .local _ .vmem, ⟨10, _⟩ => ⟨S384x256, .bf16⟩
  | .local _ .vmem, ⟨11, _⟩ => ⟨S256x512, .bf16⟩
  | .local _ .vmem, ⟨12, _⟩ => ⟨S256x512, .bf16⟩
  | .local _ .vmem, ⟨13, _⟩ => ⟨S1x2048x128, .bf16⟩
  | .local _ .vmem, ⟨14, _⟩ => ⟨S1x2048x128, .bf16⟩
  | .local _ .vmem, ⟨15, _⟩ => ⟨S4x2048x256, .bf16⟩
  | .local _ .vmem, ⟨16, _⟩ => ⟨S4x2048x256, .bf16⟩
  | .local _ .vmem, ⟨17, _⟩ => ⟨S4x2048x128, .bf16⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v111 : Index := Scalar.indexCast arg1
  let c0 : Index := 0#32
  let c0_27 : Index := 0#32
  ![v111.toNat, 0, 0]
def k0_off2 (i : grid0.Coords) : Fin 3 → Nat :=
  let arg1 : BitVec 32 := BitVec.ofNat 32 (i 1).val
  let v184 : Index := Scalar.indexCast arg1
  let c0_62 : Index := 0#32
  let c0_63 : Index := 0#32
  ![v184.toNat, 0, 0]
def k0_off3 (i : grid0.Coords) : Fin 3 → Nat :=
  let arg1 : BitVec 32 := BitVec.ofNat 32 (i 1).val
  let v215 : Index := Scalar.indexCast arg1
  let c256 : Index := 256#32
  let c0_75 : Index := 0#32
  ![v215.toNat, 256, 0]
def k0_off4 (i : grid0.Coords) : Fin 3 → Nat :=
  let arg1 : BitVec 32 := BitVec.ofNat 32 (i 1).val
  let v307 : Index := Scalar.indexCast arg1
  let c256_120 : Index := 256#32
  let c0_121 : Index := 0#32
  ![v307.toNat, 256, 0]
def k0_off5 (i : grid0.Coords) : Fin 3 → Nat :=
  let arg1 : BitVec 32 := BitVec.ofNat 32 (i 1).val
  let v349 : Index := Scalar.indexCast arg1
  let c512 : Index := 512#32
  let c0_136 : Index := 0#32
  ![v349.toNat, 512, 0]
def k0_off6 (i : grid0.Coords) : Fin 3 → Nat :=
  let arg1 : BitVec 32 := BitVec.ofNat 32 (i 1).val
  let v461 : Index := Scalar.indexCast arg1
  let c512_190 : Index := 512#32
  let c0_191 : Index := 0#32
  ![v461.toNat, 512, 0]
def k0_off7 (i : grid0.Coords) : Fin 3 → Nat :=
  let arg1 : BitVec 32 := BitVec.ofNat 32 (i 1).val
  let v513 : Index := Scalar.indexCast arg1
  let c768 : Index := 768#32
  let c0_209 : Index := 0#32
  ![v513.toNat, 768, 0]
def k0_off8 (i : grid0.Coords) : Fin 3 → Nat :=
  let arg1 : BitVec 32 := BitVec.ofNat 32 (i 1).val
  let v645 : Index := Scalar.indexCast arg1
  let c768_272 : Index := 768#32
  let c0_273 : Index := 0#32
  ![v645.toNat, 768, 0]
def k0_off9 (i : grid0.Coords) : Fin 3 → Nat :=
  let arg1 : BitVec 32 := BitVec.ofNat 32 (i 1).val
  let v707 : Index := Scalar.indexCast arg1
  let c1024 : Index := 1024#32
  let c0_294 : Index := 0#32
  ![v707.toNat, 1024, 0]
def k0_off10 (i : grid0.Coords) : Fin 3 → Nat :=
  let arg1 : BitVec 32 := BitVec.ofNat 32 (i 1).val
  let v859 : Index := Scalar.indexCast arg1
  let c1024_366 : Index := 1024#32
  let c0_367 : Index := 0#32
  ![v859.toNat, 1024, 0]
def k0_off11 (i : grid0.Coords) : Fin 3 → Nat :=
  let arg1 : BitVec 32 := BitVec.ofNat 32 (i 1).val
  let v931 : Index := Scalar.indexCast arg1
  let c1280 : Index := 1280#32
  let c0_391 : Index := 0#32
  ![v931.toNat, 1280, 0]
def k0_off12 (i : grid0.Coords) : Fin 3 → Nat :=
  let arg1 : BitVec 32 := BitVec.ofNat 32 (i 1).val
  let v1103 : Index := Scalar.indexCast arg1
  let c1280_472 : Index := 1280#32
  let c0_473 : Index := 0#32
  ![v1103.toNat, 1280, 0]
def k0_off13 (i : grid0.Coords) : Fin 3 → Nat :=
  let arg1 : BitVec 32 := BitVec.ofNat 32 (i 1).val
  let v1185 : Index := Scalar.indexCast arg1
  let c1536 : Index := 1536#32
  let c0_500 : Index := 0#32
  ![v1185.toNat, 1536, 0]
def k0_off14 (i : grid0.Coords) : Fin 3 → Nat :=
  let arg1 : BitVec 32 := BitVec.ofNat 32 (i 1).val
  let v1377 : Index := Scalar.indexCast arg1
  let c1536_590 : Index := 1536#32
  let c0_591 : Index := 0#32
  ![v1377.toNat, 1536, 0]
def k0_off15 (i : grid0.Coords) : Fin 3 → Nat :=
  let arg1 : BitVec 32 := BitVec.ofNat 32 (i 1).val
  let v1469 : Index := Scalar.indexCast arg1
  let c1792 : Index := 1792#32
  let c0_621 : Index := 0#32
  ![v1469.toNat, 1792, 0]
def k0_off16 (i : grid0.Coords) : Fin 3 → Nat :=
  let arg1 : BitVec 32 := BitVec.ofNat 32 (i 1).val
  let v1681 : Index := Scalar.indexCast arg1
  let c1792_720 : Index := 1792#32
  let c0_721 : Index := 0#32
  ![v1681.toNat, 1792, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MlaIdeal.lean ====
variable {F : FTy → Type} [FloatOps F] [Named F]
def κ : String → Option EReal := fun
  | "q_scale" => some (((Real.sqrt 96)⁻¹ * (Real.log 2)⁻¹ : ℝ) : EReal)
  | _ => none
-- ==== MlaRefIdeal.lean ====
abbrev S16x2048x384 : Shape := ⟨3, ![16, 2048, 384]⟩
abbrev S16x2048x256 : Shape := ⟨3, ![16, 2048, 256]⟩
abbrev S16x2048x32 : Shape := ⟨3, ![16, 2048, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x2048x1x16 : Shape := ⟨4, ![16, 2048, 1, 16]⟩
abbrev S_ : Shape := ⟨0, ![]⟩
abbrev S16x2048 : Shape := ⟨2, ![16, 2048]⟩
abbrev S16x2048x1 : Shape := ⟨3, ![16, 2048, 1]⟩
abbrev S1x1x384 : Shape := ⟨3, ![1, 1, 384]⟩
abbrev S16x2048x768 : Shape := ⟨3, ![16, 2048, 768]⟩
abbrev S16x2048x8x96 : Shape := ⟨4, ![16, 2048, 8, 96]⟩
abbrev S16x2048x8x64 : Shape := ⟨4, ![16, 2048, 8, 64]⟩
abbrev S16x2048x8x32 : Shape := ⟨4, ![16, 2048, 8, 32]⟩
abbrev S16x2048x8x16 : Shape := ⟨4, ![16, 2048, 8, 16]⟩
abbrev S1x1x256 : Shape := ⟨3, ![1, 1, 256]⟩
abbrev S16x2048x1024 : Shape := ⟨3, ![16, 2048, 1024]⟩
abbrev S16x2048x8x128 : Shape := ⟨4, ![16, 2048, 8, 128]⟩
abbrev S16x2048x1x32 : Shape := ⟨4, ![16, 2048, 1, 32]⟩
abbrev S16x8x2048x2048 : Shape := ⟨4, ![16, 8, 2048, 2048]⟩
abbrev S16x2048x2048x8 : Shape := ⟨4, ![16, 2048, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x512 : Shape := ⟨3, ![16, 2048, 512]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x384, .f32⟩
  | .hbm, ⟨1, _⟩ => ⟨S16x2048x256, .f32⟩
  | .hbm, ⟨2, _⟩ => ⟨S16x2048x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S16x2048x1x16, .f32⟩
  | .hbm, ⟨8, _⟩ => ⟨S16x2048x1x16, .f32⟩
  | .hbm, ⟨9, _⟩ => ⟨S16x2048x384, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x384, .f32⟩
  | .hbm, ⟨21, _⟩ => ⟨S16x2048x384, .f32⟩
  | .hbm, ⟨22, _⟩ => ⟨S1x1x384, .f32⟩
  | .hbm, ⟨23, _⟩ => ⟨S16x2048x384, .f32⟩
  | .hbm, ⟨24, _⟩ => ⟨S16x2048x384, .f32⟩
  | .hbm, ⟨25, _⟩ => ⟨S16x2048x768, .f32⟩
  | .hbm, ⟨26, _⟩ => ⟨S16x2048x8x96, .f32⟩
  | .hbm, ⟨27, _⟩ => ⟨S16x2048x8x64, .f32⟩
  | .hbm, ⟨28, _⟩ => ⟨S16x2048x8x32, .f32⟩
  | .hbm, ⟨29, _⟩ => ⟨S16x2048x8x16, .f32⟩
  | .hbm, ⟨30, _⟩ => ⟨S16x2048x8x16, .f32⟩
  | .hbm, ⟨31, _⟩ => ⟨S16x2048x8x16, .f32⟩
  | .hbm, ⟨32, _⟩ => ⟨S16x2048x8x16, .f32⟩
  | .hbm, ⟨33, _⟩ => ⟨S16x2048x8x16, .f32⟩
  | .hbm, ⟨34, _⟩ => ⟨S16x2048x8x16, .f32⟩
  | .hbm, ⟨35, _⟩ => ⟨S16x2048x8x16, .f32⟩
  | .hbm, ⟨36, _⟩ => ⟨S16x2048x8x16, .f32⟩
  | .hbm, ⟨37, _⟩ => ⟨S16x2048x8x16, .f32⟩
  | .hbm, ⟨38, _⟩ => ⟨S16x2048x8x16, .f32⟩
  | .hbm, ⟨39, _⟩ => ⟨S16x2048x8x16, .f32⟩
  | .hbm, ⟨40, _⟩ => ⟨S16x2048x8x16, .f32⟩
  | .hbm, ⟨41, _⟩ => ⟨S16x2048x8x32, .f32⟩
  | .hbm, ⟨42, _⟩ => ⟨S16x2048x256, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x256, .f32⟩
  | .hbm, ⟨54, _⟩ => ⟨S16x2048x256, .f32⟩
  | .hbm, ⟨55, _⟩ => ⟨S1x1x256, .f32⟩
  | .hbm, ⟨56, _⟩ => ⟨S16x2048x256, .f32⟩
  | .hbm, ⟨57, _⟩ => ⟨S16x2048x256, .f32⟩
  | .hbm, ⟨58, _⟩ => ⟨S16x2048x1024, .f32⟩
  | .hbm, ⟨59, _⟩ => ⟨S16x2048x8x128, .f32⟩
  | .hbm, ⟨60, _⟩ => ⟨S16x2048x8x64, .f32⟩
  | .hbm, ⟨61, _⟩ => ⟨S16x2048x8x64, .f32⟩
  | .hbm, ⟨62, _⟩ => ⟨S16x2048x1x32, .f32⟩
  | .hbm, ⟨63, _⟩ => ⟨S16x2048x1x16, .f32⟩
  | .hbm, ⟨64, _⟩ => ⟨S16x2048x1x16, .f32⟩
  | .hbm, ⟨65, _⟩ => ⟨S16x2048x1x16, .f32⟩
  | .hbm, ⟨66, _⟩ => ⟨S16x2048x1x16, .f32⟩
  | .hbm, ⟨67, _⟩ => ⟨S16x2048x1x16, .f32⟩
  | .hbm, ⟨68, _⟩ => ⟨S16x2048x1x16, .f32⟩
  | .hbm, ⟨69, _⟩ => ⟨S16x2048x1x16, .f32⟩
  | .hbm, ⟨70, _⟩ => ⟨S16x2048x1x16, .f32⟩
  | .hbm, ⟨71, _⟩ => ⟨S16x2048x1x32, .f32⟩
  | .hbm, ⟨72, _⟩ => ⟨S16x2048x32, .f32⟩
  | .hbm, ⟨73, _⟩ => ⟨S16x8x2048x2048, .f32⟩
  | .hbm, ⟨74, _⟩ => ⟨S16x2048x2048x8, .f32⟩
  | .hbm, ⟨75, _⟩ => ⟨S16x8x2048x2048, .f32⟩
  | .hbm, ⟨76, _⟩ => ⟨S16x8x2048x2048, .f32⟩
  | .hbm, ⟨77, _⟩ => ⟨S_, .f32⟩
  | .hbm, ⟨78, _⟩ => ⟨S_, .f32⟩
  | .hbm, ⟨79, _⟩ => ⟨S16x8x2048x2048, .f32⟩
  | .hbm, ⟨80, _⟩ => ⟨S16x8x2048x2048, .f32⟩
  | .hbm, ⟨81, _⟩ => ⟨S2048, .i32⟩
  | .hbm, ⟨82, _⟩ => ⟨S_, .i32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S2048, .i32⟩
  | .hbm, ⟨91, _⟩ => ⟨S2048, .i32⟩
  | .hbm, ⟨92, _⟩ => ⟨S_, .i32⟩
  | .hbm, ⟨93, _⟩ => ⟨S2048, .i32⟩
  | .hbm, ⟨94, _⟩ => ⟨S2048, .i1⟩
  | .hbm, ⟨95, _⟩ => ⟨S2048, .i1⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .i32⟩
  | .hbm, ⟨100, _⟩ => ⟨S2048x1, .i32⟩
  | .hbm, ⟨101, _⟩ => ⟨S1x2048, .i32⟩
  | .hbm, ⟨102, _⟩ => ⟨S2048x2048, .i32⟩
  | .hbm, ⟨103, _⟩ => ⟨S2048x2048, .i32⟩
  | .hbm, ⟨104, _⟩ => ⟨S2048x2048, .i1⟩
  | .hbm, ⟨105, _⟩ => ⟨S_, .f32⟩
  | .hbm, ⟨106, _⟩ => ⟨S_, .f32⟩
  | .hbm, ⟨107, _⟩ => ⟨S16x8x2048x2048, .i1⟩
  | .hbm, ⟨108, _⟩ => ⟨S16x8x2048x2048, .f32⟩
  | .hbm, ⟨109, _⟩ => ⟨S16x8x2048x2048, .f32⟩
  | .hbm, ⟨110, _⟩ => ⟨S_, .f32⟩
  | .hbm, ⟨111, _⟩ => ⟨S16x8x2048, .f32⟩
  | .hbm, ⟨112, _⟩ => ⟨S_, .f32⟩
  | .hbm, ⟨113, _⟩ => ⟨S16x8x2048, .f32⟩
  | .hbm, ⟨114, _⟩ => ⟨S16x8x2048, .f32⟩
  | .hbm, ⟨115, _⟩ => ⟨S16x8x2048x1, .f32⟩
  | .hbm, ⟨116, _⟩ => ⟨S16x8x2048x2048, .f32⟩
  | .hbm, ⟨117, _⟩ => ⟨S16x8x2048x2048, .f32⟩
  | .hbm, ⟨118, _⟩ => ⟨S16x8x2048x2048, .f32⟩
  | .hbm, ⟨119, _⟩ => ⟨S_, .f32⟩
  | .hbm, ⟨120, _⟩ => ⟨S16x8x2048, .f32⟩
  | .hbm, ⟨121, _⟩ => ⟨S16x8x2048x1, .f32⟩
  | .hbm, ⟨122, _⟩ => ⟨S16x8x2048x2048, .f32⟩
  | .hbm, ⟨123, _⟩ => ⟨S16x8x2048x2048, .f32⟩
  | .hbm, ⟨124, _⟩ => ⟨S16x8x64x2048, .f32⟩
  | .hbm, ⟨125, _⟩ => ⟨S16x2048x8x64, .f32⟩
  | .hbm, ⟨126, _⟩ => ⟨S16x2048x512, .f32⟩
  | .hbm, ⟨127, _⟩ => ⟨S16x2048x512, .bf16⟩
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_6 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v72 : Ref sig .tc := ⟨.hbm, 109, rfl⟩
abbrev main_cst_7 : Ref sig .tc := ⟨.hbm, 110, rfl⟩
abbrev main_v73 : Ref sig .tc := ⟨.hbm, 111, rfl⟩
abbrev main_cst_8 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_9 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩

abbrev nD : Nat := 1
abbrev τ : Topo := Topo.v7x

variable {F : FTy → Type} [FloatOps F]
-- ==== FfnA.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 5
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnARefIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x5632, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S2816x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== FfnB.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S2x32768x256 : Shape := ⟨3, ![2, 32768, 256]⟩
abbrev S1024x1024 : Shape := ⟨2, ![1024, 1024]⟩
abbrev S256x1024 : Shape := ⟨2, ![256, 1024]⟩
abbrev S512x1024 : Shape := ⟨2, ![512, 1024]⟩
abbrev S1x512x256 : Shape := ⟨3, ![1, 512, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S2x32768x256, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x512x256, .f32⟩
  | .local _ .vmem, ⟨6, _⟩ => ⟨S1x512x256, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnBRefIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S2x32768x256 : Shape := ⟨3, ![2, 32768, 256]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩
abbrev S1x32768x256 : Shape := ⟨3, ![1, 32768, 256]⟩
abbrev S32768x256 : Shape := ⟨2, ![32768, 256]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S2x32768x256, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1024x5632, .f32⟩
  | .hbm, ⟨25, _⟩ => ⟨S32768x5632, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S2816x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1x32768x256, .f32⟩
  | .hbm, ⟨45, _⟩ => ⟨S32768x256, .f32⟩
  | .hbm, ⟨46, _⟩ => ⟨S256x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S1024x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== FfnC.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S2x32768x256 : Shape := ⟨3, ![2, 32768, 256]⟩
abbrev S1024x1024 : Shape := ⟨2, ![1024, 1024]⟩
abbrev S256x1024 : Shape := ⟨2, ![256, 1024]⟩
abbrev S512x1024 : Shape := ⟨2, ![512, 1024]⟩
abbrev S1x512x256 : Shape := ⟨3, ![1, 512, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S2x32768x256, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x512x256, .f32⟩
  | .local _ .vmem, ⟨6, _⟩ => ⟨S1x512x256, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnCRefIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S2x32768x256 : Shape := ⟨3, ![2, 32768, 256]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩
abbrev S1x32768x256 : Shape := ⟨3, ![1, 32768, 256]⟩
abbrev S32768x256 : Shape := ⟨2, ![32768, 256]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S2x32768x256, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1024x5632, .f32⟩
  | .hbm, ⟨25, _⟩ => ⟨S32768x5632, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S2816x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1x32768x256, .f32⟩
  | .hbm, ⟨45, _⟩ => ⟨S32768x256, .f32⟩
  | .hbm, ⟨46, _⟩ => ⟨S256x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S1024x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x7328 : Shape := ⟨2, ![1024, 7328]⟩
abbrev S1024x384 : Shape := ⟨2, ![1024, 384]⟩
abbrev S1024x256 : Shape := ⟨2, ![1024, 256]⟩
abbrev S1024x32 : Shape := ⟨2, ![1024, 32]⟩
abbrev S1024x1536 : Shape := ⟨2, ![1024, 1536]⟩
abbrev S1024x2048 : Shape := ⟨2, ![1024, 2048]⟩
abbrev S1024x3072 : Shape := ⟨2, ![1024, 3072]⟩
abbrev S1024x512 : Shape := ⟨2, ![1024, 512]⟩
abbrev S_ : Shape := ⟨0, ![]⟩
abbrev S1024x1024 : Shape := ⟨2, ![1024, 1024]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x16 : Shape := ⟨2, ![1024, 16]⟩
abbrev S1024x7552 : Shape := ⟨2, ![1024, 7552]⟩
abbrev S1x1024 : Shape := ⟨2, ![1, 1024]⟩
abbrev S32768x896 : Shape := ⟨2, ![32768, 896]⟩
abbrev S32768x1536 : Shape := ⟨2, ![32768, 1536]⟩
abbrev S32768x512 : Shape := ⟨2, ![32768, 512]⟩
abbrev S32768x3072 : Shape := ⟨2, ![32768, 3072]⟩
abbrev S512x1024 : Shape := ⟨2, ![512, 1024]⟩
abbrev S512x896 : Shape := ⟨2, ![512, 896]⟩
abbrev S512x1536 : Shape := ⟨2, ![512, 1536]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 37
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7328, .f32⟩
  | .hbm, ⟨3, _⟩ => ⟨S1024x384, .f32⟩
  | .hbm, ⟨4, _⟩ => ⟨S1024x256, .f32⟩
  | .hbm, ⟨5, _⟩ => ⟨S1024x32, .f32⟩
  | .hbm, ⟨6, _⟩ => ⟨S1024x1536, .f32⟩
  | .hbm, ⟨7, _⟩ => ⟨S1024x2048, .f32⟩
  | .hbm, ⟨8, _⟩ => ⟨S1024x3072, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1536, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1x1024x1x32, .f32⟩
  | .hbm, ⟨20, _⟩ => ⟨S1x1024x4x32, .f32⟩
  | .hbm, ⟨21, _⟩ => ⟨S1024x128, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1x1024x1x32, .f32⟩
  | .hbm, ⟨27, _⟩ => ⟨S1x1024x4x32, .f32⟩
  | .hbm, ⟨28, _⟩ => ⟨S1024x128, .f32⟩
  | .hbm, ⟨29, _⟩ => ⟨S1024x7552, .f32⟩
  | .hbm, ⟨30, _⟩ => ⟨S1024x7552, .bf16⟩
  | .hbm, ⟨31, _⟩ => ⟨S1x1024, .f32⟩
  | .hbm, ⟨32, _⟩ => ⟨S32768x896, .bf16⟩
  | .hbm, ⟨33, _⟩ => ⟨S32768x1536, .bf16⟩
  | .hbm, ⟨34, _⟩ => ⟨S32768x512, .f32⟩
  | .hbm, ⟨35, _⟩ => ⟨S32768x1536, .bf16⟩
  | .hbm, ⟨36, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7552, .bf16⟩
  | .local _ .vmem, ⟨4, _⟩ => ⟨S512x896, .bf16⟩
  | .local _ .vmem, ⟨5, _⟩ => ⟨S512x896, .bf16⟩
  | .local _ .vmem, ⟨6, _⟩ => ⟨S512x1536, .bf16⟩
  | .local _ .vmem, ⟨7, _⟩ => ⟨S512x1536, .bf16⟩
  | .local _ .vmem, ⟨8, _⟩ => ⟨S512x512, .f32⟩
  | .local _ .vmem, ⟨9, _⟩ => ⟨S512x512, .f32⟩
  | .local _ .vmem, ⟨10, _⟩ => ⟨S512x1536, .bf16⟩
  | .local _ .vmem, ⟨11, _⟩ => ⟨S512x1536, .bf16⟩
  | .local _ .vmem, ⟨12, _⟩ => ⟨S512x3072, .bf16⟩
  | .local _ .vmem, ⟨13, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev main_v28_2 : Ref sig .tc := ⟨.hbm, 34, rfl⟩
abbrev main_v28_3 : Ref sig .tc := ⟨.hbm, 35, rfl⟩
abbrev main_v28_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7552 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S32768x1024 : Shape := ⟨2, ![32768, 1024]⟩
abbrev S1024 : Shape := ⟨1, ![1024]⟩
abbrev S1024x7328 : Shape := ⟨2, ![1024, 7328]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7328 : Shape := ⟨2, ![32768, 7328]⟩
abbrev S32768x384 : Shape := ⟨2, ![32768, 384]⟩
abbrev S32768x256 : Shape := ⟨2, ![32768, 256]⟩
abbrev S32768x32 : Shape := ⟨2, ![32768, 32]⟩
abbrev S32768x512 : Shape := ⟨2, ![32768, 512]⟩
abbrev S32768x3072 : Shape := ⟨2, ![32768, 3072]⟩
abbrev S32768x16 : Shape := ⟨2, ![32768, 16]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x896 : Shape := ⟨2, ![32768, 896]⟩
abbrev S32768x1536 : Shape := ⟨2, ![32768, 1536]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7328, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7328, .f32⟩
  | .hbm, ⟨20, _⟩ => ⟨S32768x384, .f32⟩
  | .hbm, ⟨21, _⟩ => ⟨S32768x256, .f32⟩
  | .hbm, ⟨22, _⟩ => ⟨S32768x32, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x3072, .f32⟩
  | .hbm, ⟨31, _⟩ => ⟨S32768x16, .f32⟩
  | .hbm, ⟨32, _⟩ => ⟨S32768x16, .f32⟩
  | .hbm, ⟨33, _⟩ => ⟨S32768x16, .f32⟩
  | .hbm, ⟨34, _⟩ => ⟨S32768x32, .f32⟩
  | .hbm, ⟨35, _⟩ => ⟨S1x32768x1x32, .f32⟩
  | .hbm, ⟨36, _⟩ => ⟨S1x32768x4x32, .f32⟩
  | .hbm, ⟨37, _⟩ => ⟨S32768x128, .f32⟩
  | .hbm, ⟨38, _⟩ => ⟨S1x32768x1x32, .f32⟩
  | .hbm, ⟨39, _⟩ => ⟨S1x32768x4x32, .f32⟩
  | .hbm, ⟨40, _⟩ => ⟨S32768x128, .f32⟩
  | .hbm, ⟨41, _⟩ => ⟨S32768x896, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x1536, .f32⟩
  | .hbm, ⟨46, _⟩ => ⟨S32768x1536, .f32⟩
  | .hbm, ⟨47, _⟩ => ⟨S32768x896, .bf16⟩
  | .hbm, ⟨48, _⟩ => ⟨S32768x1536, .bf16⟩
  | .hbm, ⟨49, _⟩ => ⟨S32768x1536, .bf16⟩
  | .hbm, ⟨50, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x3072 : Shape := ⟨2, ![32768, 3072]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩

abbrev nBuf : Space → Nat
  | .hbm => 10
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32768x1024 : Shape := ⟨2, ![32768, 1024]⟩
abbrev S32768x512 : Shape := ⟨2, ![32768, 512]⟩
abbrev S32768x3072 : Shape := ⟨2, ![32768, 3072]⟩
abbrev S512x1024 : Shape := ⟨2, ![512, 1024]⟩
abbrev S1024x1024 : Shape := ⟨2, ![1024, 1024]⟩
abbrev S_ : Shape := ⟨0, ![]⟩
abbrev S32768x3x1024 : Shape := ⟨3, ![32768, 3, 1024]⟩
abbrev S32768x1x1024 : Shape := ⟨3, ![32768, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S32768x3072, .f32⟩
  | .hbm, ⟨17, _⟩ => ⟨S32768x3072, .f32⟩
  | .hbm, ⟨18, _⟩ => ⟨S32768x3072, .f32⟩
  | .hbm, ⟨19, _⟩ => ⟨S_, .f32⟩
  | .hbm, ⟨20, _⟩ => ⟨S32768x3072, .f32⟩
  | .hbm, ⟨21, _⟩ => ⟨S32768x3072, .f32⟩
  | .hbm, ⟨22, _⟩ => ⟨S_, .f32⟩
  | .hbm, ⟨23, _⟩ => ⟨S32768x3072, .f32⟩
  | .hbm, ⟨24, _⟩ => ⟨S32768x3072, .f32⟩
  | .hbm, ⟨25, _⟩ => ⟨S32768x3x1024, .f32⟩
  | .hbm, ⟨26, _⟩ => ⟨S32768x1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Rope.lean ====
abbrev S16x2048 : Shape := ⟨2, ![16, 2048]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S16x2048x1 : Shape := ⟨3, ![16, 2048, 1]⟩
abbrev S16x2048x128 : Shape := ⟨3, ![16, 2048, 128]⟩
abbrev S1x2048x1 : Shape := ⟨3, ![1, 2048, 1]⟩
abbrev S1x2048x128 : Shape := ⟨3, ![1, 2048, 128]⟩
abbrev S2048x1 : Shape := ⟨2, ![2048, 1]⟩
abbrev S2048x128 : Shape := ⟨2, ![2048, 128]⟩

abbrev nBuf : Space → Nat
  | .hbm => 16
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S1x16, .f32⟩
  | .hbm, ⟨10, _⟩ => ⟨S8x16, .f32⟩
  | .hbm, ⟨11, _⟩ => ⟨S128, .f32⟩
  | .hbm, ⟨12, _⟩ => ⟨S1x128, .f32⟩
  | .hbm, ⟨13, _⟩ => ⟨S16x2048x1, .i32⟩
  | .hbm, ⟨14, _⟩ => ⟨S16x2048x128, .f32⟩
  | .hbm, ⟨15, _⟩ => ⟨S16x2048x128, .f32⟩
  | .local _ .vmem, ⟨0, _⟩ => ⟨S1x2048x1, .i32⟩
  | .local _ .vmem, ⟨1, _⟩ => ⟨S1x2048x1, .i32⟩
  | .local _ .vmem, ⟨2, _⟩ => ⟨S1x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S16x2048 : Shape := ⟨2, ![16, 2048]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S1x16x1x2048x1x16 : Shape := ⟨6, ![1, 16, 1, 2048, 1, 16]⟩
abbrev S1x16x1x2048x8x16 : Shape := ⟨6, ![1, 16, 1, 2048, 8, 16]⟩
abbrev S16x2048x128 : Shape := ⟨3, ![16, 2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16x2048, .f32⟩
  | .hbm, ⟨10, _⟩ => ⟨S16x2048x1, .f32⟩
  | .hbm, ⟨11, _⟩ => ⟨S1x1x16, .f32⟩
  | .hbm, ⟨12, _⟩ => ⟨S16x2048x16, .f32⟩
  | .hbm, ⟨13, _⟩ => ⟨S16x2048x16, .f32⟩
  | .hbm, ⟨14, _⟩ => ⟨S16x2048x16, .f32⟩
  | .hbm, ⟨15, _⟩ => ⟨S16x2048x16, .f32⟩
  | .hbm, ⟨16, _⟩ => ⟨S1x16x1x2048x1x16, .f32⟩
  | .hbm, ⟨17, _⟩ => ⟨S1x16x1x2048x8x16, .f32⟩
  | .hbm, ⟨18, _⟩ => ⟨S16x2048x128, .f32⟩
  | .hbm, ⟨19, _⟩ => ⟨S16x2048x16, .f32⟩
  | .hbm, ⟨20, _⟩ => ⟨S1x16x1x2048x1x16, .f32⟩
  | .hbm, ⟨21, _⟩ => ⟨S1x16x1x2048x8x16, .f32⟩
  | .hbm, ⟨22, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Cast.lean ====
abbrev S2x1024x5632 : Shape := ⟨3, ![2, 1024, 5632]⟩
abbrev S1024x5632 : Shape := ⟨2, ![1024, 5632]⟩
abbrev S1x256x5632 : Shape := ⟨3, ![1, 256, 5632]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x5632, .f32⟩
  | .hbm, ⟨1, _⟩ => ⟨S1024x5632, .bf16⟩
  | .local _ .vmem, ⟨0, _⟩ => ⟨S1x256x5632, .f32⟩
  | .local _ .vmem, ⟨1, _⟩ => ⟨S1x256x5632, .f32⟩
  | .local _ .vmem, ⟨2, _⟩ => ⟨S256x5632, .bf16⟩
  | .local _ .vmem, ⟨3, _⟩ => ⟨S256x5632, .bf16⟩
  | _, _ => ⟨S2x1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S2x1024x5632 : Shape := ⟨3, ![2, 1024, 5632]⟩
abbrev S1x1024x5632 : Shape := ⟨3, ![1, 1024, 5632]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x5632, .f32⟩
  | .hbm, ⟨1, _⟩ => ⟨S1x1024x5632, .f32⟩
  | .hbm, ⟨2, _⟩ => ⟨S1024x5632, .f32⟩
  | .hbm, ⟨3, _⟩ => ⟨S1024x5632, .bf16⟩
  | _, _ => ⟨S2x1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pointwise
public import Idealize.ShloMosaic.Lib.Ring

/-! The feed-forward block of one row, as plain functions of the row and the weights, and one fact on reading a
    scratch buffer that several stores filled with tiles of one function. -/

@[expose] public section

noncomputable section

open Idealize.ShloMosaic Idealize.ShloMosaic.TcCoe Idealize.SL.Sem

namespace Cert.Rows

/-- A row over its root mean square, times the weight. -/
def rms {n : Nat} (size : EReal) (h w : Fin n → EReal) (k : Fin n) : EReal :=
  h k * Ideal.rsqrt (Ideal.div (∑ x, h x * h x) size + Ideal.ofBits .f32 0x358637BD#32) * w k

/-- One entry of a row times a matrix. -/
def dot {n : Nat} (x w : Fin n → EReal) : EReal := ∑ k, x k * w k

/-- One hidden entry: `silu` of the gate's product times the up product. -/
def hid {n : Nat} (x g u : Fin n → EReal) : EReal := dot x g * Ideal.logistic (dot x g) * dot x u

end Cert.Rows

namespace Cert.Scratch

variable {sig : RefSig} {κ : Kind} {sp : Space} {s : Shape} {e : EltTy} {Val : EltTy → Type}

/-- A whole buffer read after stores that tile it, each holding its tile of one function `G`, is `G`. -/
theorem readCov_of_tiles [∀ e, Nonempty (Val e)] (v : View sig κ sp s e) (G : s.Idx → Val e)
    (L : List (View.Piece Val s e)) (size : Fin s.rank → ℕ) (hL : View.Piece.tiledL L size = true)
    (h : ∀ p ∈ L, ∀ x : p.1.shape.Idx, p.2 x = G (p.1.emb x)) (off : Fin s.rank → ℕ)
    (inb : ∀ a, off a + s.size a ≤ s.size a) (hz : ∀ a, off a = 0) :
    v.readCov L (Rect.unit off s.size inb).toLoadRect = G := by
  rw [View.readCov_eq_canon']
  funext j
  rw [View.canon_apply_of_pieces G L h _ (View.cover_of_tiledL L size hL _)]
  congr 1
  funext a
  apply Fin.ext
  show off a + 1 * (j a).val = _
  rw [hz a]; omega

/-- Entry `(r, l)` of a box at `(a, b)` of a matrix is entry `(a + r, b + l)` of the matrix. -/
theorem unit_emb_ix2 {n m p q : Nat} (a b : Nat)
    (inb : ∀ x, (![a, b] : Fin 2 → Nat) x + (![p, q] : Fin 2 → Nat) x ≤ (⟨2, ![n, m]⟩ : Shape).size x) (r : Fin p) (l : Fin q) :
    (Rect.unit (s := ⟨2, ![n, m]⟩) ![a, b] ![p, q] inb).emb (ix2 r l)
      = ix2 (n0 := n) (n1 := m) ⟨a + r.val, lt_of_lt_of_le (Nat.add_lt_add_left r.isLt a) (inb 0)⟩
          ⟨b + l.val, lt_of_lt_of_le (Nat.add_lt_add_left l.isLt b) (inb 1)⟩ := by
  funext x
  match x with
  | ⟨0, _⟩ => exact Fin.ext (show a + 1 * r.val = a + r.val by omega)
  | ⟨1, _⟩ => exact Fin.ext (show b + 1 * l.val = b + l.val by omega)

end Cert.Scratch
end
-- ==== Proof.MlaScratch.lean ====
module

public import proofs.«01_k».proof.Proof.Gen.MlaIdeal.Value
public import proofs.«01_k».proof.Proof.Rows

@[expose] public section

set_option maxRecDepth 16384

noncomputable section

/-!
What the first step of a batch leaves in the three scratch arrays: the scaled queries with their
rotated lanes, the keys with their rotated lanes, and the values, each as a function of the row, the
pair of heads and the lane. The stores write them in tiles of 512 rows; the lists below are those
stores, last first.
-/

open Idealize.ShloMosaic Idealize.ShloMosaic.TcCoe Idealize.SL.Sem

namespace Cert.MlaIdeal.Scratch

open Cert.MlaIdeal Cert.MlaIdeal.Gen

section Lists

variable {F : FTy → Type} [FloatOps F] [Named F]

theorem inbX (r : Fin 4) : ∀ a, (![0, 512 * r.val, 0] : Fin 3 → ℕ) a + S1x512x896.size a ≤ S1x2048x896.size a := by
  revert r; decide
theorem inbC (r : Fin 4) : ∀ a, (![0, 512 * r.val, 0] : Fin 3 → ℕ) a + S1x512x128.size a ≤ S1x2048x128.size a := by
  revert r; decide
theorem inbN (r p : Fin 4) : ∀ a, (![p.val, 512 * r.val, 0] : Fin 3 → ℕ) a + S1x512x128.size a ≤ S4x2048x256.size a := by
  revert r p; decide
theorem inbR (r p : Fin 4) : ∀ a, (![p.val, 512 * r.val, 128] : Fin 3 → ℕ) a + S1x512x128.size a ≤ S4x2048x256.size a := by
  revert r p; decide
theorem inbV (r p : Fin 4) : ∀ a, (![p.val, 512 * r.val, 0] : Fin 3 → ℕ) a + S1x512x128.size a ≤ S4x2048x128.size a := by
  revert r p; decide
theorem inbQ (g : Fin 2) : ∀ a, (![0, 256 * g.val] : Fin 2 → ℕ) a + S384x256.size a ≤ S384x512.size a := by
  revert g; decide
theorem inbK (g : Fin 2) : ∀ a, (![0, 256 * g.val] : Fin 2 → ℕ) a + S256x256.size a ≤ S256x512.size a := by
  revert g; decide
theorem inb0 : ∀ a, (![0, 0] : Fin 2 → ℕ) a + S384x256.size a ≤ S384x256.size a := by decide
theorem inbqn : ∀ a, (![0, 0] : Fin 2 → ℕ) a + S1x384.size a ≤ S1x384.size a := by decide
theorem inbkn : ∀ a, (![0, 0] : Fin 2 → ℕ) a + S1x256.size a ≤ S1x256.size a := by decide

variable (x0 : Vec F S1x2048x896 .bf16) (x1 x2 : Vec F S1x2048x128 .f32) (x3 : Vec F S1x384 .f32)
  (x4 : Vec F S1x256 .f32) (x5 : Vec F S384x512 .bf16) (x6 x7 : Vec F S384x256 .bf16)
  (x8 x9 : Vec F S256x512 .bf16)

/-- Rows `512 r …` of the packed input. -/
def rowsX (r : Fin 4) : Vec F S1x512x896 .bf16 :=
  View.ld x0 (Rect.unit (s := S1x2048x896) ![0, 512 * r.val, 0] S1x512x896.size (inbX r))
/-- Rows `512 r …` of a rotation table. -/
def rowsC (r : Fin 4) : Vec F S1x512x128 .f32 :=
  View.ld x1 (Rect.unit (s := S1x2048x128) ![0, 512 * r.val, 0] S1x512x128.size (inbC r))
/-- Columns of one half of the query weights. -/
def colsQ (g : Fin 2) : Vec F S384x256 .bf16 :=
  View.ld x5 (Rect.unit (s := S384x512) ![0, 256 * g.val] S384x256.size (inbQ g))
/-- Columns of one half of the key or value weights. -/
def colsK (g : Fin 2) : Vec F S256x256 .bf16 :=
  View.ld x8 (Rect.unit (s := S256x512) ![0, 256 * g.val] S256x256.size (inbK g))
/-- The rotation weights, whole. -/
def allR : Vec F S384x256 .bf16 :=
  View.ld x6 (Rect.unit (s := S384x256) ![0, 0] S384x256.size inb0)
/-- The normed query rows. -/
def cqn (r : Fin 4) : FVec F S512x384 .bf16 :=
  k0_pay7 (rowsX x0 r) (View.ld x3 (Rect.unit (s := S1x384) ![0, 0] S1x384.size inbqn))
/-- The normed key rows. -/
def ckvn (r : Fin 4) : FVec F S512x256 .bf16 :=
  k0_pay10 (k0_pay8 (View.ld x4 (Rect.unit (s := S1x256) ![0, 0] S1x256.size inbkn))) (k0_pay9 (rowsX x0 r))

/-- The stores to the query scratch from rows `512 r …`, last first. -/
def qrow (r : Fin 4) : List (View.Piece (Elt F) S4x2048x256 .bf16) :=
  [⟨Rect.unit (s := S4x2048x256) ![(3 : Fin 4).val, 512 * r.val, 0] S1x512x128.size (inbN r 3), k0_pay31 (k0_pay21 (cqn x0 x3 r) (colsQ x5 1))⟩,
   ⟨Rect.unit (s := S4x2048x256) ![(2 : Fin 4).val, 512 * r.val, 0] S1x512x128.size (inbN r 2), k0_pay26 (cqn x0 x3 r) (colsQ x5 1)⟩,
   ⟨Rect.unit (s := S4x2048x256) ![(1 : Fin 4).val, 512 * r.val, 0] S1x512x128.size (inbN r 1), k0_pay31 (k0_pay21 (cqn x0 x3 r) (colsQ x5 0))⟩,
   ⟨Rect.unit (s := S4x2048x256) ![(0 : Fin 4).val, 512 * r.val, 0] S1x512x128.size (inbN r 0), k0_pay26 (cqn x0 x3 r) (colsQ x5 0)⟩,
   ⟨Rect.unit (s := S4x2048x256) ![(3 : Fin 4).val, 512 * r.val, 128] S1x512x128.size (inbR r 3), k0_pay18 (k0_pay5 (rowsC x1 r)) (k0_pay6 (rowsC x2 r)) (cqn x0 x3 r) (allR x6) (allR x7)⟩,
   ⟨Rect.unit (s := S4x2048x256) ![(2 : Fin 4).val, 512 * r.val, 128] S1x512x128.size (inbR r 2), k0_pay18 (k0_pay5 (rowsC x1 r)) (k0_pay6 (rowsC x2 r)) (cqn x0 x3 r) (allR x6) (allR x7)⟩,
   ⟨Rect.unit (s := S4x2048x256) ![(1 : Fin 4).val, 512 * r.val, 128] S1x512x128.size (inbR r 1), k0_pay15 (k0_pay5 (rowsC x1 r)) (k0_pay6 (rowsC x2 r)) (cqn x0 x3 r) (allR x6) (allR x7)⟩,
   ⟨Rect.unit (s := S4x2048x256) ![(0 : Fin 4).val, 512 * r.val, 128] S1x512x128.size (inbR r 0), k0_pay15 (k0_pay5 (rowsC x1 r)) (k0_pay6 (rowsC x2 r)) (cqn x0 x3 r) (allR x6) (allR x7)⟩]

/-- The rotated lanes of the keys of rows `512 r …`. -/
def krope (r : Fin 4) : FVec F S1x512x128 .bf16 :=
  k0_pay28 (k0_pay11 (k0_pay3 (rowsX x0 r)) (k0_pay4 (rowsX x0 r)) (k0_pay5 (rowsC x1 r)) (k0_pay6 (rowsC x2 r)))

/-- The stores to the key scratch from rows `512 r …`, last first. -/
def krow (r : Fin 4) : List (View.Piece (Elt F) S4x2048x256 .bf16) :=
  [⟨Rect.unit (s := S4x2048x256) ![(3 : Fin 4).val, 512 * r.val, 128] S1x512x128.size (inbR r 3), krope x0 x1 x2 r⟩,
   ⟨Rect.unit (s := S4x2048x256) ![(3 : Fin 4).val, 512 * r.val, 0] S1x512x128.size (inbN r 3), k0_pay32 (k0_pay23 (ckvn x0 x4 r) (colsK x8 1))⟩,
   ⟨Rect.unit (s := S4x2048x256) ![(2 : Fin 4).val, 512 * r.val, 128] S1x512x128.size (inbR r 2), krope x0 x1 x2 r⟩,
   ⟨Rect.unit (s := S4x2048x256) ![(2 : Fin 4).val, 512 * r.val, 0] S1x512x128.size (inbN r 2), k0_pay27 (ckvn x0 x4 r) (colsK x8 1)⟩,
   ⟨Rect.unit (s := S4x2048x256) ![(1 : Fin 4).val, 512 * r.val, 128] S1x512x128.size (inbR r 1), krope x0 x1 x2 r⟩,
   ⟨Rect.unit (s := S4x2048x256) ![(1 : Fin 4).val, 512 * r.val, 0] S1x512x128.size (inbN r 1), k0_pay32 (k0_pay23 (ckvn x0 x4 r) (colsK x8 0))⟩,
   ⟨Rect.unit (s := S4x2048x256) ![(0 : Fin 4).val, 512 * r.val, 128] S1x512x128.size (inbR r 0), krope x0 x1 x2 r⟩,
   ⟨Rect.unit (s := S4x2048x256) ![(0 : Fin 4).val, 512 * r.val, 0] S1x512x128.size (inbN r 0), k0_pay27 (ckvn x0 x4 r) (colsK x8 0)⟩]

/-- The stores to the value scratch from rows `512 r …`, last first. -/
def vrow (r : Fin 4) : List (View.Piece (Elt F) S4x2048x128 .bf16) :=
  [⟨Rect.unit (s := S4x2048x128) ![(3 : Fin 4).val, 512 * r.val, 0] S1x512x128.size (inbV r 3), k0_pay34 (k0_pay25 (ckvn x0 x4 r) (colsK x9 1))⟩,
   ⟨Rect.unit (s := S4x2048x128) ![(2 : Fin 4).val, 512 * r.val, 0] S1x512x128.size (inbV r 2), k0_pay30 (k0_pay29 (ckvn x0 x4 r) (colsK x9 1))⟩,
   ⟨Rect.unit (s := S4x2048x128) ![(1 : Fin 4).val, 512 * r.val, 0] S1x512x128.size (inbV r 1), k0_pay34 (k0_pay25 (ckvn x0 x4 r) (colsK x9 0))⟩,
   ⟨Rect.unit (s := S4x2048x128) ![(0 : Fin 4).val, 512 * r.val, 0] S1x512x128.size (inbV r 0), k0_pay30 (k0_pay29 (ckvn x0 x4 r) (colsK x9 0))⟩]

/-- A batch's stores to the query scratch. -/
def qlist : List (View.Piece (Elt F) S4x2048x256 .bf16) :=
  qrow x0 x1 x2 x3 x5 x6 x7 3 ++ (qrow x0 x1 x2 x3 x5 x6 x7 2 ++ (qrow x0 x1 x2 x3 x5 x6 x7 1 ++ qrow x0 x1 x2 x3 x5 x6 x7 0))
/-- A batch's stores to the key scratch. -/
def klist : List (View.Piece (Elt F) S4x2048x256 .bf16) :=
  krow x0 x1 x2 x4 x8 3 ++ (krow x0 x1 x2 x4 x8 2 ++ (krow x0 x1 x2 x4 x8 1 ++ krow x0 x1 x2 x4 x8 0))
/-- A batch's stores to the value scratch. -/
def vlist : List (View.Piece (Elt F) S4x2048x128 .bf16) :=
  vrow x0 x4 x9 3 ++ (vrow x0 x4 x9 2 ++ (vrow x0 x4 x9 1 ++ vrow x0 x4 x9 0))

end Lists

end Cert.MlaIdeal.Scratch
end
-- ==== Proof.MlaBlock.lean ====
module

public import proofs.«01_k».proof.Proof.Gen.MlaIdeal.Value
public import Idealize.ShloMosaic.Lib.Pipeline.ValueKit
public import Idealize.ShloMosaic.Lib.Pointwise

@[expose] public section

set_option maxRecDepth 16384

noncomputable section

/-!
One query block of the attention kernel as a function of its tiles: the scores of both heads of the
pair against the key tiles up to the diagonal, the row maximum, the weights, their sum, the weighted
values, and the two heads laid side by side. Each of the eight stores of a grid step stores this
function of the tiles it loads.
-/

open Idealize.ShloMosaic Idealize.ShloMosaic.TcCoe Idealize.SL.Sem

namespace Cert.MlaIdeal.Block

open Cert.MlaIdeal Cert.MlaIdeal.Gen

variable {F : FTy → Type} [FloatOps F] [Named F]

/-- The left fold of `op` over `f 0, …, f n`. -/
def fold {α : Type} (op : α → α → α) (f : ℕ → α) : ℕ → α
  | 0 => f 0
  | n + 1 => op (fold op f n) (f (n + 1))

/-- The head group of a lane of the concatenated query. -/
def group : IVec S1x256 32 :=
  have lane : IVec S1x256 32 := iota .tc S1x256 32 [1] iota_S1x256_d1_w32
  k0_pay217 (k0_pay212 lane) (k0_pay213 lane) (k0_pay214 lane) 32#32 (k0_pay215 lane)
    (k0_pay216 lane) 0#32

/-- The keys of the diagonal tile a query may see. -/
def diag : IVec S256x256 1 :=
  k0_pay211 (iota .tc S256x256 32 [0] iota_S256x256_d0_w32) k0_pay208 64#32 k0_pay209 k0_pay210
    (Scalar.extui (Scalar.cmpi .sgt 64#32 0#32)) (Scalar.cmpi .slt 64#32 0#32)

/-- The pair's number modulo two, in the kernel's own arithmetic. -/
def parity (p : BitVec 32) : BitVec 32 :=
  let two : BitVec 32 := Scalar.select (Scalar.cmpi .eq 2#32 0#32) 1#32 2#32
  let r : BitVec 32 := Scalar.remsi p two
  Scalar.select (Scalar.andi (Scalar.xori (Scalar.cmpi .slt r 0#32) (Scalar.cmpi .slt two 0#32))
    (Scalar.cmpi .ne r 0#32)) (Scalar.addi r two) r

/-- The lanes of the query that belong to head `hh` of pair `p`. -/
def own (p hh : BitVec 32) : IVec S1x256 1 :=
  ori (cmpi .eq group (broadcast S1x256 hh))
    (cmpi .eq group (broadcast S1x256
      (Scalar.addi (Scalar.addi 2#32 (Scalar.muli (parity p) 2#32)) hh)))

/-- The query tile with the other heads' lanes put to zero. -/
def query (p hh : BitVec 32) (q : Vec F S1x256x256 .bf16) : FVec F S256x256 .bf16 :=
  mulf (shapeCast S256x256 q shapeCasts_S1x256x256_S256x256)
    (broadcastTo S256x256 (truncf .bf16 (select (own p hh)
      (broadcast S1x256 (Scalar.ofBits .f32 0x3F800000#32 : F .f32))
      (broadcast S1x256 (Scalar.ofBits .f32 0x00000000#32 : F .f32))) bitsLt_bf16_f32)
      broadcasts_S1x256_S256x256)

/-- Scores of the masked query against one key tile. -/
def dotk (p hh : BitVec 32) (q k : Vec F S1x256x256 .bf16) : FVec F S256x256 .f32 :=
  matmul dot_S256x256_S256x256_S256x256_1_1_0_0_n_n none (query p hh q)
    (shapeCast S256x256 k shapeCasts_S1x256x256_S256x256) (constant S256x256 .f32 0x00000000#32)

/-- Scores of key tile `j` for query block `n`: the diagonal tile is masked. -/
def score (p hh : BitVec 32) (n : ℕ) (q : Vec F S1x256x256 .bf16) (k : ℕ → Vec F S1x256x256 .bf16)
    (j : ℕ) : FVec F S256x256 .f32 :=
  if j = n then
    select diag (dotk p hh q (k j))
      (broadcast S256x256 (Scalar.ofBits .f32 0xFF800000#32 : F .f32))
  else dotk p hh q (k j)

/-- The maximum of a query's scores. -/
def top (s : ℕ → FVec F S256x256 .f32) (n : ℕ) : FVec F S256x1 .f32 :=
  shapeCast S256x1 (multiReduction .maximumf [1] S256 (fold maximumf s n) 0xFF800000#32
    reduces_S256x256_S256 (.inl rfl) rfl) shapeCasts_S256_S256x1

/-- The weights of one key tile before they are divided by their sum. -/
def wt (s : ℕ → FVec F S256x256 .f32) (m : FVec F S256x1 .f32) (j : ℕ) : FVec F S256x256 .f32 :=
  exp2 (subf (s j) (broadcastTo S256x256 m broadcasts_S256x1_S256x256))

/-- The weights' sum. -/
def wsum (w : ℕ → FVec F S256x256 .f32) (n : ℕ) : FVec F S256x1 .f32 :=
  shapeCast S256x1 (multiReduction .add [1] S256 (fold addf w n) 0x00000000#32
    reduces_S256x256_S256 (.inl rfl) rfl) shapeCasts_S256_S256x1

/-- The weighted values of one key tile. -/
def part (w : FVec F S256x256 .f32) (v : Vec F S1x256x128 .bf16) : FVec F S256x128 .f32 :=
  matmul dot_S256x256_S256x128_S256x128_1_0_0_1_n_n none (truncf .bf16 w bitsLt_bf16_f32)
    (shapeCast S256x128 v shapeCasts_S1x256x128_S256x128) (constant S256x128 .f32 0x00000000#32)

/-- One head of a query block from its scores. -/
def head (s : ℕ → FVec F S256x256 .f32) (v : ℕ → Vec F S1x256x128 .bf16) (n : ℕ) :
    FVec F S256x128 .f32 :=
  mulf (fold addf (fun j => part (wt s (top s n) j) (v j)) n)
    (broadcastTo S256x128 (divf (broadcast S256x1 (Scalar.ofBits .f32 0x3F800000#32 : F .f32))
      (wsum (wt s (top s n)) n)) broadcasts_S256x1_S256x128)

/-- Both heads of a query block. -/
def block (p : BitVec 32) (n : ℕ) (q : Vec F S1x256x256 .bf16) (k : ℕ → Vec F S1x256x256 .bf16)
    (v : ℕ → Vec F S1x256x128 .bf16) : FVec F S1x256x128 .bf16 :=
  shapeCast S1x256x128 (truncf .bf16
    (select (broadcastTo S256x128 (shapeCast S1x128
        (cmpi .slt (iota .tc S1x128 32 [1] iota_S1x128_d1_w32) (broadcast S1x128 64#32))
        shapeCasts_S1x128_S1x128) broadcasts_S1x128_S256x128)
      (head (score p 0#32 n q k) v n) (head (score p 1#32 n q k) v n)) bitsLt_bf16_f32)
    shapeCasts_S256x128_S1x256x128

/-- The eight row tiles of pair `i 1` of a scratch array of queries or keys. -/
def tiles (i : grid0.Coords) (x : Vec F S4x2048x256 .bf16) : ℕ → Vec F S1x256x256 .bf16
  | 0 => View.ld x (Rect.unit (s := S4x2048x256) (k0_off1 i) S1x256x256.size (k0_off1_inb i))
  | 1 => View.ld x (Rect.unit (s := S4x2048x256) (k0_off3 i) S1x256x256.size (k0_off3_inb i))
  | 2 => View.ld x (Rect.unit (s := S4x2048x256) (k0_off5 i) S1x256x256.size (k0_off5_inb i))
  | 3 => View.ld x (Rect.unit (s := S4x2048x256) (k0_off7 i) S1x256x256.size (k0_off7_inb i))
  | 4 => View.ld x (Rect.unit (s := S4x2048x256) (k0_off9 i) S1x256x256.size (k0_off9_inb i))
  | 5 => View.ld x (Rect.unit (s := S4x2048x256) (k0_off11 i) S1x256x256.size (k0_off11_inb i))
  | 6 => View.ld x (Rect.unit (s := S4x2048x256) (k0_off13 i) S1x256x256.size (k0_off13_inb i))
  | _ => View.ld x (Rect.unit (s := S4x2048x256) (k0_off15 i) S1x256x256.size (k0_off15_inb i))

/-- The eight row tiles of pair `i 1` of the scratch array of values. -/
def vtiles (i : grid0.Coords) (x : Vec F S4x2048x128 .bf16) : ℕ → Vec F S1x256x128 .bf16
  | 0 => View.ld x (Rect.unit (s := S4x2048x128) (k0_off2 i) S1x256x128.size (k0_off2_inb i))
  | 1 => View.ld x (Rect.unit (s := S4x2048x128) (k0_off4 i) S1x256x128.size (k0_off4_inb i))
  | 2 => View.ld x (Rect.unit (s := S4x2048x128) (k0_off6 i) S1x256x128.size (k0_off6_inb i))
  | 3 => View.ld x (Rect.unit (s := S4x2048x128) (k0_off8 i) S1x256x128.size (k0_off8_inb i))
  | 4 => View.ld x (Rect.unit (s := S4x2048x128) (k0_off10 i) S1x256x128.size (k0_off10_inb i))
  | 5 => View.ld x (Rect.unit (s := S4x2048x128) (k0_off12 i) S1x256x128.size (k0_off12_inb i))
  | 6 => View.ld x (Rect.unit (s := S4x2048x128) (k0_off14 i) S1x256x128.size (k0_off14_inb i))
  | _ => View.ld x (Rect.unit (s := S4x2048x128) (k0_off16 i) S1x256x128.size (k0_off16_inb i))

/-- Query block `n` of step `i` from the three scratch arrays. -/
def att (i : grid0.Coords) (xq xk : Vec F S4x2048x256 .bf16) (xv : Vec F S4x2048x128 .bf16) (n : ℕ) :
    FVec F S1x256x128 .bf16 :=
  block (BitVec.ofNat 32 (i 1).val) n (tiles i xq n) (tiles i xk) (vtiles i xv)

end Cert.MlaIdeal.Block
end
-- ==== Proof.MlaSteps.lean ====
module

public import proofs.«01_k».proof.Proof.MlaScratch
public import proofs.«01_k».proof.Proof.MlaBlock

@[expose] public section

set_option maxRecDepth 16384

noncomputable section

open Idealize.ShloMosaic Idealize.ShloMosaic.TcCoe Idealize.SL.Sem

/-! The stores of one grid step, as lists of tiles: the three scratch lists of a first step, and the
    eight query blocks of either kind of step. -/

namespace Cert.MlaIdeal.Scratch

open Cert.MlaIdeal Cert.MlaIdeal.Gen
variable {F : FTy → Type} [FloatOps F] [Named F]

variable (c : Dev nD) (i : grid0.Coords)
  (a2 : Memref sig .tc .vmem S1x2048x896 .bf16) (h2 : a2.IsWhole)
  (a3 : Memref sig .tc .vmem S1x2048x128 .f32) (h3 : a3.IsWhole)
  (a4 : Memref sig .tc .vmem S1x2048x128 .f32) (h4 : a4.IsWhole)
  (a5 : Memref sig .tc .vmem S1x384 .f32) (h5 : a5.IsWhole)
  (a6 : Memref sig .tc .vmem S1x256 .f32) (h6 : a6.IsWhole)
  (a7 : Memref sig .tc .vmem S384x512 .bf16) (h7 : a7.IsWhole)
  (a8 : Memref sig .tc .vmem S384x256 .bf16) (h8 : a8.IsWhole)
  (a9 : Memref sig .tc .vmem S384x256 .bf16) (h9 : a9.IsWhole)
  (a10 : Memref sig .tc .vmem S256x512 .bf16) (h10 : a10.IsWhole)
  (a11 : Memref sig .tc .vmem S256x512 .bf16) (h11 : a11.IsWhole)
  (a12 : Memref sig .tc .vmem S1x2048x128 .bf16) (h12 : a12.IsWhole)
  (a13 : Memref sig .tc .vmem S4x2048x256 .bf16) (h13 : a13.IsWhole)
  (a14 : Memref sig .tc .vmem S4x2048x256 .bf16) (h14 : a14.IsWhole)
  (a15 : Memref sig .tc .vmem S4x2048x128 .bf16) (h15 : a15.IsWhole)
  (x0 : Vec F S1x2048x896 .bf16) (x1 x2 : Vec F S1x2048x128 .f32) (x3 : Vec F S1x384 .f32)
  (x4 : Vec F S1x256 .f32) (x5 : Vec F S384x512 .bf16) (x6 x7 : Vec F S384x256 .bf16)
  (x8 x9 : Vec F S256x512 .bf16)
  (xs0 xs1 : Vec F S4x2048x256 .bf16) (xs2 : Vec F S4x2048x128 .bf16)

theorem qlist_eq : kernelRun0_A.sl.HS0_32 (F := F) c a2 h2 a3 h3 a4 h4 a5 h5 a7 h7 a8 h8 a9 h9 x0 x1 x2 x3 x5 x6 x7
    = qlist (a2.view.read (Elt F) (h2.unread x0)) (a3.view.read (Elt F) (h3.unread x1)) (a4.view.read (Elt F) (h4.unread x2))
      (a5.view.read (Elt F) (h5.unread x3)) (a7.view.read (Elt F) (h7.unread x5)) (a8.view.read (Elt F) (h8.unread x6))
      (a9.view.read (Elt F) (h9.unread x7)) := by sl_kernel_rfl

theorem klist_eq : kernelRun0_A.sl.HS1_32 (F := F) c a2 h2 a3 h3 a4 h4 a6 h6 a10 h10 x0 x1 x2 x4 x8
    = klist (a2.view.read (Elt F) (h2.unread x0)) (a3.view.read (Elt F) (h3.unread x1)) (a4.view.read (Elt F) (h4.unread x2))
      (a6.view.read (Elt F) (h6.unread x4)) (a10.view.read (Elt F) (h10.unread x8)) := by sl_kernel_rfl

theorem vlist_eq : kernelRun0_A.sl.HS2_16 (F := F) c a2 h2 a6 h6 a11 h11 x0 x4 x9
    = vlist (a2.view.read (Elt F) (h2.unread x0)) (a6.view.read (Elt F) (h6.unread x4)) (a11.view.read (Elt F) (h11.unread x9)) := by
  sl_kernel_rfl

/-- The query scratch after a batch's first step. -/
theorem sout_q (hc : cond0_0 i) : sout0_A_0 c i a2 h2 a3 h3 a4 h4 a5 h5 a6 h6 a7 h7 a8 h8 a9 h9 a10 h10 a11 h11 a12 h12 a13 h13 a14 h14 a15 h15 hc x0 x1 x2 x3 x4 x5 x6 x7 x8 x9
    = View.canon (qlist x0 x1 x2 x3 x5 x6 x7) := by
  unfold sout0_A_0
  rw [View.read_writes_junk_eq_canon]
  refine (congrArg View.canon (qlist_eq c a2 h2 a3 h3 a4 h4 a5 h5 a7 h7 a8 h8 a9 h9 x0 x1 x2 x3 x5 x6 x7)).trans ?_
  simp only [Memref.IsWhole.read_unread]

/-- The key scratch after a batch's first step. -/
theorem sout_k (hc : cond0_0 i) : sout0_A_1 c i a2 h2 a3 h3 a4 h4 a5 h5 a6 h6 a7 h7 a8 h8 a9 h9 a10 h10 a11 h11 a12 h12 a13 h13 a14 h14 a15 h15 hc x0 x1 x2 x3 x4 x5 x6 x7 x8 x9
    = View.canon (klist x0 x1 x2 x4 x8) := by
  unfold sout0_A_1
  rw [View.read_writes_junk_eq_canon]
  refine (congrArg View.canon (klist_eq c a2 h2 a3 h3 a4 h4 a6 h6 a10 h10 x0 x1 x2 x4 x8)).trans ?_
  simp only [Memref.IsWhole.read_unread]

/-- The value scratch after a batch's first step. -/
theorem sout_v (hc : cond0_0 i) : sout0_A_2 c i a2 h2 a3 h3 a4 h4 a5 h5 a6 h6 a7 h7 a8 h8 a9 h9 a10 h10 a11 h11 a12 h12 a13 h13 a14 h14 a15 h15 hc x0 x1 x2 x3 x4 x5 x6 x7 x8 x9
    = View.canon (vlist x0 x4 x9) := by
  unfold sout0_A_2
  rw [View.read_writes_junk_eq_canon]
  refine (congrArg View.canon (vlist_eq c a2 h2 a6 h6 a11 h11 x0 x4 x9)).trans ?_
  simp only [Memref.IsWhole.read_unread]

theorem inbO (n : Fin 8) : ∀ a, (![0, 256 * n.val, 0] : Fin 3 → ℕ) a + S1x256x128.size a ≤ S1x2048x128.size a := by
  revert n; decide

/-- The stores to the output window of one step, last first. -/
def olist (xq xk : Vec F S4x2048x256 .bf16) (xv : Vec F S4x2048x128 .bf16) : List (View.Piece (Elt F) S1x2048x128 .bf16) :=
  let o (n : Fin 8) : View.Piece (Elt F) S1x2048x128 .bf16 :=
    ⟨Rect.unit (s := S1x2048x128) ![0, 256 * n.val, 0] S1x256x128.size (inbO n), Block.att i xq xk xv n.val⟩
  [o 7, o 6, o 5, o 4, o 3, o 2, o 1, o 0]

/-- What a later step of a batch stores. -/
theorem out_B (hc : ¬cond0_0 i) : out0_B_10 c i a2 h2 a3 h3 a4 h4 a5 h5 a6 h6 a7 h7 a8 h8 a9 h9 a10 h10 a11 h11 a12 h12 a13 h13 a14 h14 a15 h15 hc x0 x1 x2 x3 x4 x5 x6 x7 x8 x9 xs0 xs1 xs2
    = View.canon (olist i xs0 xs1 xs2) := by
  unfold out0_B_10
  rw [View.read_writes_junk_eq_canon]
  have h : (kernelRun0_B c i a2 h2 a3 h3 a4 h4 a5 h5 a6 h6 a7 h7 a8 h8 a9 h9 a10 h10 a11 h11 a12 h12 a13 h13 a14 h14 a15 h15 hc x0 x1 x2 x3 x4 x5 x6 x7 x8 x9 xs0 xs1 xs2).1
      = olist i (a13.view.read (Elt F) (h13.unread xs0)) (a14.view.read (Elt F) (h14.unread xs1)) (a15.view.read (Elt F) (h15.unread xs2)) := by
    sl_kernel_rfl
  refine (congrArg View.canon h).trans ?_
  simp only [Memref.IsWhole.read_unread]

/-- What the first step of a batch stores. -/
theorem out_A (hc : cond0_0 i) : out0_A_10 c i a2 h2 a3 h3 a4 h4 a5 h5 a6 h6 a7 h7 a8 h8 a9 h9 a10 h10 a11 h11 a12 h12 a13 h13 a14 h14 a15 h15 hc x0 x1 x2 x3 x4 x5 x6 x7 x8 x9
    = View.canon (olist i (View.canon (qlist x0 x1 x2 x3 x5 x6 x7)) (View.canon (klist x0 x1 x2 x4 x8)) (View.canon (vlist x0 x4 x9))) := by
  unfold out0_A_10
  rw [View.read_writes_junk_eq_canon]
  have h : (kernelRun0_A c i a2 h2 a3 h3 a4 h4 a5 h5 a6 h6 a7 h7 a8 h8 a9 h9 a10 h10 a11 h11 a12 h12 a13 h13 a14 h14 a15 h15 hc x0 x1 x2 x3 x4 x5 x6 x7 x8 x9).1
      = olist i
        (a13.view.read (Elt F) (a13.view.writes (Elt F) a13.view.junk (kernelRun0_A.sl.HS0_32 (F := F) c a2 h2 a3 h3 a4 h4 a5 h5 a7 h7 a8 h8 a9 h9 x0 x1 x2 x3 x5 x6 x7)))
        (a14.view.read (Elt F) (a14.view.writes (Elt F) a14.view.junk (kernelRun0_A.sl.HS1_32 (F := F) c a2 h2 a3 h3 a4 h4 a6 h6 a10 h10 x0 x1 x2 x4 x8)))
        (a15.view.read (Elt F) (a15.view.writes (Elt F) a15.view.junk (kernelRun0_A.sl.HS2_16 (F := F) c a2 h2 a6 h6 a11 h11 x0 x4 x9))) := by
    sl_kernel_rfl
  refine (congrArg View.canon h).trans ?_
  simp only [View.read_writes_junk_eq_canon, qlist_eq, klist_eq, vlist_eq, Memref.IsWhole.read_unread]

end Cert.MlaIdeal.Scratch
end
-- ==== Proof.MlaTiles.lean ====
module

public import proofs.«01_k».proof.Proof.MlaScratch
public import Idealize.ShloMosaic.Lib.Pointwise
public import proofs.«01_k».proof.Proof.Rows

/-!
The tiles a batch's first step stores in the scratch arrays, read at an index as plain functions of the
row, the pair of heads and the lane, and with them the three scratch arrays.
-/

@[expose] public section

set_option maxRecDepth 16384

noncomputable section

open Idealize.ShloMosaic Idealize.ShloMosaic.TcCoe Idealize.SL.Sem

namespace Cert.MlaIdeal.Scratch

open Cert.MlaIdeal Cert.MlaIdeal.Gen

/-- Entry `(u, r, l)` of a box at `(a, b, d)` of an array of three axes is entry `(a + u, b + r, d + l)` of the array. -/
theorem unit_emb_ix3 {n m k p q t : Nat} (a b d : Nat)
    (inb : ∀ x, (![a, b, d] : Fin 3 → Nat) x + (![p, q, t] : Fin 3 → Nat) x ≤ (⟨3, ![n, m, k]⟩ : Shape).size x) (u : Fin p) (r : Fin q) (l : Fin t) :
    (Rect.unit (s := ⟨3, ![n, m, k]⟩) ![a, b, d] ![p, q, t] inb).emb (ix3 u r l)
      = ix3 (n0 := n) (n1 := m) (n2 := k) ⟨a + u.val, lt_of_lt_of_le (Nat.add_lt_add_left u.isLt a) (inb 0)⟩
          ⟨b + r.val, lt_of_lt_of_le (Nat.add_lt_add_left r.isLt b) (inb 1)⟩ ⟨d + l.val, lt_of_lt_of_le (Nat.add_lt_add_left l.isLt d) (inb 2)⟩ := by
  funext x
  match x with
  | ⟨0, _⟩ => exact Fin.ext (show a + 1 * u.val = a + u.val by omega)
  | ⟨1, _⟩ => exact Fin.ext (show b + 1 * r.val = b + r.val by omega)
  | ⟨2, _⟩ => exact Fin.ext (show d + 1 * l.val = d + l.val by omega)

variable (x0 : Vec Ideal S1x2048x896 .bf16) (x1 x2 : Vec Ideal S1x2048x128 .f32) (x3 : Vec Ideal S1x384 .f32)
  (x4 : Vec Ideal S1x256 .f32) (x5 : Vec Ideal S384x512 .bf16) (x6 x7 : Vec Ideal S384x256 .bf16)
  (x8 x9 : Vec Ideal S256x512 .bf16)

/-- The scale the queries carry. -/
def qscale : EReal := Named.named (F := Ideal) Cert.MlaIdeal.κ "q_scale" (φ := .f32) 0x3E16C740#32

/-- A normed query row. -/
def nq (r : Fin 2048) : Fin 384 → EReal :=
  Rows.rms (Ideal.ofBits .f32 0x43C00000#32) (fun k => x0 (ix3 0 r ⟨k.val, by omega⟩)) fun k => x3 (ix2 0 k)
/-- A normed key row. -/
def nk (r : Fin 2048) : Fin 256 → EReal :=
  Rows.rms (Ideal.ofBits .f32 0x43800000#32) (fun k => x0 (ix3 0 r ⟨384 + k.val, by omega⟩)) fun k => x4 (ix2 0 k)

/-- The plain lanes of a query. -/
def qplain (p : Fin 4) (r : Fin 2048) (l : Fin 128) : EReal :=
  Rows.dot (nq x0 x3 r) (fun k => x5 (ix2 k ⟨128 * p.val + l.val, by omega⟩)) * qscale
/-- The rotated lanes of a query. -/
def qturn (p : Fin 4) (r : Fin 2048) (l : Fin 128) : EReal :=
  (Rows.dot (nq x0 x3 r) (fun k => x6 (ix2 k ⟨128 * (p.val / 2) + l.val, by omega⟩)) * x1 (ix3 0 r l)
    + Rows.dot (nq x0 x3 r) (fun k => x7 (ix2 k ⟨128 * (p.val / 2) + l.val, by omega⟩)) * x2 (ix3 0 r l)) * qscale
/-- The plain lanes of a key, or of a value. -/
def kplain (p : Fin 4) (r : Fin 2048) (l : Fin 128) : EReal :=
  Rows.dot (nk x0 x4 r) (fun k => x8 (ix2 k ⟨128 * p.val + l.val, by omega⟩))
/-- The rotated lanes of a key. -/
def kturn (r : Fin 2048) (l : Fin 128) : EReal :=
  x0 (ix3 0 r ⟨640 + l.val, by omega⟩) * x1 (ix3 0 r l) + x0 (ix3 0 r ⟨768 + l.val, by omega⟩) * x2 (ix3 0 r l)

/-- Row `512 r + s`. -/
def row (r : Fin 4) (s : Fin 512) : Fin 2048 := ⟨512 * r.val + s.val, by omega⟩

theorem q0 (r : Fin 4) (g : Fin 2) (p : Fin 4) (hp : p.val = 2 * g.val) (s : Fin 512) (l : Fin 128) :
    (k0_pay26 (cqn x0 x3 r) (colsQ x5 g) (ix3 0 s l) : EReal) = qplain x0 x3 x5 p (row r s) l := by
  have e : (⟨256 * g.val + l.val, by omega⟩ : Fin 512) = ⟨128 * p.val + l.val, by omega⟩ := Fin.ext (by show 256 * g.val + l.val = 128 * p.val + l.val; omega)
  pointwise [k0_pay26, k0_pay20, cqn, k0_pay7, k0_pay2, rowsX, colsQ]
  exact congrArg (fun c => Rows.dot (nq x0 x3 (row r s)) (fun k => x5 (ix2 k c)) * qscale) e

theorem q1 (r : Fin 4) (g : Fin 2) (p : Fin 4) (hp : p.val = 2 * g.val + 1) (s : Fin 512) (l : Fin 128) :
    (k0_pay31 (k0_pay21 (cqn x0 x3 r) (colsQ x5 g)) (ix3 0 s l) : EReal) = qplain x0 x3 x5 p (row r s) l := by
  have e : (⟨256 * g.val + (128 + l.val), by omega⟩ : Fin 512) = ⟨128 * p.val + l.val, by omega⟩ := Fin.ext (by show 256 * g.val + (128 + l.val) = 128 * p.val + l.val; omega)
  pointwise [k0_pay31, k0_pay21, k0_pay20, cqn, k0_pay7, k0_pay2, rowsX, colsQ]
  exact congrArg (fun c => Rows.dot (nq x0 x3 (row r s)) (fun k => x5 (ix2 k c)) * qscale) e

theorem q2 (r : Fin 4) (p : Fin 4) (hp : p.val / 2 = 0) (s : Fin 512) (l : Fin 128) :
    (k0_pay15 (k0_pay5 (rowsC x1 r)) (k0_pay6 (rowsC x2 r)) (cqn x0 x3 r) (allR x6) (allR x7) (ix3 0 s l) : EReal) = qturn x0 x1 x2 x3 x6 x7 p (row r s) l := by
  have e : (⟨l.val, by omega⟩ : Fin 256) = ⟨128 * (p.val / 2) + l.val, by omega⟩ := Fin.ext (by show l.val = 128 * (p.val / 2) + l.val; omega)
  pointwise [k0_pay15, k0_pay14, k0_pay12, k0_pay13, cqn, k0_pay7, k0_pay2, k0_pay5, k0_pay6, rowsX, rowsC, allR]
  exact congrArg (fun c => (Rows.dot (nq x0 x3 (row r s)) (fun k => x6 (ix2 k c)) * x1 (ix3 0 (row r s) l) + Rows.dot (nq x0 x3 (row r s)) (fun k => x7 (ix2 k c)) * x2 (ix3 0 (row r s) l)) * qscale) e

theorem q3 (r : Fin 4) (p : Fin 4) (hp : p.val / 2 = 1) (s : Fin 512) (l : Fin 128) :
    (k0_pay18 (k0_pay5 (rowsC x1 r)) (k0_pay6 (rowsC x2 r)) (cqn x0 x3 r) (allR x6) (allR x7) (ix3 0 s l) : EReal) = qturn x0 x1 x2 x3 x6 x7 p (row r s) l := by
  have e : (⟨128 + l.val, by omega⟩ : Fin 256) = ⟨128 * (p.val / 2) + l.val, by omega⟩ := Fin.ext (by show 128 + l.val = 128 * (p.val / 2) + l.val; omega)
  pointwise [k0_pay18, k0_pay17, k0_pay12, k0_pay13, cqn, k0_pay7, k0_pay2, k0_pay5, k0_pay6, rowsX, rowsC, allR]
  exact congrArg (fun c => (Rows.dot (nq x0 x3 (row r s)) (fun k => x6 (ix2 k c)) * x1 (ix3 0 (row r s) l) + Rows.dot (nq x0 x3 (row r s)) (fun k => x7 (ix2 k c)) * x2 (ix3 0 (row r s) l)) * qscale) e

theorem k0 (r : Fin 4) (g : Fin 2) (p : Fin 4) (hp : p.val = 2 * g.val) (s : Fin 512) (l : Fin 128) :
    (k0_pay27 (ckvn x0 x4 r) (colsK x8 g) (ix3 0 s l) : EReal) = kplain x0 x4 x8 p (row r s) l := by
  have e : (⟨256 * g.val + l.val, by omega⟩ : Fin 512) = ⟨128 * p.val + l.val, by omega⟩ := Fin.ext (by show 256 * g.val + l.val = 128 * p.val + l.val; omega)
  pointwise [k0_pay27, k0_pay22, ckvn, k0_pay8, k0_pay9, k0_pay10, k0_pay2, rowsX, colsK]
  exact congrArg (fun c => Rows.dot (nk x0 x4 (row r s)) (fun k => x8 (ix2 k c))) e

theorem k1 (r : Fin 4) (g : Fin 2) (p : Fin 4) (hp : p.val = 2 * g.val + 1) (s : Fin 512) (l : Fin 128) :
    (k0_pay32 (k0_pay23 (ckvn x0 x4 r) (colsK x8 g)) (ix3 0 s l) : EReal) = kplain x0 x4 x8 p (row r s) l := by
  have e : (⟨256 * g.val + (128 + l.val), by omega⟩ : Fin 512) = ⟨128 * p.val + l.val, by omega⟩ := Fin.ext (by show 256 * g.val + (128 + l.val) = 128 * p.val + l.val; omega)
  pointwise [k0_pay32, k0_pay23, k0_pay22, ckvn, k0_pay8, k0_pay9, k0_pay10, k0_pay2, rowsX, colsK]
  exact congrArg (fun c => Rows.dot (nk x0 x4 (row r s)) (fun k => x8 (ix2 k c))) e

theorem k2 (r : Fin 4) (s : Fin 512) (l : Fin 128) : (krope x0 x1 x2 r (ix3 0 s l) : EReal) = kturn x0 x1 x2 (row r s) l := by
  pointwise [krope, k0_pay28, k0_pay11, k0_pay3, k0_pay4, k0_pay5, k0_pay6, k0_pay2, rowsX, rowsC]
  rfl

theorem v0 (r : Fin 4) (g : Fin 2) (p : Fin 4) (hp : p.val = 2 * g.val) (s : Fin 512) (l : Fin 128) :
    (k0_pay30 (k0_pay29 (ckvn x0 x4 r) (colsK x8 g)) (ix3 0 s l) : EReal) = kplain x0 x4 x8 p (row r s) l := by
  have e : (⟨256 * g.val + l.val, by omega⟩ : Fin 512) = ⟨128 * p.val + l.val, by omega⟩ := Fin.ext (by show 256 * g.val + l.val = 128 * p.val + l.val; omega)
  pointwise [k0_pay30, k0_pay29, k0_pay24, ckvn, k0_pay8, k0_pay9, k0_pay10, k0_pay2, rowsX, colsK]
  exact congrArg (fun c => Rows.dot (nk x0 x4 (row r s)) (fun k => x8 (ix2 k c))) e

theorem v1 (r : Fin 4) (g : Fin 2) (p : Fin 4) (hp : p.val = 2 * g.val + 1) (s : Fin 512) (l : Fin 128) :
    (k0_pay34 (k0_pay25 (ckvn x0 x4 r) (colsK x8 g)) (ix3 0 s l) : EReal) = kplain x0 x4 x8 p (row r s) l := by
  have e : (⟨256 * g.val + (128 + l.val), by omega⟩ : Fin 512) = ⟨128 * p.val + l.val, by omega⟩ := Fin.ext (by show 256 * g.val + (128 + l.val) = 128 * p.val + l.val; omega)
  pointwise [k0_pay34, k0_pay25, k0_pay24, ckvn, k0_pay8, k0_pay9, k0_pay10, k0_pay2, rowsX, colsK]
  exact congrArg (fun c => Rows.dot (nk x0 x4 (row r s)) (fun k => x8 (ix2 k c))) e

end Cert.MlaIdeal.Scratch
end
-- ==== Proof.MlaArrays.lean ====
module

public import proofs.«01_k».proof.Proof.MlaTiles
public import Idealize.ShloMosaic.Lib.Pipeline.ValueKit

/-!
The three scratch arrays after a batch's first step, at an index.
-/

@[expose] public section

set_option maxRecDepth 16384

noncomputable section

open Idealize.ShloMosaic Idealize.ShloMosaic.TcCoe Idealize.SL.Sem

namespace Cert.MlaIdeal.Scratch

open Cert.MlaIdeal Cert.MlaIdeal.Gen

variable (x0 : Vec Ideal S1x2048x896 .bf16) (x1 x2 : Vec Ideal S1x2048x128 .f32) (x3 : Vec Ideal S1x384 .f32)
  (x4 : Vec Ideal S1x256 .f32) (x5 : Vec Ideal S384x512 .bf16) (x6 x7 : Vec Ideal S384x256 .bf16)
  (x8 x9 : Vec Ideal S256x512 .bf16)

/-- The query scratch. -/
def qarr (p : Fin 4) (r : Fin 2048) (l : Fin 256) : EReal :=
  if h : l.val < 128 then qplain x0 x3 x5 p r ⟨l.val, h⟩ else qturn x0 x1 x2 x3 x6 x7 p r ⟨l.val - 128, by omega⟩
/-- The key scratch. -/
def karr (p : Fin 4) (r : Fin 2048) (l : Fin 256) : EReal :=
  if h : l.val < 128 then kplain x0 x4 x8 p r ⟨l.val, h⟩ else kturn x0 x1 x2 r ⟨l.val - 128, by omega⟩

/-- A tile of 512 rows in the first 128 of 256 lanes. -/
theorem put_lo (G : Fin 4 → Fin 2048 → Fin 256 → EReal) (f : Vec Ideal S1x512x128 .bf16) (r p : Fin 4)
    (h : ∀ (s : Fin 512) (l : Fin 128), (f (ix3 0 s l) : EReal) = G p (row r s) ⟨l.val, by omega⟩) (x : S1x512x128.Idx) :
    (f x : EReal) = (fun y : S4x2048x256.Idx => G (y 0) (y 1) (y 2))
      ((Rect.unit (s := S4x2048x256) ![p.val, 512 * r.val, 0] S1x512x128.size (inbN r p)).emb x) := by
  obtain ⟨u, s, l, rfl⟩ : ∃ (u : Fin 1) (s : Fin 512) (l : Fin 128), x = ix3 u s l := ⟨x 0, x 1, x 2, eq_ix3 (n0 := 1) (n1 := 512) (n2 := 128) x⟩
  obtain rfl : u = 0 := Subsingleton.elim _ _
  refine (h s l).trans (.trans ?_ (congrArg (fun y : S4x2048x256.Idx => G (y 0) (y 1) (y 2)) (unit_emb_ix3 (n := 4) (m := 2048) (k := 256) p.val (512 * r.val) 0 (inbN r p) 0 s l)).symm)
  show G p (row r s) ⟨l.val, _⟩ = G ⟨p.val + 0, _⟩ ⟨512 * r.val + s.val, _⟩ ⟨0 + l.val, _⟩
  simp only [Nat.add_zero, Nat.zero_add, Fin.eta]; rfl

/-- A tile of 512 rows in the last 128 of 256 lanes. -/
theorem put_hi (G : Fin 4 → Fin 2048 → Fin 256 → EReal) (f : Vec Ideal S1x512x128 .bf16) (r p : Fin 4)
    (h : ∀ (s : Fin 512) (l : Fin 128), (f (ix3 0 s l) : EReal) = G p (row r s) ⟨128 + l.val, by omega⟩) (x : S1x512x128.Idx) :
    (f x : EReal) = (fun y : S4x2048x256.Idx => G (y 0) (y 1) (y 2))
      ((Rect.unit (s := S4x2048x256) ![p.val, 512 * r.val, 128] S1x512x128.size (inbR r p)).emb x) := by
  obtain ⟨u, s, l, rfl⟩ : ∃ (u : Fin 1) (s : Fin 512) (l : Fin 128), x = ix3 u s l := ⟨x 0, x 1, x 2, eq_ix3 (n0 := 1) (n1 := 512) (n2 := 128) x⟩
  obtain rfl : u = 0 := Subsingleton.elim _ _
  refine (h s l).trans (.trans ?_ (congrArg (fun y : S4x2048x256.Idx => G (y 0) (y 1) (y 2)) (unit_emb_ix3 (n := 4) (m := 2048) (k := 256) p.val (512 * r.val) 128 (inbR r p) 0 s l)).symm)
  show G p (row r s) ⟨128 + l.val, _⟩ = G ⟨p.val + 0, _⟩ ⟨512 * r.val + s.val, _⟩ ⟨128 + l.val, _⟩
  simp only [Nat.add_zero, Fin.eta]; rfl

/-- A tile of 512 rows of an array of 128 lanes. -/
theorem put_v (G : Fin 4 → Fin 2048 → Fin 128 → EReal) (f : Vec Ideal S1x512x128 .bf16) (r p : Fin 4)
    (h : ∀ (s : Fin 512) (l : Fin 128), (f (ix3 0 s l) : EReal) = G p (row r s) l) (x : S1x512x128.Idx) :
    (f x : EReal) = (fun y : S4x2048x128.Idx => G (y 0) (y 1) (y 2))
      ((Rect.unit (s := S4x2048x128) ![p.val, 512 * r.val, 0] S1x512x128.size (inbV r p)).emb x) := by
  obtain ⟨u, s, l, rfl⟩ : ∃ (u : Fin 1) (s : Fin 512) (l : Fin 128), x = ix3 u s l := ⟨x 0, x 1, x 2, eq_ix3 (n0 := 1) (n1 := 512) (n2 := 128) x⟩
  obtain rfl : u = 0 := Subsingleton.elim _ _
  refine (h s l).trans (.trans ?_ (congrArg (fun y : S4x2048x128.Idx => G (y 0) (y 1) (y 2)) (unit_emb_ix3 (n := 4) (m := 2048) (k := 128) p.val (512 * r.val) 0 (inbV r p) 0 s l)).symm)
  show G p (row r s) l = G ⟨p.val + 0, _⟩ ⟨512 * r.val + s.val, _⟩ ⟨0 + l.val, _⟩
  simp only [Nat.add_zero, Nat.zero_add, Fin.eta]; rfl

theorem qarr_lo (p : Fin 4) (r : Fin 2048) (l : Fin 128) : qarr x0 x1 x2 x3 x5 x6 x7 p r ⟨l.val, by omega⟩ = qplain x0 x3 x5 p r l :=
  dif_pos l.isLt
theorem qarr_hi (p : Fin 4) (r : Fin 2048) (l : Fin 128) : qarr x0 x1 x2 x3 x5 x6 x7 p r ⟨128 + l.val, by omega⟩ = qturn x0 x1 x2 x3 x6 x7 p r l :=
  (dif_neg (by show ¬ 128 + l.val < 128; omega)).trans (congrArg _ (Fin.ext (by show 128 + l.val - 128 = l.val; omega)))
theorem karr_lo (p : Fin 4) (r : Fin 2048) (l : Fin 128) : karr x0 x1 x2 x4 x8 p r ⟨l.val, by omega⟩ = kplain x0 x4 x8 p r l :=
  dif_pos l.isLt
theorem karr_hi (p : Fin 4) (r : Fin 2048) (l : Fin 128) : karr x0 x1 x2 x4 x8 p r ⟨128 + l.val, by omega⟩ = kturn x0 x1 x2 r l :=
  (dif_neg (by show ¬ 128 + l.val < 128; omega)).trans (congrArg _ (Fin.ext (by show 128 + l.val - 128 = l.val; omega)))

theorem qrow_spec (r : Fin 4) : ∀ t ∈ qrow x0 x1 x2 x3 x5 x6 x7 r, ∀ x : t.1.shape.Idx,
    (t.2 x : EReal) = (fun y : S4x2048x256.Idx => qarr x0 x1 x2 x3 x5 x6 x7 (y 0) (y 1) (y 2)) (t.1.emb x) := by
  intro t ht
  simp only [qrow, List.mem_cons, List.not_mem_nil, or_false] at ht
  rcases ht with rfl | rfl | rfl | rfl | rfl | rfl | rfl | rfl
  · exact put_lo _ _ r 3 fun s l => (q1 x0 x3 x5 r 1 3 rfl s l).trans (qarr_lo x0 x1 x2 x3 x5 x6 x7 _ _ l).symm
  · exact put_lo _ _ r 2 fun s l => (q0 x0 x3 x5 r 1 2 rfl s l).trans (qarr_lo x0 x1 x2 x3 x5 x6 x7 _ _ l).symm
  · exact put_lo _ _ r 1 fun s l => (q1 x0 x3 x5 r 0 1 rfl s l).trans (qarr_lo x0 x1 x2 x3 x5 x6 x7 _ _ l).symm
  · exact put_lo _ _ r 0 fun s l => (q0 x0 x3 x5 r 0 0 rfl s l).trans (qarr_lo x0 x1 x2 x3 x5 x6 x7 _ _ l).symm
  · exact put_hi _ _ r 3 fun s l => (q3 x0 x1 x2 x3 x6 x7 r 3 rfl s l).trans (qarr_hi x0 x1 x2 x3 x5 x6 x7 _ _ l).symm
  · exact put_hi _ _ r 2 fun s l => (q3 x0 x1 x2 x3 x6 x7 r 2 rfl s l).trans (qarr_hi x0 x1 x2 x3 x5 x6 x7 _ _ l).symm
  · exact put_hi _ _ r 1 fun s l => (q2 x0 x1 x2 x3 x6 x7 r 1 rfl s l).trans (qarr_hi x0 x1 x2 x3 x5 x6 x7 _ _ l).symm
  · exact put_hi _ _ r 0 fun s l => (q2 x0 x1 x2 x3 x6 x7 r 0 rfl s l).trans (qarr_hi x0 x1 x2 x3 x5 x6 x7 _ _ l).symm

theorem krow_spec (r : Fin 4) : ∀ t ∈ krow x0 x1 x2 x4 x8 r, ∀ x : t.1.shape.Idx,
    (t.2 x : EReal) = (fun y : S4x2048x256.Idx => karr x0 x1 x2 x4 x8 (y 0) (y 1) (y 2)) (t.1.emb x) := by
  intro t ht
  simp only [krow, List.mem_cons, List.not_mem_nil, or_false] at ht
  have hi (p : Fin 4) := put_hi (karr x0 x1 x2 x4 x8) (krope x0 x1 x2 r) r p fun s l => (k2 x0 x1 x2 r s l).trans (karr_hi x0 x1 x2 x4 x8 _ _ l).symm
  rcases ht with rfl | rfl | rfl | rfl | rfl | rfl | rfl | rfl
  · exact hi 3
  · exact put_lo _ _ r 3 fun s l => (k1 x0 x4 x8 r 1 3 rfl s l).trans (karr_lo x0 x1 x2 x4 x8 _ _ l).symm
  · exact hi 2
  · exact put_lo _ _ r 2 fun s l => (k0 x0 x4 x8 r 1 2 rfl s l).trans (karr_lo x0 x1 x2 x4 x8 _ _ l).symm
  · exact hi 1
  · exact put_lo _ _ r 1 fun s l => (k1 x0 x4 x8 r 0 1 rfl s l).trans (karr_lo x0 x1 x2 x4 x8 _ _ l).symm
  · exact hi 0
  · exact put_lo _ _ r 0 fun s l => (k0 x0 x4 x8 r 0 0 rfl s l).trans (karr_lo x0 x1 x2 x4 x8 _ _ l).symm

theorem vrow_spec (r : Fin 4) : ∀ t ∈ vrow x0 x4 x9 r, ∀ x : t.1.shape.Idx,
    (t.2 x : EReal) = (fun y : S4x2048x128.Idx => kplain x0 x4 x9 (y 0) (y 1) (y 2)) (t.1.emb x) := by
  intro t ht
  simp only [vrow, List.mem_cons, List.not_mem_nil, or_false] at ht
  rcases ht with rfl | rfl | rfl | rfl
  · exact put_v _ _ r 3 fun s l => v1 x0 x4 x9 r 1 3 rfl s l
  · exact put_v _ _ r 2 fun s l => v0 x0 x4 x9 r 1 2 rfl s l
  · exact put_v _ _ r 1 fun s l => v1 x0 x4 x9 r 0 1 rfl s l
  · exact put_v _ _ r 0 fun s l => v0 x0 x4 x9 r 0 0 rfl s l

theorem four {α : Type} {a b c d : List α} {t : α} {P : Prop} (ha : t ∈ a → P) (hb : t ∈ b → P) (hc : t ∈ c → P) (hd : t ∈ d → P)
    (h : t ∈ a ++ (b ++ (c ++ d))) : P := by
  simp only [List.mem_append] at h
  exact h.elim ha fun h => h.elim hb fun h => h.elim hc hd

/-- The query scratch at an index. -/
theorem q_apply (p : Fin 4) (r : Fin 2048) (l : Fin 256) :
    (View.canon (qlist x0 x1 x2 x3 x5 x6 x7) (ix3 p r l) : EReal) = qarr x0 x1 x2 x3 x5 x6 x7 p r l := by
  have hL : View.Piece.tiledL (qlist x0 x1 x2 x3 x5 x6 x7) ![1, 512, 128] = true := by sl_kernel_rfl
  exact View.canon_apply_of_pieces (fun y : S4x2048x256.Idx => qarr x0 x1 x2 x3 x5 x6 x7 (y 0) (y 1) (y 2)) _
    (fun t => four (qrow_spec x0 x1 x2 x3 x5 x6 x7 3 t) (qrow_spec x0 x1 x2 x3 x5 x6 x7 2 t) (qrow_spec x0 x1 x2 x3 x5 x6 x7 1 t) (qrow_spec x0 x1 x2 x3 x5 x6 x7 0 t)) _
    (View.cover_of_tiledL _ _ hL _)

/-- The key scratch at an index. -/
theorem k_apply (p : Fin 4) (r : Fin 2048) (l : Fin 256) :
    (View.canon (klist x0 x1 x2 x4 x8) (ix3 p r l) : EReal) = karr x0 x1 x2 x4 x8 p r l := by
  have hL : View.Piece.tiledL (klist x0 x1 x2 x4 x8) ![1, 512, 128] = true := by sl_kernel_rfl
  exact View.canon_apply_of_pieces (fun y : S4x2048x256.Idx => karr x0 x1 x2 x4 x8 (y 0) (y 1) (y 2)) _
    (fun t => four (krow_spec x0 x1 x2 x4 x8 3 t) (krow_spec x0 x1 x2 x4 x8 2 t) (krow_spec x0 x1 x2 x4 x8 1 t) (krow_spec x0 x1 x2 x4 x8 0 t)) _
    (View.cover_of_tiledL _ _ hL _)

/-- The value scratch at an index. -/
theorem v_apply (p : Fin 4) (r : Fin 2048) (l : Fin 128) :
    (View.canon (vlist x0 x4 x9) (ix3 p r l) : EReal) = kplain x0 x4 x9 p r l := by
  have hL : View.Piece.tiledL (vlist x0 x4 x9) ![1, 512, 128] = true := by sl_kernel_rfl
  exact View.canon_apply_of_pieces (fun y : S4x2048x128.Idx => kplain x0 x4 x9 (y 0) (y 1) (y 2)) _
    (fun t => four (vrow_spec x0 x4 x9 3 t) (vrow_spec x0 x4 x9 2 t) (vrow_spec x0 x4 x9 1 t) (vrow_spec x0 x4 x9 0 t)) _
    (View.cover_of_tiledL _ _ hL _)

end Cert.MlaIdeal.Scratch
end
-- ==== Proof.MlaState.lean ====
module

public import proofs.«01_k».proof.Proof.MlaSteps
public import proofs.«01_k».proof.Proof.MlaArrays

@[expose] public section

set_option maxRecDepth 16384

noncomputable section

/-! What the scratch arrays and the output window hold after each grid point, from the arrays the call is given. -/

open Idealize.ShloMosaic Idealize.ShloMosaic.TcCoe Idealize.SL.Sem

namespace Cert.MlaIdeal.State

open Cert.MlaIdeal Cert.MlaIdeal.Gen
variable (m : (ℓ : Loc nD τ sig) → Buf (Elt Ideal) ℓ) (c : Dev nD)

/-- The arrays of batch `b`, and the weights. -/
def bx0 (b : Fin 16) : Vec Ideal S1x2048x896 .bf16 := fun i => (V m c main_v11 : Vec Ideal S16x2048x896 .bf16) (ix3 b (i 1) (i 2))
def bx1 (b : Fin 16) : Vec Ideal S1x2048x128 .f32 := fun i => (V m c main_v21 : Vec Ideal S16x2048x128 .f32) (ix3 b (i 1) (i 2))
def bx2 (b : Fin 16) : Vec Ideal S1x2048x128 .f32 := fun i => (V m c main_v25 : Vec Ideal S16x2048x128 .f32) (ix3 b (i 1) (i 2))

theorem index_eq : ∀ t : Fin grid0.N,
    (win0_0.index t = ![t.val / 4, 0, 0] ∧ win0_1.index t = ![t.val / 4, 0, 0] ∧ win0_2.index t = ![t.val / 4, 0, 0])
    ∧ (win0_3.index t = ![0, 0] ∧ win0_4.index t = ![0, 0] ∧ win0_5.index t = ![0, 0] ∧ win0_6.index t = ![0, 0])
    ∧ (win0_7.index t = ![0, 0] ∧ win0_8.index t = ![0, 0] ∧ win0_9.index t = ![0, 0])
    ∧ (grid0.coords t 1).val = t.val % 4 := by decide +kernel

/-- The batch of a point. -/
def batch (t : Fin cfg0.N) : Fin 16 := ⟨t.val / 4, by have h : cfg0.N = 64 := N_0; have := t.isLt; omega⟩

theorem blk0 (t : Fin cfg0.N) : iblk m c 0 t = bx0 m c (batch t) := by
  funext j
  show (V m c main_v11 : Vec Ideal S16x2048x896 .bf16) _ = (V m c main_v11 : Vec Ideal S16x2048x896 .bf16) _
  congr 1
  funext a
  apply Fin.ext
  show win0_0.index t a * win0_0.size a + 1 * (j a).val = _
  rw [(index_eq t).1.1]
  match a with
  | ⟨0, _⟩ => have h0 : (j 0).val < 1 := (j 0).isLt; show t.val / 4 * 1 + 1 * (j 0).val = t.val / 4; omega
  | ⟨1, _⟩ => show 0 * 2048 + 1 * (j 1).val = (j 1).val; omega
  | ⟨2, _⟩ => show 0 * 896 + 1 * (j 2).val = (j 2).val; omega

theorem blk1 (t : Fin cfg0.N) : iblk m c 1 t = bx1 m c (batch t) := by
  funext j
  show (V m c main_v21 : Vec Ideal S16x2048x128 .f32) _ = (V m c main_v21 : Vec Ideal S16x2048x128 .f32) _
  congr 1
  funext a
  apply Fin.ext
  show win0_1.index t a * win0_1.size a + 1 * (j a).val = _
  rw [(index_eq t).1.2.1]
  match a with
  | ⟨0, _⟩ => have h0 : (j 0).val < 1 := (j 0).isLt; show t.val / 4 * 1 + 1 * (j 0).val = t.val / 4; omega
  | ⟨1, _⟩ => show 0 * 2048 + 1 * (j 1).val = (j 1).val; omega
  | ⟨2, _⟩ => show 0 * 128 + 1 * (j 2).val = (j 2).val; omega

theorem blk2 (t : Fin cfg0.N) : iblk m c 2 t = bx2 m c (batch t) := by
  funext j
  show (V m c main_v25 : Vec Ideal S16x2048x128 .f32) _ = (V m c main_v25 : Vec Ideal S16x2048x128 .f32) _
  congr 1
  funext a
  apply Fin.ext
  show win0_2.index t a * win0_2.size a + 1 * (j a).val = _
  rw [(index_eq t).1.2.2]
  match a with
  | ⟨0, _⟩ => have h0 : (j 0).val < 1 := (j 0).isLt; show t.val / 4 * 1 + 1 * (j 0).val = t.val / 4; omega
  | ⟨1, _⟩ => show 0 * 2048 + 1 * (j 1).val = (j 1).val; omega
  | ⟨2, _⟩ => show 0 * 128 + 1 * (j 2).val = (j 2).val; omega

/-- An index whose coordinates are all kept is the index. -/
theorem kept2 {n k : ℕ} (i j : (⟨2, ![n, k]⟩ : Shape).Idx) (h0 : (i 0).val = (j 0).val) (h1 : (i 1).val = (j 1).val) : i = j := by
  funext a
  match a with
  | ⟨0, _⟩ => exact Fin.ext h0
  | ⟨1, _⟩ => exact Fin.ext h1

theorem blk3 (t : Fin cfg0.N) : (iblk m c 3 t : Vec Ideal S1x384 .f32) = V m c main_v26 := by
  funext j
  refine congrArg (V m c main_v26 : Vec Ideal S1x384 .f32) (kept2 _ _ ?_ ?_)
  · show win0_3.index t 0 * 1 + 1 * (j 0).val = _; rw [(index_eq t).2.1.1]; show 0 * 1 + 1 * (j 0).val = (j 0).val; omega
  · show win0_3.index t 1 * 384 + 1 * (j 1).val = _; rw [(index_eq t).2.1.1]; show 0 * 384 + 1 * (j 1).val = (j 1).val; omega

theorem blk4 (t : Fin cfg0.N) : (iblk m c 4 t : Vec Ideal S1x256 .f32) = V m c main_v27 := by
  funext j
  refine congrArg (V m c main_v27 : Vec Ideal S1x256 .f32) (kept2 _ _ ?_ ?_)
  · show win0_4.index t 0 * 1 + 1 * (j 0).val = _; rw [(index_eq t).2.1.2.1]; show 0 * 1 + 1 * (j 0).val = (j 0).val; omega
  · show win0_4.index t 1 * 256 + 1 * (j 1).val = _; rw [(index_eq t).2.1.2.1]; show 0 * 256 + 1 * (j 1).val = (j 1).val; omega

theorem blk5 (t : Fin cfg0.N) : (iblk m c 5 t : Vec Ideal S384x512 .bf16) = V m c main_v15 := by
  funext j
  refine congrArg (V m c main_v15 : Vec Ideal S384x512 .bf16) (kept2 _ _ ?_ ?_)
  · show win0_5.index t 0 * 384 + 1 * (j 0).val = _; rw [(index_eq t).2.1.2.2.1]; show 0 * 384 + 1 * (j 0).val = (j 0).val; omega
  · show win0_5.index t 1 * 512 + 1 * (j 1).val = _; rw [(index_eq t).2.1.2.2.1]; show 0 * 512 + 1 * (j 1).val = (j 1).val; omega

theorem blk6 (t : Fin cfg0.N) : (iblk m c 6 t : Vec Ideal S384x256 .bf16) = V m c main_v29 := by
  funext j
  refine congrArg (V m c main_v29 : Vec Ideal S384x256 .bf16) (kept2 _ _ ?_ ?_)
  · show win0_6.index t 0 * 384 + 1 * (j 0).val = _; rw [(index_eq t).2.1.2.2.2]; show 0 * 384 + 1 * (j 0).val = (j 0).val; omega
  · show win0_6.index t 1 * 256 + 1 * (j 1).val = _; rw [(index_eq t).2.1.2.2.2]; show 0 * 256 + 1 * (j 1).val = (j 1).val; omega

theorem blk7 (t : Fin cfg0.N) : (iblk m c 7 t : Vec Ideal S384x256 .bf16) = V m c main_v35 := by
  funext j
  refine congrArg (V m c main_v35 : Vec Ideal S384x256 .bf16) (kept2 _ _ ?_ ?_)
  · show win0_7.index t 0 * 384 + 1 * (j 0).val = _; rw [(index_eq t).2.2.1.1]; show 0 * 384 + 1 * (j 0).val = (j 0).val; omega
  · show win0_7.index t 1 * 256 + 1 * (j 1).val = _; rw [(index_eq t).2.2.1.1]; show 0 * 256 + 1 * (j 1).val = (j 1).val; omega

theorem blk8 (t : Fin cfg0.N) : (iblk m c 8 t : Vec Ideal S256x512 .bf16) = V m c main_v38 := by
  funext j
  refine congrArg (V m c main_v38 : Vec Ideal S256x512 .bf16) (kept2 _ _ ?_ ?_)
  · show win0_8.index t 0 * 256 + 1 * (j 0).val = _; rw [(index_eq t).2.2.1.2.1]; show 0 * 256 + 1 * (j 0).val = (j 0).val; omega
  · show win0_8.index t 1 * 512 + 1 * (j 1).val = _; rw [(index_eq t).2.2.1.2.1]; show 0 * 512 + 1 * (j 1).val = (j 1).val; omega

theorem blk9 (t : Fin cfg0.N) : (iblk m c 9 t : Vec Ideal S256x512 .bf16) = V m c main_v41 := by
  funext j
  refine congrArg (V m c main_v41 : Vec Ideal S256x512 .bf16) (kept2 _ _ ?_ ?_)
  · show win0_9.index t 0 * 256 + 1 * (j 0).val = _; rw [(index_eq t).2.2.1.2.2]; show 0 * 256 + 1 * (j 0).val = (j 0).val; omega
  · show win0_9.index t 1 * 512 + 1 * (j 1).val = _; rw [(index_eq t).2.2.1.2.2]; show 0 * 512 + 1 * (j 1).val = (j 1).val; omega

/-- The three scratch arrays of batch `b`. -/
def XQ (b : Fin 16) : Vec Ideal S4x2048x256 .bf16 :=
  View.canon (Scratch.qlist (bx0 m c b) (bx1 m c b) (bx2 m c b) (V m c main_v26) (V m c main_v15) (V m c main_v29) (V m c main_v35))
def XK (b : Fin 16) : Vec Ideal S4x2048x256 .bf16 :=
  View.canon (Scratch.klist (bx0 m c b) (bx1 m c b) (bx2 m c b) (V m c main_v27) (V m c main_v38))
def XV (b : Fin 16) : Vec Ideal S4x2048x128 .bf16 :=
  View.canon (Scratch.vlist (bx0 m c b) (V m c main_v27) (V m c main_v41))

theorem first (t : Fin cfg0.N) (h0 : t.val % 4 = 0) :
    outsAt0 m c t.val t.isLt = (View.canon (Scratch.olist (grid0.coords t) (XQ m c (batch t)) (XK m c (batch t)) (XV m c (batch t))), XQ m c (batch t), XK m c (batch t), XV m c (batch t)) := by
  rw [outsAt0_A m c t h0, Scratch.out_A, Scratch.sout_q, Scratch.sout_k, Scratch.sout_v,
    blk0, blk1, blk2, blk3, blk4, blk5, blk6, blk7, blk8, blk9]
  rfl

theorem later (t : Fin cfg0.N) (h0 : ¬t.val % 4 = 0) (xq xk : Vec Ideal S4x2048x256 .bf16) (xv : Vec Ideal S4x2048x128 .bf16)
    (h : (outsAt0 m c (t.val - 1) (Nat.lt_of_le_of_lt (Nat.sub_le _ _) t.isLt)).2 = (xq, xk, xv)) :
    outsAt0 m c t.val t.isLt = (View.canon (Scratch.olist (grid0.coords t) xq xk xv), xq, xk, xv) := by
  rw [outsAt0_B m c t h0, Scratch.out_B, h]
  rfl

/-- The state after every point. -/
theorem state (n : ℕ) : ∀ hn : n < cfg0.N, outsAt0 m c n hn
    = (View.canon (Scratch.olist (grid0.coords ⟨n, hn⟩) (XQ m c (batch ⟨n, hn⟩)) (XK m c (batch ⟨n, hn⟩)) (XV m c (batch ⟨n, hn⟩))),
        XQ m c (batch ⟨n, hn⟩), XK m c (batch ⟨n, hn⟩), XV m c (batch ⟨n, hn⟩)) := by
  induction n with
  | zero => intro hn; exact first m c ⟨0, hn⟩ (Nat.zero_mod _)
  | succ n ih =>
    intro hn
    by_cases h0 : (n + 1) % 4 = 0
    · exact first m c ⟨n + 1, hn⟩ h0
    · have hb : batch ⟨n + 1, hn⟩ = batch ⟨n, Nat.lt_of_succ_lt hn⟩ := Fin.ext (by show (n + 1) / 4 = n / 4; omega)
      rw [hb]
      exact later m c ⟨n + 1, hn⟩ h0 _ _ _ (congrArg Prod.snd (ih (Nat.lt_of_succ_lt hn)))

section Tiles
variable (p : Fin 4)

theorem ld_apply {k : ℕ} {e : EltTy} (x : Vec Ideal ⟨3, ![4, 2048, k]⟩ e) (off : Fin 3 → ℕ) (n : ℕ) (hn : n < 8) (h : off = ![p.val, 256 * n, 0])
    (inb : ∀ a, off a + (![1, 256, k] : Fin 3 → ℕ) a ≤ (⟨3, ![4, 2048, k]⟩ : Shape).size a) (s : Fin 256) (l : Fin k) :
    View.ld x (Rect.unit (s := ⟨3, ![4, 2048, k]⟩) off ![1, 256, k] inb) (ix3 0 s l) = x (ix3 p ⟨256 * n + s.val, by omega⟩ l) := by
  subst h
  refine congrArg x ((Scratch.unit_emb_ix3 (n := 4) (m := 2048) (k := k) p.val (256 * n) 0 inb 0 s l).trans ?_)
  simp only [Nat.zero_add, Fin.eta]; rfl

variable (i : grid0.Coords) (hp : (i 1).val = p.val)

include hp in
theorem tiles_apply (x : Vec Ideal S4x2048x256 .bf16) (n : ℕ) (hn : n < 8) (s l : Fin 256) :
    Block.tiles i x n (ix3 0 s l) = x (ix3 p ⟨256 * n + s.val, by omega⟩ l) := by
  match n with
  | 0 => exact ld_apply p x _ 0 hn ((k0_off1_eq i).trans (by rw [hp])) _ s l
  | 1 => exact ld_apply p x _ 1 hn ((k0_off3_eq i).trans (by rw [hp])) _ s l
  | 2 => exact ld_apply p x _ 2 hn ((k0_off5_eq i).trans (by rw [hp])) _ s l
  | 3 => exact ld_apply p x _ 3 hn ((k0_off7_eq i).trans (by rw [hp])) _ s l
  | 4 => exact ld_apply p x _ 4 hn ((k0_off9_eq i).trans (by rw [hp])) _ s l
  | 5 => exact ld_apply p x _ 5 hn ((k0_off11_eq i).trans (by rw [hp])) _ s l
  | 6 => exact ld_apply p x _ 6 hn ((k0_off13_eq i).trans (by rw [hp])) _ s l
  | 7 => exact ld_apply p x _ 7 hn ((k0_off15_eq i).trans (by rw [hp])) _ s l

include hp in
theorem vtiles_apply (x : Vec Ideal S4x2048x128 .bf16) (n : ℕ) (hn : n < 8) (s : Fin 256) (l : Fin 128) :
    Block.vtiles i x n (ix3 0 s l) = x (ix3 p ⟨256 * n + s.val, by omega⟩ l) := by
  match n with
  | 0 => exact ld_apply p x _ 0 hn ((k0_off2_eq i).trans (by rw [hp])) _ s l
  | 1 => exact ld_apply p x _ 1 hn ((k0_off4_eq i).trans (by rw [hp])) _ s l
  | 2 => exact ld_apply p x _ 2 hn ((k0_off6_eq i).trans (by rw [hp])) _ s l
  | 3 => exact ld_apply p x _ 3 hn ((k0_off8_eq i).trans (by rw [hp])) _ s l
  | 4 => exact ld_apply p x _ 4 hn ((k0_off10_eq i).trans (by rw [hp])) _ s l
  | 5 => exact ld_apply p x _ 5 hn ((k0_off12_eq i).trans (by rw [hp])) _ s l
  | 6 => exact ld_apply p x _ 6 hn ((k0_off14_eq i).trans (by rw [hp])) _ s l
  | 7 => exact ld_apply p x _ 7 hn ((k0_off16_eq i).trans (by rw [hp])) _ s l

end Tiles

/-- One entry of what a step stores. -/
theorem olist_apply (i : grid0.Coords) (xq xk : Vec Ideal S4x2048x256 .bf16) (xv : Vec Ideal S4x2048x128 .bf16) (G : Fin 2048 → Fin 128 → EReal)
    (h : ∀ (n : Fin 8) (s : Fin 256) (d : Fin 128), (Block.att i xq xk xv n.val (ix3 0 s d) : EReal) = G ⟨256 * n.val + s.val, by omega⟩ d)
    (q : Fin 2048) (d : Fin 128) : (View.canon (Scratch.olist i xq xk xv) (ix3 0 q d) : EReal) = G q d := by
  have hL : View.Piece.tiledL (Scratch.olist i xq xk xv) ![1, 256, 128] = true := by sl_kernel_rfl
  have hp (n : Fin 8) (x : S1x256x128.Idx) : (Block.att i xq xk xv n.val x : EReal) = (fun y : S1x2048x128.Idx => G (y 1) (y 2))
      ((Rect.unit (s := S1x2048x128) ![0, 256 * n.val, 0] S1x256x128.size (Scratch.inbO n)).emb x) := by
    obtain ⟨u, s, l, rfl⟩ : ∃ (u : Fin 1) (s : Fin 256) (l : Fin 128), x = ix3 u s l := ⟨x 0, x 1, x 2, eq_ix3 (n0 := 1) (n1 := 256) (n2 := 128) x⟩
    obtain rfl : u = 0 := Subsingleton.elim _ _
    refine (h n s l).trans (.trans ?_ (congrArg (fun y : S1x2048x128.Idx => G (y 1) (y 2)) (Scratch.unit_emb_ix3 (n := 1) (m := 2048) (k := 128) 0 (256 * n.val) 0 (Scratch.inbO n) 0 s l)).symm)
    show G ⟨256 * n.val + s.val, _⟩ l = G ⟨256 * n.val + s.val, _⟩ ⟨0 + l.val, _⟩
    simp only [Nat.zero_add, Fin.eta]
  refine View.canon_apply_of_pieces (fun y : S1x2048x128.Idx => G (y 1) (y 2)) _ (fun t ht => ?_) _ (View.cover_of_tiledL _ _ hL _)
  simp only [Scratch.olist, List.mem_cons, List.not_mem_nil, or_false] at ht
  rcases ht with rfl | rfl | rfl | rfl | rfl | rfl | rfl | rfl <;> exact hp _

end Cert.MlaIdeal.State
end
-- ==== Proof.Softmax.lean ====
module

public import Idealize.ShloMosaic.Lib.Pipeline.ValueKit
public import proofs.«01_k».proof.Proof.Rows

/-!
The weighted mean a softmax takes, over the reals, and the two ways it is computed over the extended
reals: weights `exp (s - M)` divided by their sum before the product with the values, and weights
`exp2 (s - M)` whose product with the values is divided by their sum. A hidden key has score `-∞`. The
number `M` subtracted may be any real.
-/

@[expose] public section

noncomputable section

open Idealize.ShloMosaic

namespace Cert.Softmax

/-- A sum of reals, taken over the extended reals. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The quotient of two reals. -/
theorem div_real {x y : ℝ} (hy : y ≠ 0) : Ideal.div (x : EReal) (y : EReal) = ((x / y : ℝ) : EReal) := by
  rw [Ideal.div, if_neg (by exact_mod_cast hy), ← EReal.coe_inv, ← EReal.coe_mul, div_eq_mul_inv]

variable {ι : Type*} [Fintype ι] (vis : ι → Prop) [DecidablePred vis] (a v : ι → ℝ)

/-- The score of a key: `-∞` when the key is hidden. -/
def score (k : ι) : EReal := if vis k then (a k : EReal) else ⊥

/-- The mean of the visible values, weighted by the exponentials of their scores. -/
def mean : ℝ := (∑ k, (if vis k then Real.exp (a k) else 0) * v k) / ∑ k, if vis k then Real.exp (a k) else 0

/-- A common factor of the weights cancels. -/
theorem mean_of_weights (w : ι → ℝ) (t : ℝ) (ht : 0 < t) (hw : ∀ k, w k = (if vis k then Real.exp (a k) else 0) * t) :
    (∑ k, w k * v k) / ∑ k, w k = mean vis a v := by
  have h1 : ∑ k, w k * v k = (∑ k, (if vis k then Real.exp (a k) else 0) * v k) * t := by
    rw [Finset.sum_mul]; exact Finset.sum_congr rfl fun k _ => by rw [hw]; ring
  have h2 : ∑ k, w k = (∑ k, if vis k then Real.exp (a k) else 0) * t := by
    rw [Finset.sum_mul]; exact Finset.sum_congr rfl fun k _ => hw k
  rw [h1, h2, mul_div_mul_right _ _ ht.ne', mean]

/-- The weights' sum is positive once a key is visible. -/
theorem sum_pos (w : ι → ℝ) (t : ℝ) (ht : 0 < t) (hw : ∀ k, w k = (if vis k then Real.exp (a k) else 0) * t)
    (k₀ : ι) (h₀ : vis k₀) : 0 < ∑ k, w k := by
  refine Finset.sum_pos' (fun k _ => ?_) ⟨k₀, Finset.mem_univ _, ?_⟩
  · rw [hw]; split_ifs
    · exact (mul_pos (Real.exp_pos _) ht).le
    · simp
  · rw [hw, if_pos h₀]; exact mul_pos (Real.exp_pos _) ht

/-- Natural weights, divided before the product. -/
theorem mean_exp (m : ℝ) (k₀ : ι) (h₀ : vis k₀) (s : ι → EReal) (hs : ∀ k, s k = score vis a k) :
    ∑ k, (v k : EReal) * Ideal.div (Ideal.exp (s k - (m : EReal))) (∑ j, Ideal.exp (s j - (m : EReal)))
      = ((mean vis a v : ℝ) : EReal) := by
  set w : ι → ℝ := fun k => (if vis k then Real.exp (a k) else 0) * Real.exp (-m) with hw
  have he (k : ι) : Ideal.exp (s k - (m : EReal)) = (w k : EReal) := by
    rw [hs, score, hw]; dsimp only
    split_ifs
    · rw [← EReal.coe_sub, Ideal.exp_coe, sub_eq_add_neg, Real.exp_add]
    · rw [EReal.bot_sub, Ideal.exp_bot, zero_mul, EReal.coe_zero]
  have hp := sum_pos vis a w _ (Real.exp_pos (-m)) (fun _ => rfl) k₀ h₀
  simp only [he, ← coe_sum]
  rw [← mean_of_weights vis a v w _ (Real.exp_pos (-m)) fun _ => rfl, Finset.sum_div]
  refine Eq.trans (Finset.sum_congr rfl fun k _ => ?_) (coe_sum _ _).symm
  rw [div_real hp.ne', ← EReal.coe_mul]
  congr 1; ring

/-- Weights by powers of two, divided after the product. -/
theorem mean_exp2 (m : ℝ) (k₀ : ι) (h₀ : vis k₀) (s : ι → EReal) (hs : ∀ k, s k = score vis (fun k => a k / Real.log 2) k) :
    (∑ k, Ideal.exp2 (s k - (m : EReal)) * (v k : EReal)) * Ideal.div 1 (∑ k, Ideal.exp2 (s k - (m : EReal)))
      = ((mean vis a v : ℝ) : EReal) := by
  set t : ℝ := Real.exp (-(m * Real.log 2)) with ht
  set w : ι → ℝ := fun k => (if vis k then Real.exp (a k) else 0) * t with hw
  have hl : Real.log 2 ≠ 0 := (Real.log_pos one_lt_two).ne'
  have he (k : ι) : Ideal.exp2 (s k - (m : EReal)) = (w k : EReal) := by
    rw [hs, score, hw]; dsimp only
    split_ifs
    · rw [← EReal.coe_sub, Ideal.exp2_coe, Real.rpow_eq_pow, Real.rpow_def_of_pos two_pos, ht, ← Real.exp_add]
      congr 2; field_simp; ring
    · rw [EReal.bot_sub, Ideal.exp2_bot, zero_mul, EReal.coe_zero]
  have hp := sum_pos vis a w t (Real.exp_pos _) (fun _ => rfl) k₀ h₀
  simp only [he, ← EReal.coe_mul, ← coe_sum]
  rw [← mean_of_weights vis a v w t (Real.exp_pos _) fun _ => rfl, ← EReal.coe_one, div_real hp.ne', ← EReal.coe_mul]
  congr 1; ring

/-- A maximum of scores below `+∞`, one of them above `-∞`, is a real. -/
theorem real_of_lt {x : EReal} (h0 : ⊥ < x) (h1 : x < ⊤) : ∃ m : ℝ, x = (m : EReal) :=
  ⟨x.toReal, (EReal.coe_toReal h1.ne h0.ne').symm⟩

theorem score_lt_top (k : ι) : score vis a k < ⊤ := by
  unfold score; split_ifs
  · exact EReal.coe_lt_top _
  · exact bot_lt_top

theorem bot_lt_score (k : ι) (h : vis k) : ⊥ < score vis a k := by
  rw [score, if_pos h]; exact EReal.bot_lt_coe _

/-- A sum over the tiles up to the diagonal is the sum over all keys, when the keys past the diagonal give zero. -/
theorem sum_tiles {α : Type*} [AddCommMonoid α] (f : Fin 2048 → α) (n : ℕ) (hn : n < 8)
    (hz : ∀ k : Fin 2048, 256 * (n + 1) ≤ k.val → f k = 0) (g : ℕ → Fin 256 → α)
    (hg : ∀ (j : ℕ) (c : Fin 256) (h : j ≤ n), g j c = f ⟨256 * j + c.val, by omega⟩) :
    ∑ j ∈ Finset.range (n + 1), ∑ c, g j c = ∑ k, f k := by
  rw [Finset.sum_fin_eq_sum_range]
  set F : ℕ → α := fun i => if h : i < 2048 then f ⟨i, h⟩ else 0 with hF
  have h1 (k : ℕ) (hk : k ≤ n + 1) : ∑ j ∈ Finset.range k, ∑ c, g j c = ∑ i ∈ Finset.range (256 * k), F i := by
    induction k with
    | zero => simp
    | succ k ih =>
      rw [Finset.sum_range_succ, ih (by omega), Nat.mul_succ, Finset.sum_range_add, Finset.sum_fin_eq_sum_range]
      congr 1
      refine Finset.sum_congr rfl fun c hc => ?_
      have hc := Finset.mem_range.1 hc
      rw [dif_pos hc, hg k ⟨c, hc⟩ (by omega), hF]
      dsimp only
      rw [dif_pos (by omega)]
  rw [h1 (n + 1) le_rfl]
  refine Finset.sum_subset (fun i hi => Finset.mem_range.2 ?_) fun i hi hi' => ?_
  · have := Finset.mem_range.1 hi; omega
  · have h2 := Finset.mem_range.1 hi
    rw [Finset.mem_range] at hi'
    rw [hF]; dsimp only; rw [dif_pos h2]
    exact hz _ (by simpa using hi')

end Cert.Softmax
end
-- ==== Proof.Stages.lean ====
module

public import proofs.«01_k».proof.Proof.Softmax

/-!
The attention of one batch in plain functions: normed rows, their products with the weights' columns,
the rotation, and a query's score against a key. Each is stated over the extended reals, with a
counterpart over the reals that it equals when the arguments are finite.
-/

@[expose] public section

noncomputable section

open Idealize.ShloMosaic

namespace Cert.Att

/-- The arguments as one batch sees them: the rows of `c_q`, `c_kv` and `k_rope`, the two norm weights, the two weight
    matrices, and the rotation's cosines and sines. -/
structure Args (α : Type) where
  cq : Fin 2048 → Fin 384 → α
  ckv : Fin 2048 → Fin 256 → α
  kr : Fin 2048 → Fin 32 → α
  qn : Fin 384 → α
  wq : Fin 384 → Fin 768 → α
  kn : Fin 256 → α
  wkv : Fin 256 → Fin 1024 → α
  cos : Fin 2048 → Fin 16 → α
  sin : Fin 2048 → Fin 16 → α

/-- Finite arguments as extended reals. -/
def Args.up (B : Args ℝ) : Args EReal where
  cq r k := B.cq r k
  ckv r k := B.ckv r k
  kr r k := B.kr r k
  qn k := B.qn k
  wq k j := B.wq k j
  kn k := B.kn k
  wkv k j := B.wkv k j
  cos r k := B.cos r k
  sin r k := B.sin r k

section Ext
variable (A : Args EReal)

/-- A normed query row. -/
def nq (r : Fin 2048) : Fin 384 → EReal := Rows.rms (Ideal.ofBits .f32 0x43C00000#32) (A.cq r) A.qn
/-- A normed key row. -/
def nk (r : Fin 2048) : Fin 256 → EReal := Rows.rms (Ideal.ofBits .f32 0x43800000#32) (A.ckv r) A.kn
/-- A normed query row times a column of the query weights. -/
def qcol (r : Fin 2048) (j : Fin 768) : EReal := Rows.dot (nq A r) fun k => A.wq k j
/-- A normed key row times a column of the key and value weights. -/
def kcol (r : Fin 2048) (j : Fin 1024) : EReal := Rows.dot (nk A r) fun k => A.wkv k j
end Ext

/-- A row rotated: its halves `x₁, x₂` go to `x₁ cos - x₂ sin` and `x₂ cos + x₁ sin`. -/
def rot {α : Type} [Add α] [Sub α] [Mul α] (x : Fin 32 → α) (c s : Fin 16 → α) (t : Fin 32) : α :=
  if h : t.val < 16 then x t * c ⟨t.val, h⟩ - x ⟨16 + t.val, by omega⟩ * s ⟨t.val, h⟩
  else x t * c ⟨t.val - 16, by omega⟩ + x ⟨t.val - 16, by omega⟩ * s ⟨t.val - 16, by omega⟩

section Real
variable (B : Args ℝ)

/-- The number under the root's floor. -/
def eps : ℝ := (8796093 : ℝ) / 2 ^ 43

/-- A real row over its root mean square, times the weight. -/
def rms {n : ℕ} (size : ℝ) (h w : Fin n → ℝ) (k : Fin n) : ℝ := h k * (Real.sqrt ((∑ x, h x * h x) / size + eps))⁻¹ * w k

def qcolR (r : Fin 2048) (j : Fin 768) : ℝ := ∑ k, rms 384 (B.cq r) B.qn k * B.wq k j
def kcolR (r : Fin 2048) (j : Fin 1024) : ℝ := ∑ k, rms 256 (B.ckv r) B.kn k * B.wkv k j

/-- Lane `d` of head `h` of a query. -/
def qR (r : Fin 2048) (h : Fin 8) (d : Fin 64) : ℝ := qcolR B r ⟨h.val * 96 + d.val, by omega⟩
/-- Lane `d` of head `h` of a key. -/
def kR (r : Fin 2048) (h : Fin 8) (d : Fin 64) : ℝ := kcolR B r ⟨h.val * 128 + d.val, by omega⟩
/-- Lane `d` of head `h` of a value. -/
def vR (r : Fin 2048) (h : Fin 8) (d : Fin 64) : ℝ := kcolR B r ⟨h.val * 128 + (64 + d.val), by omega⟩
/-- Lane `t` of the rotated part of head `h` of a query. -/
def qrotR (r : Fin 2048) (h : Fin 8) (t : Fin 32) : ℝ :=
  rot (fun t => qcolR B r ⟨h.val * 96 + (64 + t.val), by omega⟩) (B.cos r) (B.sin r) t
/-- Lane `t` of the rotated part of a key, shared by the heads. -/
def krotR (r : Fin 2048) (t : Fin 32) : ℝ := rot (B.kr r) (B.cos r) (B.sin r) t

/-- The score of key `k` for query `q` of head `h`. -/
def alpha (h : Fin 8) (q k : Fin 2048) : ℝ :=
  (∑ d, qR B q h d * kR B k h d + ∑ t, qrotR B q h t * krotR B k t) / Real.sqrt 96

/-- A query sees the keys of its own and earlier blocks of 64. -/
def sees (q k : Fin 2048) : Prop := k.val / 64 ≤ q.val / 64
instance (q : Fin 2048) : DecidablePred (sees q) := fun k => inferInstanceAs (Decidable (k.val / 64 ≤ q.val / 64))

/-- Lane `d` of head `h` of the attention's result at query `q`. -/
def out (q : Fin 2048) (h : Fin 8) (d : Fin 64) : ℝ := Softmax.mean (sees q) (alpha B h q) fun k => vR B k h d

theorem ofBits_384 : Ideal.ofBits .f32 0x43C00000#32 = ((384 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_96 : Ideal.ofBits .f32 0x42C00000#32 = ((96 : ℝ) : EReal) := by
  simp [Ideal.ofBits, Ideal.ieee, -EReal.coe_mul]; norm_num
theorem ofBits_eps : Ideal.ofBits .f32 0x358637BD#32 = ((eps : ℝ) : EReal) := by
  simp [Ideal.ofBits, Ideal.ieee, eps, -EReal.coe_mul]; norm_num
theorem ofBits_bot : Ideal.ofBits .f32 0xFF800000#32 = ⊥ := by
  simp [Ideal.ofBits, Ideal.ieee]

theorem rms_up {n : ℕ} (size : ℝ) (hs : 0 < size) (h w : Fin n → ℝ) (k : Fin n) :
    Rows.rms (size : EReal) (fun k => (h k : EReal)) (fun k => (w k : EReal)) k = ((rms size h w k : ℝ) : EReal) := by
  have h0 : 0 < (∑ x, h x * h x) / size + eps :=
    add_pos_of_nonneg_of_pos (div_nonneg (Finset.sum_nonneg fun x _ => mul_self_nonneg _) hs.le) (by norm_num [eps])
  have h1 : (∑ x, (h x : EReal) * (h x : EReal)) = ((∑ x, h x * h x : ℝ) : EReal) := by
    rw [Softmax.coe_sum]; exact Finset.sum_congr rfl fun x _ => (EReal.coe_mul _ _).symm
  unfold Rows.rms rms
  rw [h1, Softmax.div_real hs.ne', ofBits_eps, ← EReal.coe_add, Ideal.rsqrt_coe, if_neg h0.le.not_gt, if_neg h0.ne',
    ← EReal.coe_mul, ← EReal.coe_mul]

theorem dot_up {n : ℕ} (x w : Fin n → ℝ) : Rows.dot (fun k => (x k : EReal)) (fun k => (w k : EReal)) = ((∑ k, x k * w k : ℝ) : EReal) := by
  rw [Softmax.coe_sum]; exact Finset.sum_congr rfl fun k _ => (EReal.coe_mul _ _).symm

theorem nq_up (r : Fin 2048) : nq B.up r = fun k => ((rms 384 (B.cq r) B.qn k : ℝ) : EReal) := by
  funext k; unfold nq; rw [ofBits_384]; exact rms_up 384 (by norm_num) _ _ k
theorem nk_up (r : Fin 2048) : nk B.up r = fun k => ((rms 256 (B.ckv r) B.kn k : ℝ) : EReal) := by
  funext k; unfold nk; rw [ofBits_256]; exact rms_up 256 (by norm_num) _ _ k

theorem qcol_up (r : Fin 2048) (j : Fin 768) : qcol B.up r j = ((qcolR B r j : ℝ) : EReal) := by
  unfold qcol; rw [nq_up]; exact dot_up _ _
theorem kcol_up (r : Fin 2048) (j : Fin 1024) : kcol B.up r j = ((kcolR B r j : ℝ) : EReal) := by
  unfold kcol; rw [nk_up]; exact dot_up _ _

theorem rot_up (x : Fin 32 → ℝ) (c s : Fin 16 → ℝ) (t : Fin 32) :
    rot (fun t => (x t : EReal)) (fun t => (c t : EReal)) (fun t => (s t : EReal)) t = ((rot x c s t : ℝ) : EReal) := by
  unfold rot; split_ifs
  · rw [EReal.coe_sub, EReal.coe_mul, EReal.coe_mul]
  · rw [EReal.coe_add, EReal.coe_mul, EReal.coe_mul]

end Real

end Cert.Att
end
-- ==== Proof.MlaMask.lean ====
module

public import proofs.«01_k».proof.Proof.MlaBlock
public import proofs.«01_k».proof.Proof.Stages
public import Idealize.ShloMosaic.Lib.Pointwise

@[expose] public section

set_option maxRecDepth 16384
set_option backward.proofsInPublic true

noncomputable section

/-! The two masks of a query block, and one head of a block at an index: the mean of the values over the
    keys a query sees. -/

open Idealize.ShloMosaic Idealize.ShloMosaic.TcCoe Idealize.SL.Sem

namespace Cert.MlaIdeal.Block

open Cert.MlaIdeal Cert.MlaIdeal.Gen
open Cert.Att (sees)

/-- The lanes of head `hh` of pair `p`. -/
def lane (p : Fin 4) (hh : Fin 2) (l : Fin 256) : Prop :=
  if l.val < 128 then l.val / 64 = hh.val else (l.val - 128) / 32 = p.val % 2 * 2 + hh.val
instance (p : Fin 4) (hh : Fin 2) (l : Fin 256) : Decidable (lane p hh l) :=
  inferInstanceAs (Decidable (if l.val < 128 then l.val / 64 = hh.val else (l.val - 128) / 32 = p.val % 2 * 2 + hh.val))

theorem own_eq : ∀ (p : Fin 4) (hh : Fin 2) (l : Fin 256), own (BitVec.ofNat 32 p.val) (BitVec.ofNat 32 hh.val) (ix2 0 l)
    = if lane p hh l then 1#1 else 0#1 := by
  decide +kernel

/-- The block of 64 a row lies in, in the kernel's own arithmetic. -/
theorem block_of : ∀ c : Fin 256,
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) = BitVec.ofNat 32 (c.val / 64) := by
  decide +kernel

theorem sle_of : ∀ a b : Fin 4, IntOp.cmpi CmpIPredicate.sle (BitVec.ofNat 32 a.val) (BitVec.ofNat 32 b.val) = if a.val ≤ b.val then 1#1 else 0#1 := by
  decide

theorem diag_eq (r c : Fin 256) : diag (ix2 r c) = if c.val / 64 ≤ r.val / 64 then 1#1 else 0#1 := by
  pointwise [diag, k0_pay211, k0_pay208, k0_pay209, k0_pay210]
  rw [block_of, block_of]
  exact sle_of ⟨c.val / 64, by omega⟩ ⟨r.val / 64, by omega⟩

theorem select_eq {α : Type} (P : Prop) [Decidable P] (a b : α) : Scalar.select (if P then 1#1 else 0#1) a b = if P then a else b := by
  split_ifs <;> rfl

theorem slt_of : ∀ d : Fin 128, IntOp.cmpi CmpIPredicate.slt (BitVec.ofNat 32 d.val) 64#32 = if d.val < 64 then 1#1 else 0#1 := by
  decide +kernel

/-- The left fold of sums at an index is the sum. -/
theorem fold_add {s : Shape} (f : ℕ → FVec Ideal s .f32) (n : ℕ) (i : s.Idx) :
    (fold addf f n i : EReal) = ∑ j ∈ Finset.range (n + 1), (f j i : EReal) := by
  induction n with
  | zero => simp [fold]
  | succ n ih => rw [Finset.sum_range_succ, ← ih]; rfl

/-- The left fold of maxima at an index, from below and from above. -/
theorem fold_max_ge {s : Shape} (f : ℕ → FVec Ideal s .f32) (n : ℕ) (i : s.Idx) : (f n i : EReal) ≤ (fold maximumf f n i : EReal) := by
  cases n with
  | zero => exact le_rfl
  | succ n => exact le_max_right (fold maximumf f n i : EReal) (f (n + 1) i : EReal)

theorem fold_max_top {s : Shape} (f : ℕ → FVec Ideal s .f32) (n : ℕ) (i : s.Idx) (h : ∀ j ≤ n, (f j i : EReal) < ⊤) :
    (fold maximumf f n i : EReal) < ⊤ := by
  induction n with
  | zero => exact h 0 le_rfl
  | succ n ih => exact max_lt (α := EReal) (ih fun j hj => h j (by omega)) (h (n + 1) le_rfl)

theorem dotk_apply (p hh : BitVec 32) (q k : Vec Ideal S1x256x256 .bf16) (s c : Fin 256) :
    (dotk p hh q k (ix2 s c) : EReal) = ∑ x : Fin 256, Scalar.select (own p hh (ix2 0 x)) ((q (ix3 0 s x) : EReal) * (k (ix3 0 c x) : EReal)) 0 := by
  pointwise [dotk, query]

theorem top_apply (s : ℕ → FVec Ideal S256x256 .f32) (n : ℕ) (r : Fin 256) :
    (top s n (ix2 r 0) : EReal) = Finset.fold max (Ideal.ofBits .f32 4286578688#32) (fun x : Fin 256 => (fold maximumf s n (ix2 r x) : EReal)) Finset.univ := by
  pointwise [top]

theorem wt_apply (s : ℕ → FVec Ideal S256x256 .f32) (m : FVec Ideal S256x1 .f32) (j : ℕ) (r c : Fin 256) :
    (wt s m j (ix2 r c) : EReal) = Ideal.exp2 ((s j (ix2 r c) : EReal) - (m (ix2 r 0) : EReal)) := by
  pointwise [wt]; rfl

theorem wsum_apply (s : ℕ → FVec Ideal S256x256 .f32) (n : ℕ) (r : Fin 256) :
    (wsum s n (ix2 r 0) : EReal) = ∑ x : Fin 256, (fold addf s n (ix2 r x) : EReal) := by
  pointwise [wsum]

theorem part_apply (w : FVec Ideal S256x256 .f32) (v : Vec Ideal S1x256x128 .bf16) (r : Fin 256) (d : Fin 128) :
    (part w v (ix2 r d) : EReal) = ∑ x : Fin 256, (w (ix2 r x) : EReal) * (v (ix3 0 x d) : EReal) := by
  pointwise [part]

theorem head_apply (s : ℕ → FVec Ideal S256x256 .f32) (v : ℕ → Vec Ideal S1x256x128 .bf16) (n : ℕ) (r : Fin 256) (d : Fin 128) :
    (head s v n (ix2 r d) : EReal) = (fold addf (fun j => part (wt s (top s n) j) (v j)) n (ix2 r d) : EReal)
      * Ideal.div 1 (wsum (wt s (top s n)) n (ix2 r 0) : EReal) := by
  pointwise [head]

theorem block_apply (p : BitVec 32) (n : ℕ) (q : Vec Ideal S1x256x256 .bf16) (k : ℕ → Vec Ideal S1x256x256 .bf16)
    (v : ℕ → Vec Ideal S1x256x128 .bf16) (s : Fin 256) (d : Fin 128) :
    (block p n q k v (ix3 0 s d) : EReal) = if d.val < 64 then (head (score p 0#32 n q k) v n (ix2 s d) : EReal) else (head (score p 1#32 n q k) v n (ix2 s d) : EReal) := by
  rw [← select_eq, ← slt_of]
  pointwise [block]

section Real

variable (p : Fin 4) (hh : Fin 2) (n : ℕ) (hn : n < 8) (q : Vec Ideal S1x256x256 .bf16) (k : ℕ → Vec Ideal S1x256x256 .bf16)
  (v : ℕ → Vec Ideal S1x256x128 .bf16) (Q : Fin 256 → ℝ) (K : Fin 2048 → Fin 256 → ℝ) (s : Fin 256) (d : Fin 128) (V : Fin 2048 → ℝ)
  (hq : ∀ l, (q (ix3 0 s l) : EReal) = (Q l : EReal))
  (hk : ∀ (j : ℕ) (c l : Fin 256) (h : j ≤ n), (k j (ix3 0 c l) : EReal) = (K ⟨256 * j + c.val, by omega⟩ l : EReal))
  (hv : ∀ (j : ℕ) (c : Fin 256) (h : j ≤ n), (v j (ix3 0 c d) : EReal) = (V ⟨256 * j + c.val, by omega⟩ : EReal))

/-- The product of a query and a key over the lanes of one head. -/
def prod (Q : Fin 256 → ℝ) (K : Fin 2048 → Fin 256 → ℝ) (c : Fin 2048) : ℝ := ∑ l, if lane p hh l then Q l * K c l else 0

include hq hk in
theorem dotk_real (j : ℕ) (c : Fin 256) (h : j ≤ n) :
    (dotk (BitVec.ofNat 32 p.val) (BitVec.ofNat 32 hh.val) q (k j) (ix2 s c) : EReal) = (prod p hh Q K ⟨256 * j + c.val, by omega⟩ : EReal) := by
  rw [dotk_apply, prod, Softmax.coe_sum]
  refine Finset.sum_congr rfl fun l _ => ?_
  rw [own_eq, select_eq, hq, hk j c l h]
  split_ifs
  · rw [EReal.coe_mul]
  · rfl

include hq hk in
theorem score_real (j : ℕ) (c : Fin 256) (h : j ≤ n) :
    (score (BitVec.ofNat 32 p.val) (BitVec.ofNat 32 hh.val) n q k j (ix2 s c) : EReal)
      = Softmax.score (sees ⟨256 * n + s.val, by omega⟩) (prod p hh Q K) ⟨256 * j + c.val, by omega⟩ := by
  unfold score Softmax.score
  by_cases hj : j = n
  · subst hj
    rw [if_pos rfl]
    have e : ((select diag (dotk (BitVec.ofNat 32 p.val) (BitVec.ofNat 32 hh.val) q (k j))
        (broadcast S256x256 (Scalar.ofBits .f32 0xFF800000#32 : Ideal .f32)) (ix2 s c) : EReal))
        = Scalar.select (diag (ix2 s c)) (dotk (BitVec.ofNat 32 p.val) (BitVec.ofNat 32 hh.val) q (k j) (ix2 s c) : EReal) (Ideal.ofBits .f32 0xFF800000#32) := rfl
    rw [e, diag_eq, select_eq, dotk_real p hh j hn q k Q K s hq hk j c h, Att.ofBits_bot]
    refine if_congr ?_ rfl rfl
    show c.val / 64 ≤ s.val / 64 ↔ (256 * j + c.val) / 64 ≤ (256 * j + s.val) / 64
    omega
  · rw [if_neg hj]
    refine .trans ?_ (if_pos (by show (256 * j + c.val) / 64 ≤ (256 * n + s.val) / 64; omega)).symm
    exact dotk_real p hh n hn q k Q K s hq hk j c h

include hq hk in
theorem top_real : ∃ m : ℝ, (top (score (BitVec.ofNat 32 p.val) (BitVec.ofNat 32 hh.val) n q k) n (ix2 s 0) : EReal) = (m : EReal) := by
  have hs := score_real p hh n hn q k Q K s hq hk
  refine Softmax.real_of_lt ?_ ?_
  · rw [top_apply]
    refine (Finset.lt_fold_max _).2 (Or.inr ⟨s, Finset.mem_univ _, lt_of_lt_of_le ?_ (fold_max_ge _ n _)⟩)
    rw [hs n s le_rfl]
    exact Softmax.bot_lt_score _ _ _ (le_refl _)
  · rw [top_apply]
    refine (Finset.fold_max_lt _).2 ⟨by rw [Att.ofBits_bot]; exact bot_lt_top, fun x _ => fold_max_top _ n _ fun j hj => ?_⟩
    rw [hs j x hj]; exact Softmax.score_lt_top _ _ _

include hq hk hv in
/-- One head of a query block. -/
theorem head_real : (head (score (BitVec.ofNat 32 p.val) (BitVec.ofNat 32 hh.val) n q k) v n (ix2 s d) : EReal)
    = ((Softmax.mean (sees ⟨256 * n + s.val, by omega⟩) (fun c => prod p hh Q K c * Real.log 2) V : ℝ) : EReal) := by
  have hs := score_real p hh n hn q k Q K s hq hk
  obtain ⟨m, hm⟩ := top_real p hh n hn q k Q K s hq hk
  set S := Softmax.score (sees ⟨256 * n + s.val, by omega⟩) (prod p hh Q K) with hS
  have hz (c : Fin 2048) (hc : 256 * (n + 1) ≤ c.val) : Ideal.exp2 (S c - (m : EReal)) = 0 := by
    have : S c = ⊥ := by
      rw [hS, Softmax.score, if_neg]
      show ¬ c.val / 64 ≤ (256 * n + s.val) / 64
      omega
    rw [this, EReal.bot_sub]; rfl
  have hl : Real.log 2 ≠ 0 := (Real.log_pos one_lt_two).ne'
  rw [← Softmax.mean_exp2 (sees ⟨256 * n + s.val, by omega⟩) _ V m ⟨256 * n + s.val, by omega⟩ (le_refl _) S
    (fun c => by rw [hS]; simp only [mul_div_assoc, div_self hl, mul_one])]
  rw [head_apply, wsum_apply]
  refine congrArg₂ (fun a b : EReal => a * Ideal.div 1 b) ?_ ?_
  · rw [fold_add, ← Softmax.sum_tiles (fun c => Ideal.exp2 (S c - (m : EReal)) * (V c : EReal)) n hn
      (fun c hc => by rw [hz c hc, zero_mul]) (fun j c => Ideal.exp2 ((score (BitVec.ofNat 32 p.val) (BitVec.ofNat 32 hh.val) n q k j (ix2 s c) : EReal) - (m : EReal)) * (v j (ix3 0 c d) : EReal))
      (fun j c h => by rw [hs j c h, hv j c h])]
    refine Finset.sum_congr rfl fun j _ => ?_
    rw [part_apply]
    refine Finset.sum_congr rfl fun c _ => ?_
    rw [wt_apply, hm]
  · rw [← Softmax.sum_tiles (fun c => Ideal.exp2 (S c - (m : EReal))) n hn hz (fun j c => Ideal.exp2 ((score (BitVec.ofNat 32 p.val) (BitVec.ofNat 32 hh.val) n q k j (ix2 s c) : EReal) - (m : EReal)))
      (fun j c h => by rw [hs j c h]), Finset.sum_comm]
    refine Finset.sum_congr rfl fun c _ => ?_
    rw [fold_add]
    refine Finset.sum_congr rfl fun j _ => ?_
    rw [wt_apply, hm]

end Real

end Cert.MlaIdeal.Block
end
-- ==== Proof.MlaHost.lean ====
module

public import proofs.«01_k».proof.Proof.Gen.MlaIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

/-! The arrays the call is given: each one the host packs, tiles, slices or reshapes, read at an index from the arguments. -/

namespace Cert.MlaIdeal.Host

open Cert.MlaIdeal Cert.MlaIdeal.Gen
variable (m : (ℓ : Loc nD τ sig) → Buf (Elt Ideal) ℓ) (c : Dev nD)

/-- A row of shared rotary keys, four times over. -/
def four (a : FVec Ideal S16x2048x32 .f32) : FVec Ideal S16x2048x128 .f32 :=
  shapeCast S16x2048x128 (broadcastInDim S1x16x1x2048x4x32 ![0, 1, 2, 3, 4, 5] bcast_S1x16x1x2048x1x32_S1x16x1x2048x4x32_0_1_2_3_4_5
    (shapeCast S1x16x1x2048x1x32 a shapeCasts_S16x2048x32_S1x16x1x2048x1x32)) shapeCasts_S1x16x1x2048x4x32_S16x2048x128

/-- The rotated partner of a row of shared rotary keys: its second half negated, then its first half. -/
def turned (a : FVec Ideal S16x2048x32 .f32) : FVec Ideal S16x2048x32 .f32 :=
  concatenate S16x2048x32 2 [⟨S16x2048x16, (Host.negf (extractStridedSlice S16x2048x16 ![0, 0, 16] a slices_S16x2048x32_S16x2048x16_0_0_16) : FVec Ideal S16x2048x16 .f32)⟩,
    ⟨S16x2048x16, (extractStridedSlice S16x2048x16 ![0, 0, 0] a slices_S16x2048x32_S16x2048x16_0_0_0 : FVec Ideal S16x2048x16 .f32)⟩] concatenates_S16x2048x16_S16x2048x16_S16x2048x32_d2

/-- The packed input of the call: the two compressed rows, then the shared rotary keys four times over, then their rotated
    partners four times over. -/
def packed (a0 : FVec Ideal S16x2048x384 .f32) (a1 : FVec Ideal S16x2048x256 .f32) (a2 : FVec Ideal S16x2048x32 .f32) :
    FVec Ideal S16x2048x896 .bf16 :=
  truncf .bf16 (concatenate S16x2048x896 2 [⟨S16x2048x384, a0⟩, ⟨S16x2048x256, a1⟩, ⟨S16x2048x128, four a2⟩, ⟨S16x2048x128, four (turned a2)⟩]
    concatenates_S16x2048x384_S16x2048x256_S16x2048x128_S16x2048x128_S16x2048x896_d2 : FVec Ideal S16x2048x896 .f32) bitsLt_bf16_f32

theorem packed_eq : (V m c main_v11 : Vec Ideal S16x2048x896 .bf16)
    = packed (m (c, Proc.tc.devRef main_arg0)) (m (c, Proc.tc.devRef main_arg1)) (m (c, Proc.tc.devRef main_arg2)) := by
  unfold_abbrev_sides
  simp (disch := decide) only [StableHlo.after_cons, StableHlo.after_nil, StableHlo.unary_result', StableHlo.binary_result', StableHlo.reshape_result', StableHlo.nary_result', StableHlo.unary_result_ne', StableHlo.binary_result_ne', StableHlo.reshape_result_ne', StableHlo.nary_result_ne', Matrix.cons_val_zero, Matrix.cons_val_one, Matrix.cons_val]
  rfl

section Packed
variable (a0 : FVec Ideal S16x2048x384 .f32) (a1 : FVec Ideal S16x2048x256 .f32) (a2 : FVec Ideal S16x2048x32 .f32) (b : Fin 16) (r : Fin 2048)

theorem packed_q (k : Fin 384) : packed a0 a1 a2 (ix3 b r ⟨k.val, by omega⟩) = a0 (ix3 b r k) := by
  pointwise [packed]

theorem packed_kv (k : Fin 256) : packed a0 a1 a2 (ix3 b r ⟨384 + k.val, by omega⟩) = a1 (ix3 b r k) := by
  pointwise [packed]

theorem packed_rope (l : Fin 128) : packed a0 a1 a2 (ix3 b r ⟨640 + l.val, by omega⟩) = a2 (ix3 b r ⟨l.val % 32, by omega⟩) := by
  pointwise [packed, four]
  rw [dif_neg (by omega), dif_neg (by omega), dif_pos (by omega)]
  exact congrArg (fun t => a2 (ix3 b r t)) (Fin.ext (by show (640 + l.val - 384 - 256) % 32 = l.val % 32; omega))

theorem packed_turned (l : Fin 128) : packed a0 a1 a2 (ix3 b r ⟨768 + l.val, by omega⟩) =
    if h : l.val % 32 < 16 then -a2 (ix3 b r ⟨16 + l.val % 32, by omega⟩) else a2 (ix3 b r ⟨l.val % 32 - 16, by omega⟩) := by
  pointwise [packed, four, turned]
  have e : (768 + l.val - 384 - 256 - 128) % 32 = l.val % 32 := by omega
  rw [dif_neg (by omega), dif_neg (by omega), dif_neg (by omega)]
  simp only [e]

end Packed

section Arrays
theorem cos_apply (b : Fin 16) (r : Fin 2048) (l : Fin 128) : (V m c main_v21 : Vec Ideal S16x2048x128 .f32) (ix3 b r l)
    = (m (c, Proc.tc.devRef main_arg7) : Vec Ideal S16x2048x1x16 .f32) (ix4 b r 0 ⟨l.val % 16, by omega⟩) := by
  entry_read; pointwise
theorem sin_apply (b : Fin 16) (r : Fin 2048) (l : Fin 128) : (V m c main_v25 : Vec Ideal S16x2048x128 .f32) (ix3 b r l)
    = (m (c, Proc.tc.devRef main_arg8) : Vec Ideal S16x2048x1x16 .f32) (ix4 b r 0 ⟨l.val % 16, by omega⟩) := by
  entry_read; pointwise
theorem qn_apply (k : Fin 384) : (V m c main_v26 : Vec Ideal S1x384 .f32) (ix2 0 k)
    = (m (c, Proc.tc.devRef main_arg3) : Vec Ideal S384 .f32) (ix1 k) := by
  entry_read; pointwise
theorem kn_apply (k : Fin 256) : (V m c main_v27 : Vec Ideal S1x256 .f32) (ix2 0 k)
    = (m (c, Proc.tc.devRef main_arg5) : Vec Ideal S256 .f32) (ix1 k) := by
  entry_read; pointwise
theorem wq_apply (k : Fin 384) (l : Fin 512) : (V m c main_v15 : Vec Ideal S384x512 .bf16) (ix2 k l)
    = (m (c, Proc.tc.devRef main_arg4) : Vec Ideal S384x768 .f32) (ix2 k ⟨l.val / 64 * 96 + l.val % 64, by omega⟩) := by
  entry_read; pointwise
theorem wr_apply (k : Fin 384) (l : Fin 256) : (V m c main_v29 : Vec Ideal S384x256 .bf16) (ix2 k l)
    = (m (c, Proc.tc.devRef main_arg4) : Vec Ideal S384x768 .f32) (ix2 k ⟨l.val / 32 * 96 + (64 + l.val % 32), by omega⟩) := by
  entry_read; pointwise
theorem wt_apply (k : Fin 384) (l : Fin 256) : (V m c main_v35 : Vec Ideal S384x256 .bf16) (ix2 k l)
    = if h : l.val % 32 < 16 then Neg.neg (α := EReal) ((m (c, Proc.tc.devRef main_arg4) : Vec Ideal S384x768 .f32) (ix2 k ⟨l.val / 32 * 96 + (64 + (16 + l.val % 32)), by omega⟩))
      else (m (c, Proc.tc.devRef main_arg4) : Vec Ideal S384x768 .f32) (ix2 k ⟨l.val / 32 * 96 + (64 + (l.val % 32 - 16)), by omega⟩) := by
  entry_read; pointwise
theorem wk_apply (k : Fin 256) (l : Fin 512) : (V m c main_v38 : Vec Ideal S256x512 .bf16) (ix2 k l)
    = (m (c, Proc.tc.devRef main_arg6) : Vec Ideal S256x1024 .f32) (ix2 k ⟨l.val / 64 * 128 + l.val % 64, by omega⟩) := by
  entry_read; pointwise
theorem wv_apply (k : Fin 256) (l : Fin 512) : (V m c main_v41 : Vec Ideal S256x512 .bf16) (ix2 k l)
    = (m (c, Proc.tc.devRef main_arg6) : Vec Ideal S256x1024 .f32) (ix2 k ⟨l.val / 64 * 128 + (64 + l.val % 64), by omega⟩) := by
  entry_read; pointwise
end Arrays

end Cert.MlaIdeal.Host
end
-- ==== Proof.MlaReference.lean ====
module

public import proofs.«01_k».proof.Proof.Gen.MlaRefIdeal.Run
public import proofs.«01_k».proof.Proof.Gen.MlaRefIdeal.Read
public import Idealize.ShloMosaic.Lib.Pointwise
public import proofs.«01_k».proof.Proof.Stages

/-!
The reference read at one index, an operation or a few at a time, down to the plain functions of one
batch.
-/

@[expose] public section

set_option maxRecDepth 16384

noncomputable section

open Idealize.ShloMosaic Idealize.ShloMosaic.TcCoe Idealize.SL.Sem

namespace Cert.MlaRefIdeal.Att

open Cert.MlaRefIdeal Cert.MlaRefIdeal.Gen Cert.MlaRefIdeal.Read
variable (x0 : Vec Ideal S16x2048x384 .f32) (x1 : Vec Ideal S16x2048x256 .f32) (x2 : Vec Ideal S16x2048x32 .f32)
  (x3 : Vec Ideal S384 .f32) (x4 : Vec Ideal S384x768 .f32) (x5 : Vec Ideal S256 .f32) (x6 : Vec Ideal S256x1024 .f32)
  (x7 x8 : Vec Ideal S16x2048x1x16 .f32)

/-- The arguments as batch `b` sees them. -/
def args (b : Fin 16) : Cert.Att.Args EReal where
  cq r k := x0 (ix3 b r k)
  ckv r k := x1 (ix3 b r k)
  kr r k := x2 (ix3 b r k)
  qn k := x3 (ix1 k)
  wq k j := x4 (ix2 k j)
  kn k := x5 (ix1 k)
  wkv k j := x6 (ix2 k j)
  cos r k := x7 (ix4 b r 0 k)
  sin r k := x8 (ix4 b r 0 k)

theorem v14_apply (b : Fin 16) (r : Fin 2048) (h : Fin 8) (d : Fin 96) : (val_main_v14 (F := Ideal) x0 x3 x4 (ix4 b r h d) : EReal)
    = Cert.Att.qcol (args x0 x1 x2 x3 x4 x5 x6 x7 x8 b) r ⟨h.val * 96 + d.val, by omega⟩ := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v44_apply (b : Fin 16) (r : Fin 2048) (h : Fin 8) (d : Fin 128) : (val_main_v44 (F := Ideal) x1 x5 x6 (ix4 b r h d) : EReal)
    = Cert.Att.kcol (args x0 x1 x2 x3 x4 x5 x6 x7 x8 b) r ⟨h.val * 128 + d.val, by omega⟩ := by
  pointwise [val_main_v44, val_main_v43, val_main_v42, val_main_v41, val_main_v40, val_main_v39, val_main_v38, val_main_v37, val_main_v36, val_main_v35, val_main_v34, val_main_v33, val_main_v32, val_main_v31, val_main_v30, val_main_cst_2, val_main_cst_3, val_main_cst_4]
  rfl

theorem v29_apply (b : Fin 16) (r : Fin 2048) (h : Fin 8) (t : Fin 32) : (val_main_v29 (F := Ideal) x0 x3 x4 x7 x8 (ix4 b r h t) : EReal)
    = Cert.Att.rot (fun t => (val_main_v14 (F := Ideal) x0 x3 x4 (ix4 b r h ⟨64 + t.val, by omega⟩) : EReal))
        (fun t => x7 (ix4 b r 0 t)) (fun t => x8 (ix4 b r 0 t)) t := by
  pointwise [val_main_v29, val_main_v28, val_main_v27, val_main_v26, val_main_v25, val_main_v24, val_main_v23, val_main_v22, val_main_v21, val_main_v20, val_main_v19, val_main_v18, val_main_v17, val_main_v16]
  unfold Cert.Att.rot
  by_cases ht : t.val < 16
  · rw [dif_pos ht, dif_pos ht]
  · rw [dif_neg ht, dif_neg ht]
    have e : (⟨64 + (16 + (t.val - 16)), by omega⟩ : Fin 96) = ⟨64 + t.val, by omega⟩ := Fin.ext (by show 64 + (16 + (t.val - 16)) = 64 + t.val; omega)
    rw [e]

theorem v57_apply (b : Fin 16) (r : Fin 2048) (t : Fin 32) : (val_main_v57 (F := Ideal) x2 x7 x8 (ix3 b r t) : EReal)
    = Cert.Att.rot (fun t => x2 (ix3 b r t)) (fun t => x7 (ix4 b r 0 t)) (fun t => x8 (ix4 b r 0 t)) t := by
  pointwise [val_main_v57, val_main_v56, val_main_v55, val_main_v54, val_main_v53, val_main_v52, val_main_v51, val_main_v50, val_main_v49, val_main_v48, val_main_v47]
  unfold Cert.Att.rot
  by_cases ht : t.val < 16
  · rw [dif_pos ht, dif_pos ht]
  · rw [dif_neg ht, dif_neg ht]
    have e : (⟨16 + (t.val - 16), by omega⟩ : Fin 32) = t := Fin.ext (by show 16 + (t.val - 16) = t.val; omega)
    rw [e]

theorem v64_apply (b : Fin 16) (h : Fin 8) (q k : Fin 2048) : (val_main_v64 (F := Ideal) x0 x1 x2 x3 x4 x5 x6 x7 x8 (ix4 b h q k) : EReal)
    = Ideal.div ((∑ d : Fin 64, (val_main_v14 (F := Ideal) x0 x3 x4 (ix4 b q h ⟨d.val, by omega⟩) : EReal) * (val_main_v44 (F := Ideal) x1 x5 x6 (ix4 b k h ⟨d.val, by omega⟩) : EReal))
        + ∑ t : Fin 32, (val_main_v57 (F := Ideal) x2 x7 x8 (ix3 b k t) : EReal) * (val_main_v29 (F := Ideal) x0 x3 x4 x7 x8 (ix4 b q h t) : EReal))
      (Ideal.sqrt (Ideal.ofBits .f32 0x42C00000#32)) := by
  pointwise [val_main_v64, val_main_v63, val_main_v62, val_main_v61, val_main_v60, val_main_v59, val_main_v58, val_main_v15, val_main_v45, val_main_cst_5]

theorem v66_eq : ∀ q : Fin 2048, val_main_v66 (F := Ideal) (ix1 q) = BitVec.ofNat 32 (q.val / 64) := by
  decide +kernel

theorem v71_apply (q k : Fin 2048) : val_main_v71 (F := Ideal) (ix2 q k) = if k.val / 64 ≤ q.val / 64 then 1#1 else 0#1 := by
  pointwise [val_main_v71, val_main_v70, val_main_v69, val_main_v68, val_main_v67]
  rw [v66_eq, v66_eq]
  have h : ∀ x y : Fin 32, IntOp.cmpi .sge (BitVec.ofNat 32 x.val) (BitVec.ofNat 32 y.val) = if y.val ≤ x.val then 1#1 else 0#1 := by decide
  exact h ⟨q.val / 64, by omega⟩ ⟨k.val / 64, by omega⟩

theorem v72_apply (b : Fin 16) (h : Fin 8) (q k : Fin 2048) : (val_main_v72 (F := Ideal) x0 x1 x2 x3 x4 x5 x6 x7 x8 (ix4 b h q k) : EReal)
    = if k.val / 64 ≤ q.val / 64 then (val_main_v64 (F := Ideal) x0 x1 x2 x3 x4 x5 x6 x7 x8 (ix4 b h q k) : EReal) else ⊥ := by
  pointwise [val_main_v72, val_main_call1_v2, val_main_call1_v1, val_main_call1_v0, val_main_cst_6]
  rw [v71_apply]
  by_cases hk : k.val / 64 ≤ q.val / 64
  · rw [if_pos hk, if_pos hk]; rfl
  · rw [if_neg hk, if_neg hk]; exact Cert.Att.ofBits_bot

theorem v73_apply (b : Fin 16) (h : Fin 8) (q : Fin 2048) : (val_main_v73 (F := Ideal) x0 x1 x2 x3 x4 x5 x6 x7 x8 (ix3 b h q) : EReal)
    = Finset.fold max ⊥ (fun k => (val_main_v72 (F := Ideal) x0 x1 x2 x3 x4 x5 x6 x7 x8 (ix4 b h q k) : EReal)) Finset.univ := by
  pointwise [val_main_v73, val_main_cst_7]
  rw [Cert.Att.ofBits_bot]

theorem v75_apply (b : Fin 16) (h : Fin 8) (q : Fin 2048) : (val_main_v75 (F := Ideal) x0 x1 x2 x3 x4 x5 x6 x7 x8 (ix3 b h q) : EReal)
    = val_main_v73 (F := Ideal) x0 x1 x2 x3 x4 x5 x6 x7 x8 (ix3 b h q) := by
  rw [val_main_v75_apply]
  generalize val_main_v73 (F := Ideal) x0 x1 x2 x3 x4 x5 x6 x7 x8 (ix3 b h q) = y
  have e : (val_main_v74 (F := Ideal) (ix3 b h q) : EReal) = ⊥ := by
    pointwise [val_main_v74, val_main_cst_8]
    exact Cert.Att.ofBits_bot
  have g : ∀ a : EReal, a = ⊥ → FloatOps.maximumf (F := Ideal) (φ := .f32) a y = y := by
    rintro a rfl
    exact max_eq_right (bot_le (a := (y : EReal)))
  exact g _ e

theorem v79_apply (b : Fin 16) (h : Fin 8) (q k : Fin 2048) : (val_main_v79 (F := Ideal) x0 x1 x2 x3 x4 x5 x6 x7 x8 (ix4 b h q k) : EReal)
    = Ideal.exp ((val_main_v72 (F := Ideal) x0 x1 x2 x3 x4 x5 x6 x7 x8 (ix4 b h q k) : EReal) - val_main_v75 (F := Ideal) x0 x1 x2 x3 x4 x5 x6 x7 x8 (ix3 b h q)) := by
  pointwise [val_main_v79, val_main_v78, val_main_v77, val_main_v76]

theorem v83_apply (b : Fin 16) (h : Fin 8) (q k : Fin 2048) : (val_main_v83 (F := Ideal) x0 x1 x2 x3 x4 x5 x6 x7 x8 (ix4 b h q k) : EReal)
    = Ideal.div (val_main_v79 (F := Ideal) x0 x1 x2 x3 x4 x5 x6 x7 x8 (ix4 b h q k) : EReal)
        (∑ k, (val_main_v79 (F := Ideal) x0 x1 x2 x3 x4 x5 x6 x7 x8 (ix4 b h q k) : EReal)) := by
  pointwise [val_main_v83, val_main_v82, val_main_v81, val_main_v80, val_main_cst_9]

end Cert.MlaRefIdeal.Att
end
-- ==== Proof.MlaRefOut.lean ====
module

public import proofs.«01_k».proof.Proof.MlaReference

/-! The reference's result at one index, for finite arguments: the softmax-weighted mean of the values. -/

@[expose] public section

set_option maxRecDepth 16384

noncomputable section

open Idealize.ShloMosaic Idealize.ShloMosaic.TcCoe Idealize.SL.Sem

namespace Cert.MlaRefIdeal.Att

open Cert.MlaRefIdeal Cert.MlaRefIdeal.Gen Cert.MlaRefIdeal.Read
variable (x0 : Vec Ideal S16x2048x384 .f32) (x1 : Vec Ideal S16x2048x256 .f32) (x2 : Vec Ideal S16x2048x32 .f32)
  (x3 : Vec Ideal S384 .f32) (x4 : Vec Ideal S384x768 .f32) (x5 : Vec Ideal S256 .f32) (x6 : Vec Ideal S256x1024 .f32)
  (x7 x8 : Vec Ideal S16x2048x1x16 .f32)

theorem v87_apply (b : Fin 16) (q : Fin 2048) (l : Fin 512) : (val_main_v87 (F := Ideal) x0 x1 x2 x3 x4 x5 x6 x7 x8 (ix3 b q l) : EReal)
    = ∑ k : Fin 2048, (val_main_v44 (F := Ideal) x1 x5 x6 (ix4 b k ⟨l.val / 64, by omega⟩ ⟨64 + l.val % 64, by omega⟩) : EReal)
        * (val_main_v83 (F := Ideal) x0 x1 x2 x3 x4 x5 x6 x7 x8 (ix4 b ⟨l.val / 64, by omega⟩ q k) : EReal) := by
  pointwise [val_main_v87, val_main_v86, val_main_v85, val_main_v84, val_main_v46]

variable (b : Fin 16) (B : Cert.Att.Args ℝ) (hB : args x0 x1 x2 x3 x4 x5 x6 x7 x8 b = B.up)
include hB

theorem q_up (r : Fin 2048) (h : Fin 8) (d : Fin 96) : (val_main_v14 (F := Ideal) x0 x3 x4 (ix4 b r h d) : EReal)
    = ((Cert.Att.qcolR B r ⟨h.val * 96 + d.val, by omega⟩ : ℝ) : EReal) := by
  rw [v14_apply x0 x1 x2 x3 x4 x5 x6 x7 x8, hB, Cert.Att.qcol_up]

theorem k_up (r : Fin 2048) (h : Fin 8) (d : Fin 128) : (val_main_v44 (F := Ideal) x1 x5 x6 (ix4 b r h d) : EReal)
    = ((Cert.Att.kcolR B r ⟨h.val * 128 + d.val, by omega⟩ : ℝ) : EReal) := by
  rw [v44_apply x0 x1 x2 x3 x4 x5 x6 x7 x8, hB, Cert.Att.kcol_up]

theorem cos_up (r : Fin 2048) : (fun t => (x7 (ix4 b r 0 t) : EReal)) = fun t => ((B.cos r t : ℝ) : EReal) :=
  congrFun (congrArg Cert.Att.Args.cos hB) r
theorem sin_up (r : Fin 2048) : (fun t => (x8 (ix4 b r 0 t) : EReal)) = fun t => ((B.sin r t : ℝ) : EReal) :=
  congrFun (congrArg Cert.Att.Args.sin hB) r
theorem kr_up (r : Fin 2048) : (fun t => (x2 (ix3 b r t) : EReal)) = fun t => ((B.kr r t : ℝ) : EReal) :=
  congrFun (congrArg Cert.Att.Args.kr hB) r

theorem qrot_up (r : Fin 2048) (h : Fin 8) (t : Fin 32) : (val_main_v29 (F := Ideal) x0 x3 x4 x7 x8 (ix4 b r h t) : EReal)
    = ((Cert.Att.qrotR B r h t : ℝ) : EReal) := by
  rw [v29_apply, cos_up x0 x1 x2 x3 x4 x5 x6 x7 x8 b B hB, sin_up x0 x1 x2 x3 x4 x5 x6 x7 x8 b B hB]
  simp only [q_up x0 x1 x2 x3 x4 x5 x6 x7 x8 b B hB]
  exact Cert.Att.rot_up (fun t => Cert.Att.qcolR B r ⟨h.val * 96 + (64 + t.val), by omega⟩) _ _ _

theorem krot_up (r : Fin 2048) (t : Fin 32) : (val_main_v57 (F := Ideal) x2 x7 x8 (ix3 b r t) : EReal)
    = ((Cert.Att.krotR B r t : ℝ) : EReal) := by
  rw [v57_apply, cos_up x0 x1 x2 x3 x4 x5 x6 x7 x8 b B hB, sin_up x0 x1 x2 x3 x4 x5 x6 x7 x8 b B hB, kr_up x0 x1 x2 x3 x4 x5 x6 x7 x8 b B hB]
  exact Cert.Att.rot_up _ _ _ _

theorem score_up (h : Fin 8) (q k : Fin 2048) : (val_main_v64 (F := Ideal) x0 x1 x2 x3 x4 x5 x6 x7 x8 (ix4 b h q k) : EReal)
    = ((Cert.Att.alpha B h q k : ℝ) : EReal) := by
  have h96 : Real.sqrt 96 ≠ 0 := by positivity
  rw [v64_apply, Cert.Att.ofBits_96, Ideal.sqrt_coe, if_neg (by norm_num)]
  simp only [q_up x0 x1 x2 x3 x4 x5 x6 x7 x8 b B hB, k_up x0 x1 x2 x3 x4 x5 x6 x7 x8 b B hB, qrot_up x0 x1 x2 x3 x4 x5 x6 x7 x8 b B hB,
    krot_up x0 x1 x2 x3 x4 x5 x6 x7 x8 b B hB, ← EReal.coe_mul, ← Cert.Softmax.coe_sum, ← EReal.coe_add]
  rw [Cert.Softmax.div_real h96]
  refine congrArg _ ?_
  unfold Cert.Att.alpha
  congr 2
  exact Finset.sum_congr rfl fun t _ => mul_comm _ _

theorem masked_up (h : Fin 8) (q k : Fin 2048) : (val_main_v72 (F := Ideal) x0 x1 x2 x3 x4 x5 x6 x7 x8 (ix4 b h q k) : EReal)
    = Cert.Softmax.score (Cert.Att.sees q) (Cert.Att.alpha B h q) k := by
  rw [v72_apply, score_up x0 x1 x2 x3 x4 x5 x6 x7 x8 b B hB]; rfl

theorem max_up (h : Fin 8) (q : Fin 2048) :
    ∃ m : ℝ, (val_main_v75 (F := Ideal) x0 x1 x2 x3 x4 x5 x6 x7 x8 (ix3 b h q) : EReal) = (m : EReal) := by
  rw [v75_apply, v73_apply]
  simp only [masked_up x0 x1 x2 x3 x4 x5 x6 x7 x8 b B hB]
  refine Cert.Softmax.real_of_lt ?_ ?_
  · exact (Finset.lt_fold_max _).2 (.inr ⟨q, Finset.mem_univ _, Cert.Softmax.bot_lt_score _ _ _ (le_refl (q.val / 64))⟩)
  · exact (Finset.fold_max_lt _).2 ⟨bot_lt_top, fun k _ => Cert.Softmax.score_lt_top _ _ _⟩

/-- The reference's result. -/
theorem out_up (q : Fin 2048) (l : Fin 512) : (val_main_v87 (F := Ideal) x0 x1 x2 x3 x4 x5 x6 x7 x8 (ix3 b q l) : EReal)
    = ((Cert.Att.out B q ⟨l.val / 64, by omega⟩ ⟨l.val % 64, by omega⟩ : ℝ) : EReal) := by
  obtain ⟨m, hm⟩ := max_up x0 x1 x2 x3 x4 x5 x6 x7 x8 b B hB ⟨l.val / 64, by omega⟩ q
  rw [v87_apply]
  simp only [v83_apply, v79_apply, hm, k_up x0 x1 x2 x3 x4 x5 x6 x7 x8 b B hB]
  exact Cert.Softmax.mean_exp (Cert.Att.sees q) (Cert.Att.alpha B ⟨l.val / 64, by omega⟩ q)
    (fun k => Cert.Att.vR B k ⟨l.val / 64, by omega⟩ ⟨l.val % 64, by omega⟩) m q (le_refl (q.val / 64)) _
    fun k => masked_up x0 x1 x2 x3 x4 x5 x6 x7 x8 b B hB _ q k

end Cert.MlaRefIdeal.Att
end
-- ==== Proof.MlaReal.lean ====
module

public import proofs.«01_k».proof.Proof.MlaState
public import proofs.«01_k».proof.Proof.MlaMask
public import proofs.«01_k».proof.Proof.MlaHost
public import proofs.«01_k».proof.Proof.MlaRefOut

@[expose] public section

set_option maxRecDepth 16384

noncomputable section

/-! The scratch arrays of a batch whose arguments are real, and with them what each step stores. -/

open Idealize.ShloMosaic Idealize.ShloMosaic.TcCoe Idealize.SL.Sem

namespace Cert.MlaIdeal.Real

open Cert.MlaIdeal Cert.MlaIdeal.Gen
open Cert.Att

/-- The scale of the queries: the scores' `1 / √96`, and `1 / ln 2` to take exponentials of base two. -/
def qs : ℝ := (Real.sqrt 96)⁻¹ * (Real.log 2)⁻¹

theorem qscale_eq : Scratch.qscale = ((qs : ℝ) : EReal) :=
  IdealRules.named_const.ideal_named_scalar _ _ _ _ rfl

variable (m : (ℓ : Loc nD τ sig) → Buf (Elt Ideal) ℓ) (c : Dev nD)

/-- The arguments as batch `b` sees them. -/
abbrev A (b : Fin 16) : Args EReal :=
  MlaRefIdeal.Att.args (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8)) b

theorem x0_apply (b : Fin 16) (r : Fin 2048) (l : Fin 896) : State.bx0 m c b (ix3 0 r l)
    = Host.packed (m (c, Proc.tc.devRef main_arg0)) (m (c, Proc.tc.devRef main_arg1)) (m (c, Proc.tc.devRef main_arg2)) (ix3 b r l) :=
  congrFun (Host.packed_eq m c) (ix3 b r l)

theorem nq_eq (b : Fin 16) (r : Fin 2048) : Scratch.nq (State.bx0 m c b) (V m c main_v26) r = Att.nq (A m c b) r := by
  unfold Scratch.nq Att.nq
  simp only [x0_apply, Host.packed_q]
  exact congrArg (Rows.rms _ _) (funext fun k => Host.qn_apply m c k)

theorem nk_eq (b : Fin 16) (r : Fin 2048) : Scratch.nk (State.bx0 m c b) (V m c main_v27) r = Att.nk (A m c b) r := by
  unfold Scratch.nk Att.nk
  simp only [x0_apply, Host.packed_kv]
  exact congrArg (Rows.rms _ _) (funext fun k => Host.kn_apply m c k)

variable (b : Fin 16) (B : Args ℝ) (hB : A m c b = B.up)

include hB in
theorem qplain_eq (p : Fin 4) (r : Fin 2048) (l : Fin 128) : Scratch.qplain (State.bx0 m c b) (V m c main_v26) (V m c main_v15) p r l
    = ((qR B r ⟨2 * p.val + l.val / 64, by omega⟩ ⟨l.val % 64, by omega⟩ * qs : ℝ) : EReal) := by
  have h : Rows.dot (Scratch.nq (State.bx0 m c b) (V m c main_v26) r) (fun k => (V m c main_v15 : Vec Ideal S384x512 .bf16) (ix2 k ⟨128 * p.val + l.val, by omega⟩))
      = qcol (A m c b) r ⟨(2 * p.val + l.val / 64) * 96 + l.val % 64, by omega⟩ := by
    rw [nq_eq]
    refine congrArg (Rows.dot _) (funext fun k => ?_)
    refine (Host.wq_apply m c k ⟨128 * p.val + l.val, by omega⟩).trans ?_
    refine congrArg (fun j => (m (c, Proc.tc.devRef main_arg4) : Vec Ideal S384x768 .f32) (ix2 k j)) (Fin.ext ?_)
    show (128 * p.val + l.val) / 64 * 96 + (128 * p.val + l.val) % 64 = (2 * p.val + l.val / 64) * 96 + l.val % 64
    omega
  unfold Scratch.qplain
  rw [h, hB, qcol_up, qscale_eq, ← EReal.coe_mul]
  rfl

include hB in
theorem kplain_eq (p : Fin 4) (r : Fin 2048) (l : Fin 128) : Scratch.kplain (State.bx0 m c b) (V m c main_v27) (V m c main_v38) p r l
    = ((kR B r ⟨2 * p.val + l.val / 64, by omega⟩ ⟨l.val % 64, by omega⟩ : ℝ) : EReal) := by
  have h : Rows.dot (Scratch.nk (State.bx0 m c b) (V m c main_v27) r) (fun k => (V m c main_v38 : Vec Ideal S256x512 .bf16) (ix2 k ⟨128 * p.val + l.val, by omega⟩))
      = kcol (A m c b) r ⟨(2 * p.val + l.val / 64) * 128 + l.val % 64, by omega⟩ := by
    rw [nk_eq]
    refine congrArg (Rows.dot _) (funext fun k => ?_)
    refine (Host.wk_apply m c k ⟨128 * p.val + l.val, by omega⟩).trans ?_
    refine congrArg (fun j => (m (c, Proc.tc.devRef main_arg6) : Vec Ideal S256x1024 .f32) (ix2 k j)) (Fin.ext ?_)
    show (128 * p.val + l.val) / 64 * 128 + (128 * p.val + l.val) % 64 = (2 * p.val + l.val / 64) * 128 + l.val % 64
    omega
  unfold Scratch.kplain
  rw [h, hB, kcol_up]
  rfl

include hB in
theorem vplain_eq (p : Fin 4) (r : Fin 2048) (l : Fin 128) : Scratch.kplain (State.bx0 m c b) (V m c main_v27) (V m c main_v41) p r l
    = ((vR B r ⟨2 * p.val + l.val / 64, by omega⟩ ⟨l.val % 64, by omega⟩ : ℝ) : EReal) := by
  have h : Rows.dot (Scratch.nk (State.bx0 m c b) (V m c main_v27) r) (fun k => (V m c main_v41 : Vec Ideal S256x512 .bf16) (ix2 k ⟨128 * p.val + l.val, by omega⟩))
      = kcol (A m c b) r ⟨(2 * p.val + l.val / 64) * 128 + (64 + l.val % 64), by omega⟩ := by
    rw [nk_eq]
    refine congrArg (Rows.dot _) (funext fun k => ?_)
    refine (Host.wv_apply m c k ⟨128 * p.val + l.val, by omega⟩).trans ?_
    refine congrArg (fun j => (m (c, Proc.tc.devRef main_arg6) : Vec Ideal S256x1024 .f32) (ix2 k j)) (Fin.ext ?_)
    show (128 * p.val + l.val) / 64 * 128 + (64 + (128 * p.val + l.val) % 64) = (2 * p.val + l.val / 64) * 128 + (64 + l.val % 64)
    omega
  unfold Scratch.kplain
  rw [h, hB, kcol_up]
  rfl

include hB in
theorem cos_eq (r : Fin 2048) (l : Fin 128) : State.bx1 m c b (ix3 0 r l) = ((B.cos r ⟨l.val % 16, by omega⟩ : ℝ) : EReal) :=
  (Host.cos_apply m c b r l).trans (congrFun (congrFun (congrArg Args.cos hB) r) _)
include hB in
theorem sin_eq (r : Fin 2048) (l : Fin 128) : State.bx2 m c b (ix3 0 r l) = ((B.sin r ⟨l.val % 16, by omega⟩ : ℝ) : EReal) :=
  (Host.sin_apply m c b r l).trans (congrFun (congrFun (congrArg Args.sin hB) r) _)
include hB in
theorem kr_eq (r : Fin 2048) (t : Fin 32) : (m (c, Proc.tc.devRef main_arg2) : Vec Ideal S16x2048x32 .f32) (ix3 b r t) = ((B.kr r t : ℝ) : EReal) :=
  congrFun (congrFun (congrArg Args.kr hB) r) t
include hB in
theorem wq_eq (k : Fin 384) (j : Fin 768) : (m (c, Proc.tc.devRef main_arg4) : Vec Ideal S384x768 .f32) (ix2 k j) = ((B.wq k j : ℝ) : EReal) :=
  congrFun (congrFun (congrArg Args.wq hB) k) j

/-- A rotation from its plain and turned lanes. -/
theorem rot_of (x : Fin 32 → ℝ) (cs sn : Fin 16 → ℝ) (t : Fin 32) (y : ℝ)
    (hy : y = if h : t.val < 16 then -x ⟨16 + t.val, by omega⟩ else x ⟨t.val - 16, by omega⟩) :
    x t * cs ⟨t.val % 16, by omega⟩ + y * sn ⟨t.val % 16, by omega⟩ = rot x cs sn t := by
  subst hy
  unfold rot
  by_cases h : t.val < 16
  · have e : (⟨t.val % 16, by omega⟩ : Fin 16) = ⟨t.val, h⟩ := Fin.ext (Nat.mod_eq_of_lt h)
    rw [dif_pos h, dif_pos h, e]; ring
  · have e : (⟨t.val % 16, by omega⟩ : Fin 16) = ⟨t.val - 16, by omega⟩ := Fin.ext (by show t.val % 16 = t.val - 16; omega)
    rw [dif_neg h, dif_neg h, e]

include hB in
theorem qturn_eq (p : Fin 4) (r : Fin 2048) (l : Fin 128) :
    Scratch.qturn (State.bx0 m c b) (State.bx1 m c b) (State.bx2 m c b) (V m c main_v26) (V m c main_v29) (V m c main_v35) p r l
    = ((qrotR B r ⟨4 * (p.val / 2) + l.val / 32, by omega⟩ ⟨l.val % 32, by omega⟩ * qs : ℝ) : EReal) := by
  have h1 : Rows.dot (Scratch.nq (State.bx0 m c b) (V m c main_v26) r) (fun k => (V m c main_v29 : Vec Ideal S384x256 .bf16) (ix2 k ⟨128 * (p.val / 2) + l.val, by omega⟩))
      = ((qcolR B r ⟨(4 * (p.val / 2) + l.val / 32) * 96 + (64 + l.val % 32), by omega⟩ : ℝ) : EReal) := by
    rw [← qcol_up, ← hB, nq_eq]
    refine congrArg (Rows.dot _) (funext fun k => ?_)
    refine (Host.wr_apply m c k ⟨128 * (p.val / 2) + l.val, by omega⟩).trans ?_
    refine congrArg (fun j => (m (c, Proc.tc.devRef main_arg4) : Vec Ideal S384x768 .f32) (ix2 k j)) (Fin.ext ?_)
    show (128 * (p.val / 2) + l.val) / 32 * 96 + (64 + (128 * (p.val / 2) + l.val) % 32) = (4 * (p.val / 2) + l.val / 32) * 96 + (64 + l.val % 32)
    omega
  have h2 : Rows.dot (Scratch.nq (State.bx0 m c b) (V m c main_v26) r) (fun k => (V m c main_v35 : Vec Ideal S384x256 .bf16) (ix2 k ⟨128 * (p.val / 2) + l.val, by omega⟩))
      = (((if h : l.val % 32 < 16 then -qcolR B r ⟨(4 * (p.val / 2) + l.val / 32) * 96 + (64 + (16 + l.val % 32)), by omega⟩
          else qcolR B r ⟨(4 * (p.val / 2) + l.val / 32) * 96 + (64 + (l.val % 32 - 16)), by omega⟩ : ℝ)) : EReal) := by
    have hw (k : Fin 384) : (V m c main_v35 : Vec Ideal S384x256 .bf16) (ix2 k ⟨128 * (p.val / 2) + l.val, by omega⟩)
        = (((if h : l.val % 32 < 16 then -B.wq k ⟨(4 * (p.val / 2) + l.val / 32) * 96 + (64 + (16 + l.val % 32)), by omega⟩
          else B.wq k ⟨(4 * (p.val / 2) + l.val / 32) * 96 + (64 + (l.val % 32 - 16)), by omega⟩ : ℝ)) : EReal) := by
      refine (Host.wt_apply m c k ⟨128 * (p.val / 2) + l.val, by omega⟩).trans ?_
      by_cases h : l.val % 32 < 16
      · rw [dif_pos h, dif_pos (show (128 * (p.val / 2) + l.val) % 32 < 16 by omega), EReal.coe_neg, ← wq_eq m c b B hB]
        refine congrArg (fun j => Neg.neg (α := EReal) ((m (c, Proc.tc.devRef main_arg4) : Vec Ideal S384x768 .f32) (ix2 k j))) (Fin.ext ?_)
        show (128 * (p.val / 2) + l.val) / 32 * 96 + (64 + (16 + (128 * (p.val / 2) + l.val) % 32)) = (4 * (p.val / 2) + l.val / 32) * 96 + (64 + (16 + l.val % 32))
        omega
      · rw [dif_neg h, dif_neg (show ¬ (128 * (p.val / 2) + l.val) % 32 < 16 by omega), ← wq_eq m c b B hB]
        refine congrArg (fun j => (m (c, Proc.tc.devRef main_arg4) : Vec Ideal S384x768 .f32) (ix2 k j)) (Fin.ext ?_)
        show (128 * (p.val / 2) + l.val) / 32 * 96 + (64 + ((128 * (p.val / 2) + l.val) % 32 - 16)) = (4 * (p.val / 2) + l.val / 32) * 96 + (64 + (l.val % 32 - 16))
        omega
    rw [nq_eq, hB, nq_up, funext hw, dot_up]
    refine congrArg _ ?_
    split_ifs
    · unfold qcolR; rw [← Finset.sum_neg_distrib]; exact Finset.sum_congr rfl fun k _ => mul_neg _ _
    · rfl
  unfold Scratch.qturn
  rw [h1, h2, cos_eq m c b B hB, sin_eq m c b B hB, qscale_eq, ← EReal.coe_mul, ← EReal.coe_mul, ← EReal.coe_add, ← EReal.coe_mul]
  refine congrArg _ (congrArg (· * qs) ?_)
  have e : (⟨l.val % 16, by omega⟩ : Fin 16) = ⟨l.val % 32 % 16, by omega⟩ := Fin.ext (by show l.val % 16 = l.val % 32 % 16; omega)
  rw [e]
  exact rot_of (fun t => qcolR B r ⟨(4 * (p.val / 2) + l.val / 32) * 96 + (64 + t.val), by omega⟩) (B.cos r) (B.sin r) ⟨l.val % 32, by omega⟩ _ rfl

include hB in
theorem kturn_eq (r : Fin 2048) (l : Fin 128) : Scratch.kturn (State.bx0 m c b) (State.bx1 m c b) (State.bx2 m c b) r l
    = ((krotR B r ⟨l.val % 32, by omega⟩ : ℝ) : EReal) := by
  have h2 : Host.packed (m (c, Proc.tc.devRef main_arg0)) (m (c, Proc.tc.devRef main_arg1)) (m (c, Proc.tc.devRef main_arg2)) (ix3 b r ⟨768 + l.val, by omega⟩)
      = (((if h : l.val % 32 < 16 then -B.kr r ⟨16 + l.val % 32, by omega⟩ else B.kr r ⟨l.val % 32 - 16, by omega⟩ : ℝ)) : EReal) := by
    rw [Host.packed_turned]
    split_ifs
    · rw [EReal.coe_neg, ← kr_eq m c b B hB]
    · exact kr_eq m c b B hB _ _
  unfold Scratch.kturn
  rw [x0_apply, x0_apply, Host.packed_rope, h2, kr_eq m c b B hB, cos_eq m c b B hB, sin_eq m c b B hB, ← EReal.coe_mul, ← EReal.coe_mul, ← EReal.coe_add]
  refine congrArg _ ?_
  have e : (⟨l.val % 16, by omega⟩ : Fin 16) = ⟨l.val % 32 % 16, by omega⟩ := Fin.ext (by show l.val % 16 = l.val % 32 % 16; omega)
  rw [e]
  exact rot_of (B.kr r) (B.cos r) (B.sin r) ⟨l.val % 32, by omega⟩ _ rfl

/-- The query and key scratch of a batch, real. -/
def Qr (p : Fin 4) (r : Fin 2048) (l : Fin 256) : ℝ :=
  if l.val < 128 then qR B r ⟨2 * p.val + l.val / 64 % 2, by omega⟩ ⟨l.val % 64, by omega⟩ * qs
  else qrotR B r ⟨4 * (p.val / 2) + (l.val - 128) / 32, by omega⟩ ⟨l.val % 32, by omega⟩ * qs
def Kr (p : Fin 4) (r : Fin 2048) (l : Fin 256) : ℝ :=
  if l.val < 128 then kR B r ⟨2 * p.val + l.val / 64 % 2, by omega⟩ ⟨l.val % 64, by omega⟩
  else krotR B r ⟨l.val % 32, by omega⟩

include hB in
theorem XQ_eq (p : Fin 4) (r : Fin 2048) (l : Fin 256) : State.XQ m c b (ix3 p r l) = ((Qr B p r l : ℝ) : EReal) := by
  refine (Scratch.q_apply _ _ _ _ _ _ _ p r l).trans ?_
  unfold Scratch.qarr Qr
  by_cases h : l.val < 128
  · rw [dif_pos h, if_pos h, qplain_eq m c b B hB]
    have e : l.val / 64 % 2 = l.val / 64 := by omega
    simp only [e]
  · rw [dif_neg h, if_neg h, qturn_eq m c b B hB]
    have e : (l.val - 128) % 32 = l.val % 32 := by omega
    simp only [e]

include hB in
theorem XK_eq (p : Fin 4) (r : Fin 2048) (l : Fin 256) : State.XK m c b (ix3 p r l) = ((Kr B p r l : ℝ) : EReal) := by
  refine (Scratch.k_apply _ _ _ _ _ p r l).trans ?_
  unfold Scratch.karr Kr
  by_cases h : l.val < 128
  · rw [dif_pos h, if_pos h, kplain_eq m c b B hB]
    have e : l.val / 64 % 2 = l.val / 64 := by omega
    simp only [e]
  · rw [dif_neg h, if_neg h, kturn_eq m c b B hB]
    have e : (l.val - 128) % 32 = l.val % 32 := by omega
    simp only [e]

include hB in
theorem XV_eq (p : Fin 4) (r : Fin 2048) (d : Fin 128) : State.XV m c b (ix3 p r d)
    = ((vR B r ⟨2 * p.val + d.val / 64, by omega⟩ ⟨d.val % 64, by omega⟩ : ℝ) : EReal) :=
  (Scratch.v_apply _ _ _ p r d).trans (vplain_eq m c b B hB p r d)

/-- A sum over the lanes of one head: its 64 plain lanes and its 32 rotated ones. -/
theorem lane_sum (p : Fin 4) (hh : Fin 2) (f : Fin 256 → ℝ) : (∑ l, if Block.lane p hh l then f l else 0)
    = ∑ d : Fin 64, f ⟨64 * hh.val + d.val, by omega⟩ + ∑ t : Fin 32, f ⟨128 + (32 * (p.val % 2 * 2 + hh.val) + t.val), by omega⟩ := by
  have block (g : Fin 256 → ℝ) : ∑ l, g l = ∑ a : Fin 8, ∑ t : Fin 32, g ⟨32 * a.val + t.val, by omega⟩ := by
    rw [← (finProdFinEquiv (m := 8) (n := 32)).sum_comp g, Fintype.sum_prod_type]
    exact Finset.sum_congr rfl fun a _ => Finset.sum_congr rfl fun t _ => congrArg g (Fin.ext (by show t.val + 32 * a.val = _; exact Nat.add_comm _ _))
  have two (g : Fin 64 → ℝ) : ∑ d, g d = ∑ t : Fin 32, g ⟨t.val, by omega⟩ + ∑ t : Fin 32, g ⟨32 + t.val, by omega⟩ :=
    Fin.sum_univ_add (a := 32) (b := 32) g
  have hl (a : Fin 8) : (∑ t : Fin 32, if Block.lane p hh ⟨32 * a.val + t.val, by omega⟩ then f ⟨32 * a.val + t.val, by omega⟩ else 0)
      = if (if a.val < 4 then a.val / 2 = hh.val else a.val - 4 = p.val % 2 * 2 + hh.val) then ∑ t : Fin 32, f ⟨32 * a.val + t.val, by omega⟩ else 0 := by
    have hb (t : Fin 32) : Block.lane p hh ⟨32 * a.val + t.val, by omega⟩ ↔ (if a.val < 4 then a.val / 2 = hh.val else a.val - 4 = p.val % 2 * 2 + hh.val) := by
      unfold Block.lane
      show (if 32 * a.val + t.val < 128 then (32 * a.val + t.val) / 64 = hh.val else (32 * a.val + t.val - 128) / 32 = p.val % 2 * 2 + hh.val) ↔ _
      by_cases h : a.val < 4
      · rw [if_pos h, if_pos (by omega)]; omega
      · rw [if_neg h, if_neg (by omega)]; omega
    simp only [hb]
    split_ifs <;> simp
  rw [block, two]
  simp only [hl]
  rw [Fin.sum_univ_eight]
  fin_cases p <;> fin_cases hh <;> simp <;> rfl

/-- The product of a query and a key over one head's lanes is the score in base two. -/
theorem prod_eq (p : Fin 4) (hh : Fin 2) (q k : Fin 2048) :
    Block.prod p hh (Qr B p q) (Kr B p) k * Real.log 2 = alpha B ⟨2 * p.val + hh.val, by omega⟩ q k := by
  have hl : Real.log 2 ≠ 0 := (Real.log_pos one_lt_two).ne'
  unfold Block.prod
  rw [lane_sum]
  have h1 (d : Fin 64) : Qr B p q ⟨64 * hh.val + d.val, by omega⟩ * Kr B p k ⟨64 * hh.val + d.val, by omega⟩
      = qR B q ⟨2 * p.val + hh.val, by omega⟩ d * kR B k ⟨2 * p.val + hh.val, by omega⟩ d * qs := by
    unfold Qr Kr
    have e1 : (64 * hh.val + d.val) / 64 % 2 = hh.val := by omega
    have e2 : (64 * hh.val + d.val) % 64 = d.val := by omega
    rw [if_pos (by show 64 * hh.val + d.val < 128; omega), if_pos (by show 64 * hh.val + d.val < 128; omega)]
    simp only [e1, e2, Fin.eta]
    ring
  have h2 (t : Fin 32) : Qr B p q ⟨128 + (32 * (p.val % 2 * 2 + hh.val) + t.val), by omega⟩ * Kr B p k ⟨128 + (32 * (p.val % 2 * 2 + hh.val) + t.val), by omega⟩
      = qrotR B q ⟨2 * p.val + hh.val, by omega⟩ t * krotR B k t * qs := by
    unfold Qr Kr
    have e1 : 4 * (p.val / 2) + (128 + (32 * (p.val % 2 * 2 + hh.val) + t.val) - 128) / 32 = 2 * p.val + hh.val := by omega
    have e2 : (128 + (32 * (p.val % 2 * 2 + hh.val) + t.val)) % 32 = t.val := by omega
    rw [if_neg (by show ¬ 128 + (32 * (p.val % 2 * 2 + hh.val) + t.val) < 128; omega), if_neg (by show ¬ 128 + (32 * (p.val % 2 * 2 + hh.val) + t.val) < 128; omega)]
    simp only [e1, e2, Fin.eta]
    ring
  simp only [h1, h2]
  rw [← Finset.sum_mul, ← Finset.sum_mul]
  unfold alpha qs
  field_simp

include hB in
/-- What a step stores: lanes of the attention's result. -/
theorem att_eq (i : grid0.Coords) (p : Fin 4) (hp : (i 1).val = p.val) (n : Fin 8) (s : Fin 256) (d : Fin 128) :
    (Block.att i (State.XQ m c b) (State.XK m c b) (State.XV m c b) n.val (ix3 0 s d) : EReal)
      = ((out B ⟨256 * n.val + s.val, by omega⟩ ⟨2 * p.val + d.val / 64, by omega⟩ ⟨d.val % 64, by omega⟩ : ℝ) : EReal) := by
  have hq (l : Fin 256) : (Block.tiles i (State.XQ m c b) n.val (ix3 0 s l) : EReal) = ((Qr B p ⟨256 * n.val + s.val, by omega⟩ l : ℝ) : EReal) :=
    (State.tiles_apply p i hp _ n.val n.isLt s l).trans (XQ_eq m c b B hB _ _ _)
  have hk (j : ℕ) (u l : Fin 256) (h : j ≤ n.val) : (Block.tiles i (State.XK m c b) j (ix3 0 u l) : EReal) = ((Kr B p ⟨256 * j + u.val, by omega⟩ l : ℝ) : EReal) :=
    (State.tiles_apply p i hp _ j (by omega) u l).trans (XK_eq m c b B hB _ _ _)
  have hv (j : ℕ) (u : Fin 256) (h : j ≤ n.val) : (Block.vtiles i (State.XV m c b) j (ix3 0 u d) : EReal)
      = (((fun k => vR B k ⟨2 * p.val + d.val / 64, by omega⟩ ⟨d.val % 64, by omega⟩) (⟨256 * j + u.val, by omega⟩ : Fin 2048) : ℝ) : EReal) :=
    (State.vtiles_apply p i hp _ j (by omega) u d).trans (XV_eq m c b B hB _ _ _)
  have hh (hh : Fin 2) (e : d.val / 64 = hh.val) :
      ((Softmax.mean (sees ⟨256 * n.val + s.val, by omega⟩) (fun k => Block.prod p hh (Qr B p ⟨256 * n.val + s.val, by omega⟩) (Kr B p) k * Real.log 2)
        (fun k => vR B k ⟨2 * p.val + d.val / 64, by omega⟩ ⟨d.val % 64, by omega⟩) : ℝ) : EReal)
      = ((out B ⟨256 * n.val + s.val, by omega⟩ ⟨2 * p.val + d.val / 64, by omega⟩ ⟨d.val % 64, by omega⟩ : ℝ) : EReal) := by
    refine congrArg _ ?_
    unfold out
    refine congrArg (fun a => Softmax.mean _ a _) (funext fun k => ?_)
    rw [prod_eq]
    simp only [e]
  unfold Block.att
  rw [hp, Block.block_apply]
  by_cases h : d.val < 64
  · rw [if_pos h]
    exact (Block.head_real p 0 n.val n.isLt _ _ _ _ _ s d _ hq hk hv).trans (hh 0 (by show d.val / 64 = 0; omega))
  · rw [if_neg h]
    exact (Block.head_real p 1 n.val n.isLt _ _ _ _ _ s d _ hq hk hv).trans (hh 1 (by show d.val / 64 = 1; omega))

end Cert.MlaIdeal.Real
end
-- ==== Proof.Finite.lean ====
module

public import Idealize.ShloMosaic.Lib.Pipeline.ValueKit

/-! What the precondition says of one array. -/

@[expose] public section

noncomputable section

open Idealize.ShloMosaic

namespace Cert.Finite

/-- A number whose absolute value is less than infinity is real. -/
theorem real_of {s : Shape} (a : FVec Ideal s .f32) (v : FVec Ideal s .f32) (hv : ∀ i, (v i : EReal) = Ideal.ofBits .f32 0x7F800000#32)
    (h : cmpf .olt (Host.absf a) v = fun _ => 1#1) (i : s.Idx) : (a i : EReal) = (((a i : EReal).toReal : ℝ) : EReal) := by
  have hi := congrFun h i
  have ht : Ideal.ofBits .f32 0x7F800000#32 = ⊤ := by simp [Ideal.ofBits, Ideal.ieee]
  have hlt : max (a i : EReal) (-(a i : EReal)) < ⊤ := by
    by_contra hc
    have : (cmpf .olt (Host.absf a) v i) = 0#1 := by
      show Ideal.cmp .olt (max (a i : EReal) (-(a i : EReal))) (v i) = 0#1
      rw [hv, ht]
      simp [Ideal.cmp, hc]
    rw [this] at hi
    exact absurd hi (by decide)
  refine (EReal.coe_toReal (fun e => ?_) fun e => ?_).symm
  · rw [e] at hlt; exact absurd hlt (by simp)
  · rw [e] at hlt; exact absurd hlt (by simp)

end Cert.Finite
end
-- ==== Proof.MlaValue.lean ====
module

public import proofs.«01_k».proof.Proof.MlaReal
public import proofs.«01_k».proof.Proof.Gen.Pre_mla_finite
public import proofs.«01_k».proof.Proof.Finite
public import proofs.«01_k».proof.Defs
public import Idealize.ShloMosaic.Lib.Quiescent

@[expose] public section

set_option maxRecDepth 16384

noncomputable section

/-! The attention call's array, and the value claim. -/

open Idealize.ShloMosaic Idealize.ShloMosaic.TcCoe Idealize.SL.Sem

namespace Cert.MlaIdeal.Real

open Cert.MlaIdeal Cert.MlaIdeal.Gen
open Cert.Att
open Cert.Finite (real_of)

variable (m : (ℓ : Loc nD τ sig) → Buf (Elt Ideal) ℓ) (c : Dev nD)

/-- Under the precondition the arguments of a batch are real. -/
theorem finite (hpre : Cert.Pre_MlaIdeal_mla_finite m) (b : Fin 16) : ∃ B : Args ℝ, A m c b = B.up := by
  obtain ⟨h0, h1, h2, h3, h4, h5, h6, h7, h8⟩ := hpre c
  have r0 := real_of _ _ (fun _ => rfl) h0
  have r1 := real_of _ _ (fun _ => rfl) h1
  have r2 := real_of _ _ (fun _ => rfl) h2
  have r3 := real_of _ _ (fun _ => rfl) h3
  have r4 := real_of _ _ (fun _ => rfl) h4
  have r5 := real_of _ _ (fun _ => rfl) h5
  have r6 := real_of _ _ (fun _ => rfl) h6
  have r7 := real_of _ _ (fun _ => rfl) h7
  have r8 := real_of _ _ (fun _ => rfl) h8
  refine ⟨⟨fun r k => ((A m c b).cq r k).toReal, fun r k => ((A m c b).ckv r k).toReal, fun r k => ((A m c b).kr r k).toReal,
    fun k => ((A m c b).qn k).toReal, fun k j => ((A m c b).wq k j).toReal, fun k => ((A m c b).kn k).toReal,
    fun k j => ((A m c b).wkv k j).toReal, fun r k => ((A m c b).cos r k).toReal, fun r k => ((A m c b).sin r k).toReal⟩, ?_⟩
  unfold Args.up A MlaRefIdeal.Att.args
  congr 1
  · funext r k; exact r0 _
  · funext r k; exact r1 _
  · funext r k; exact r2 _
  · funext k; exact r3 _
  · funext k j; exact r4 _
  · funext k; exact r5 _
  · funext k j; exact r6 _
  · funext r k; exact r7 _
  · funext r k; exact r8 _

/-- One entry of the array the call leaves. -/
theorem result_apply (b : Fin 16) (B : Args ℝ) (hB : A m c b = B.up) (q : Fin 2048) (l : Fin 512) :
    ((dats m 0 c).arrAt 10 cfg0.N (ix3 b q l) : EReal) = ((out B q ⟨l.val / 64, by omega⟩ ⟨l.val % 64, by omega⟩ : ℝ) : EReal) := by
  have hN : cfg0.N = 64 := N_0
  have ht : 4 * b.val + l.val / 128 < cfg0.N := by omega
  have hb : State.batch ⟨4 * b.val + l.val / 128, ht⟩ = b := Fin.ext (by show (4 * b.val + l.val / 128) / 4 = b.val; omega)
  have hp : Value.pt10Of (ix3 b q l) = 4 * b.val + l.val / 128 := by
    show 4 * (b.val / 1 - 0) + 4 * (q.val / 2048 - 0) + 1 * (l.val / 128 - 0) = 4 * b.val + l.val / 128
    omega
  have hl : Value.loc10Of (ix3 b q l) = ix3 (n0 := 1) (n1 := 2048) (n2 := 128) 0 q ⟨l.val % 128, by omega⟩ := by
    funext a
    match a with
    | ⟨0, _⟩ => exact Fin.ext (show b.val % 1 = 0 by omega)
    | ⟨1, _⟩ => exact Fin.ext (show q.val % 2048 = q.val by omega)
    | ⟨2, _⟩ => rfl
  rw [Value.final10]
  unfold Value.G10
  rw [dif_pos (by rw [hp]; exact ht), Value.fold0_congr m c _ _ (4 * b.val + l.val / 128) (by omega) hp, ← Value.outsAt0_sweep m c _ ht, State.state, hb, hl]
  refine (State.olist_apply _ _ _ _ (fun q d => ((out B q ⟨2 * (l.val / 128) + d.val / 64, by omega⟩ ⟨d.val % 64, by omega⟩ : ℝ) : EReal))
    (fun n s d => att_eq m c b B hB _ ⟨l.val / 128, by omega⟩ ?_ n s d) q _).trans ?_
  · refine ((State.index_eq ⟨4 * b.val + l.val / 128, ht⟩).2.2.2).trans ?_
    show (4 * b.val + l.val / 128) % 4 = l.val / 128
    omega
  · have e1 : 2 * (l.val / 128) + l.val % 128 / 64 = l.val / 64 := by omega
    have e2 : l.val % 128 % 64 = l.val % 64 := by omega
    simp only [e1, e2]

/-- The reference runs, its arguments unchanged. -/
theorem ref_frame : quiescent_MlaRefIdeal (hMlaRefIdeal := Cert.MlaRefIdeal.Gen.facts) := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The kernel and the reference end with the same array. -/
theorem value : algebraic_MlaIdeal_MlaRefIdeal_pre_mla_finite (hMlaIdeal := Cert.MlaIdeal.Gen.facts) (hMlaRefIdeal := Cert.MlaRefIdeal.Gen.facts)
    (hPre_mla_finite := Cert.Pre_mla_finite.Gen.facts) := by
  intro m ρ m' ρ' hpre hagree
  refine ⟨fun c => (dats m 0 c).arrAt 10 cfg0.N, Cert.MlaIdeal.Value.run_blocks (F := Ideal) m ρ,
    (θ_run Cert.MlaRefIdeal.defs _ _).mono (fun r h c => ⟨((h c).1).trans ?_, (h c).2⟩) (Cert.MlaRefIdeal.Value.run (F := Ideal) m' ρ')⟩
  obtain ⟨h0, h1, h2, h3, h4, h5, h6, h7, h8⟩ := hagree c
  rw [Cert.MlaRefIdeal.Read.val_main_v87_eq, h0, h1, h2, h3, h4, h5, h6, h7, h8]
  funext i
  obtain ⟨b, q, l, rfl⟩ : ∃ (b : Fin 16) (q : Fin 2048) (l : Fin 512), i = ix3 b q l := ⟨i 0, i 1, i 2, eq_ix3 (n0 := 16) (n1 := 2048) (n2 := 512) i⟩
  obtain ⟨B, hB⟩ := finite m c hpre b
  exact (Cert.MlaRefIdeal.Att.out_up _ _ _ _ _ _ _ _ _ b B hB q l).trans (result_apply m c b B hB q l).symm

end Cert.MlaIdeal.Real
end
-- ==== Proof.FfnAKernel.lean ====
module

public import proofs.«01_k».proof.Proof.Gen.FfnAIdeal.Value
public import proofs.«01_k».proof.Proof.Rows

/-! What one grid point of the first feed-forward kernel writes: its 512 rows of the result, each a function of the
    same row of its input block and of the weights. -/

@[expose] public section

set_option maxRecDepth 16384

noncomputable section

open Idealize.ShloMosaic Idealize.ShloMosaic.TcCoe Idealize.SL.Sem
open Idealize.ShloMosaic.Pipeline (Dat)

namespace Cert.FfnAIdeal.Block

open Cert.FfnAIdeal Cert.FfnAIdeal.Gen

/-- The hidden block: the entry of row `y 0` and hidden unit `y 1`. -/
def hidden (xn : Vec Ideal S512x1024 .bf16) (w : Vec Ideal S1024x5632 .bf16) : Vec Ideal S512x2816 .bf16 := fun y =>
  Rows.hid (fun k : Fin 1024 => xn (ix2 (y 0) k)) (fun k => w (ix2 k ⟨(y 1).val, by have : (y 1).val < 2816 := (y 1).isLt; omega⟩))
    (fun k => w (ix2 k ⟨2816 + (y 1).val, by have : (y 1).val < 2816 := (y 1).isLt; omega⟩))

theorem out_apply (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole) (a5 : Memref sig .tc .vmem S512x1024 .f32) (h5 : a5.IsWhole) (a6 : Memref sig .tc .vmem S512x1024 .bf16) (h6 : a6.IsWhole) (a7 : Memref sig .tc .vmem S512x2816 .bf16) (h7 : a7.IsWhole)
    (x0 : Vec Ideal S512x1024 .f32) (x1 : Vec Ideal S1x1024 .f32) (x2 : Vec Ideal S1024x5632 .bf16) (x3 : Vec Ideal S2816x1024 .bf16) :
    out0_A_4 c i a1 h1 a2 h2 a3 h3 a4 h4 a5 h5 a6 h6 a7 h7 x0 x1 x2 x3 = k0_pay16 x0 (hidden (k0_pay1 x0 x1) x2) x3 := by
  frame_out
  congr 1
  generalize k0_pay1 x0 x1 = xn
  apply Scratch.readCov_of_tiles _ _ _ ![512, 256] (by sl_kernel_rfl)
  · simp only [List.forall_mem_cons, List.not_mem_nil, false_imp_iff, implies_true, and_true]
    refine ⟨?_, ?_, ?_, ?_, ?_, ?_, ?_, ?_, ?_, ?_, ?_⟩ <;>
    · intro x
      obtain ⟨r, l, rfl⟩ : ∃ (r : Fin 512) (l : Fin 256), x = ix2 r l := ⟨x 0, x 1, eq_ix2 x⟩
      pointwise [k0_pay2, k0_pay3, k0_pay4, k0_pay5, k0_pay6, k0_pay7, k0_pay8, k0_pay9, k0_pay10, k0_pay11, k0_pay12, k0_pay13, k0_pay14, k0_pay15, hidden, Rows.hid, Rows.dot]
      simp only [Scratch.unit_emb_ix2, ix2_0, ix2_1, Nat.zero_add, Fin.eta, ← Nat.add_assoc, Nat.reduceAdd]
  · intro a; fin_cases a <;> rfl

/-- The row function: the input plus half the hidden row times the output weights. -/
theorem pay_apply (x0 : Vec Ideal S512x1024 .f32) (x1 : Vec Ideal S1x1024 .f32) (x2 : Vec Ideal S1024x5632 .bf16) (x3 : Vec Ideal S2816x1024 .bf16)
    (r : Fin 512) (l : Fin 1024) :
    k0_pay16 x0 (hidden (k0_pay1 x0 x1) x2) x3 (ix2 r l)
      = x0 (ix2 r l) + Ideal.ofBits .f32 0x3F000000#32 * Rows.dot (fun f : Fin 2816 =>
          Rows.hid (Rows.rms (Ideal.ofBits .f32 0x44800000#32) (fun k => x0 (ix2 r k)) (fun k => x1 (ix2 0 k)))
            (fun k => x2 (ix2 k ⟨f.val, by omega⟩)) (fun k => x2 (ix2 k ⟨2816 + f.val, by omega⟩))) (fun f => x3 (ix2 f l)) := by
  have hx : ∀ k : Fin 1024, k0_pay1 x0 x1 (ix2 r k)
      = Rows.rms (Ideal.ofBits .f32 0x44800000#32) (fun k => x0 (ix2 r k)) (fun k => x1 (ix2 0 k)) k := by
    intro k
    pointwise [k0_pay1, Rows.rms]
  generalize k0_pay1 x0 x1 = xn at hx
  pointwise [k0_pay16, hidden, Rows.dot]
  simp only [hx]

variable (m : (ℓ : Loc nD τ sig) → Buf (Elt Ideal) ℓ) (ρ : Dev nD → PrngReg)

/-- The result array, entry by entry. -/
def res (c : Dev nD) : Buf (Elt Ideal) ((c : Thread nD τ).loc main_v0) := fun i : S32768x1024.Idx =>
  let h : Vec Ideal S32768x1024 .f32 := m ((c : Thread nD τ).loc main_arg0)
  let w : Vec Ideal S1x1024 .f32 := m ((c : Thread nD τ).loc main_arg1)
  let wi : Vec Ideal S1024x5632 .bf16 := m ((c : Thread nD τ).loc main_arg2)
  let wo : Vec Ideal S2816x1024 .bf16 := m ((c : Thread nD τ).loc main_arg3)
  h i + Ideal.ofBits .f32 0x3F000000#32 * Rows.dot (fun f : Fin 2816 =>
          Rows.hid (Rows.rms (Ideal.ofBits .f32 0x44800000#32) (fun k : Fin 1024 => h (ix2 (i 0) k)) (fun k => w (ix2 0 k)))
            (fun k => wi (ix2 k ⟨f.val, by omega⟩)) (fun k => wi (ix2 k ⟨2816 + f.val, by omega⟩))) (fun f => wo (ix2 f (i 1)))

theorem index_eq : ∀ t : Fin grid0.N, win0_0.index t = ![t.val, 0] ∧ win0_1.index t = ![0, 0] ∧ win0_2.index t = ![0, 0]
    ∧ win0_3.index t = ![0, 0] ∧ win0_4.index t = ![t.val, 0] := by decide +kernel

theorem blk0 (c : Dev nD) (t : Fin cfg0.N) (r : Fin 512) (k : Fin 1024) (h) :
    (iblk m c 0 t : Vec Ideal S512x1024 .f32) (ix2 r k)
      = (m ((c : Thread nD τ).loc main_arg0) : Vec Ideal S32768x1024 .f32) (ix2 ⟨512 * t.val + r.val, h⟩ k) := by
  rw [← V_main_arg0 m c]
  show (V m c main_arg0 : Vec Ideal S32768x1024 .f32) _ = _
  congr 1
  funext a
  apply Fin.ext
  show win0_0.index t a * win0_0.size a + 1 * (ix2 r k a).val = _
  rw [(index_eq t).1]
  match a with
  | ⟨0, _⟩ => show t.val * 512 + 1 * r.val = 512 * t.val + r.val; omega
  | ⟨1, _⟩ => show 0 * 1024 + 1 * k.val = k.val; omega

/-- The weights' blocks are the weights. -/
theorem blk1 (c : Dev nD) (t : Fin cfg0.N) : iblk m c 1 t = m ((c : Thread nD τ).loc main_arg1) := by
  rw [← V_main_arg1 m c]
  funext j
  show (V m c main_arg1 : Vec Ideal S1x1024 .f32) _ = _
  congr 1
  funext a
  apply Fin.ext
  show win0_1.index t a * win0_1.size a + 1 * (j a).val = _
  rw [(index_eq t).2.1]
  match a with
  | ⟨0, _⟩ => show 0 * 1 + 1 * (j 0).val = (j 0).val; omega
  | ⟨1, _⟩ => show 0 * 1024 + 1 * (j 1).val = (j 1).val; omega

theorem blk2 (c : Dev nD) (t : Fin cfg0.N) : iblk m c 2 t = m ((c : Thread nD τ).loc main_arg2) := by
  rw [← V_main_arg2 m c]
  funext j
  show (V m c main_arg2 : Vec Ideal S1024x5632 .bf16) _ = _
  congr 1
  funext a
  apply Fin.ext
  show win0_2.index t a * win0_2.size a + 1 * (j a).val = _
  rw [(index_eq t).2.2.1]
  match a with
  | ⟨0, _⟩ => show 0 * 1024 + 1 * (j 0).val = (j 0).val; omega
  | ⟨1, _⟩ => show 0 * 5632 + 1 * (j 1).val = (j 1).val; omega

theorem blk3 (c : Dev nD) (t : Fin cfg0.N) : iblk m c 3 t = m ((c : Thread nD τ).loc main_arg3) := by
  rw [← V_main_arg3 m c]
  funext j
  show (V m c main_arg3 : Vec Ideal S2816x1024 .bf16) _ = _
  congr 1
  funext a
  apply Fin.ext
  show win0_3.index t a * win0_3.size a + 1 * (j a).val = _
  rw [(index_eq t).2.2.2.1]
  match a with
  | ⟨0, _⟩ => show 0 * 2816 + 1 * (j 0).val = (j 0).val; omega
  | ⟨1, _⟩ => show 0 * 1024 + 1 * (j 1).val = (j 1).val; omega

/-- What point `t` writes back is rows `512 t` to `512 t + 511` of the result. -/
theorem flushed_eq (c : Dev nD) (t : Fin cfg0.N) :
    (dats m 0 c).flushed 4 t = (win0_4.blk t).view.read (Elt Ideal) (res m c) := by
  rw [Value.flushed4_A, out_apply]
  funext j
  obtain ⟨r, l, rfl⟩ : ∃ (r : Fin 512) (l : Fin 1024), j = ix2 r l := ⟨j 0, j 1, eq_ix2 j⟩
  have ht : t.val < 64 := t.isLt
  have hr : 512 * t.val + r.val < 32768 := by omega
  show k0_pay16 (iblk m c 0 t) (hidden (k0_pay1 (iblk m c 0 t) (iblk m c 1 t)) (iblk m c 2 t)) (iblk m c 3 t) (ix2 r l)
    = res m c ((win0_4.blk t).view.emb (ix2 r l))
  have e : (win0_4.blk t).view.emb (ix2 r l) = (ix2 ⟨512 * t.val + r.val, hr⟩ l : S32768x1024.Idx) := by
    funext a
    apply Fin.ext
    show win0_4.index t a * win0_4.size a + 1 * (ix2 r l a).val = _
    rw [(index_eq t).2.2.2.2]
    match a with
    | ⟨0, _⟩ => show t.val * 512 + 1 * r.val = 512 * t.val + r.val; omega
    | ⟨1, _⟩ => show 0 * 1024 + 1 * l.val = l.val; omega
  rw [e]
  refine (pay_apply _ _ _ _ r l).trans ?_
  simp only [blk0 m c t r _ hr, blk1, blk2, blk3]
  rfl

theorem cover (i : S32768x1024.Idx) :
    ∃ t : Fin cfg0.N, (cfg0.win 4).flush t = true ∧ i ∈ ((cfg0.win 4).blk t).view.set := by
  have h0 : (i 0).val < 32768 := (i 0).isLt
  have h1 : (i 1).val < 1024 := (i 1).isLt
  have hN : cfg0.N = 64 := N_0
  have ht : (i 0).val / 512 < cfg0.N := by omega
  refine ⟨⟨(i 0).val / 512, ht⟩, flush0_4 _, ?_⟩
  show i ∈ ((View.whole main_v0).slice (win0_4.rect ⟨(i 0).val / 512, ht⟩)).set
  rw [View.set_slice_whole, Rect.mem_set_unit]
  intro a
  show win0_4.index ⟨(i 0).val / 512, ht⟩ a * win0_4.size a ≤ (i a).val
    ∧ (i a).val < win0_4.index ⟨(i 0).val / 512, ht⟩ a * win0_4.size a + win0_4.size a
  rw [(index_eq ⟨(i 0).val / 512, ht⟩).2.2.2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- After the run the result array is `res`. -/
theorem final (c : Dev nD) : (dats m 0 c).arrAt 4 cfg0.N = res m c :=
  (dats m 0 c).arrAt_eq_of_cover 4 (res m c) (fun t _ => flushed_eq m c t) cover

end Cert.FfnAIdeal.Block
end
-- ==== Proof.FfnAValue.lean ====
module

public import proofs.«01_k».proof.Proof.FfnAKernel
public import proofs.«01_k».proof.Proof.Gen.FfnARefIdeal.Run
public import proofs.«01_k».proof.Proof.Gen.FfnARefIdeal.Read
public import proofs.«01_k».proof.Defs
public import Idealize.ShloMosaic.Lib.Quiescent

/-! The first feed-forward layer: the reference read entry by entry, and the value claim. -/

@[expose] public section

set_option maxRecDepth 16384

noncomputable section

open Idealize.ShloMosaic Idealize.ShloMosaic.TcCoe Idealize.SL.Sem

namespace Cert.FfnARefIdeal.Entry

open Cert.FfnARefIdeal Cert.FfnARefIdeal.Gen Cert.FfnARefIdeal.Read

theorem ref_apply (h : Vec Ideal S32768x1024 .f32) (w : Vec Ideal S1x1024 .f32) (wi : Vec Ideal S1024x5632 .bf16) (wo : Vec Ideal S2816x1024 .bf16)
    (r : Fin 32768) (l : Fin 1024) :
    val_main_v22 (F := Ideal) h w wi wo (ix2 r l)
    = h (ix2 r l) + Ideal.ofBits .f32 0x3F000000#32 * Rows.dot (fun f : Fin 2816 =>
          Rows.hid (Rows.rms (Ideal.ofBits .f32 0x44800000#32) (fun k : Fin 1024 => h (ix2 r k)) (fun k => w (ix2 0 k)))
            (fun k => wi (ix2 k ⟨f.val, by omega⟩)) (fun k => wi (ix2 k ⟨2816 + f.val, by omega⟩))) (fun f => wo (ix2 f l)) := by
  have hn : ∀ k : Fin 1024, val_main_v11 (F := Ideal) h w (ix2 r k)
      = Rows.rms (Ideal.ofBits .f32 0x44800000#32) (fun k : Fin 1024 => h (ix2 r k)) (fun k => w (ix2 0 k)) k := by
    intro k
    pointwise [val_main_v11, val_main_v10, val_main_v9, val_main_v8, val_main_v7, val_main_v6, val_main_v5, val_main_v4, val_main_v3, val_main_v2, val_main_v1, val_main_v0, val_main_cst, val_main_cst_0, val_main_cst_1, Rows.rms]
  generalize hx : val_main_v11 (F := Ideal) h w = xn at hn
  pointwise [val_main_v22, val_main_v21, val_main_v20, val_main_v19, val_main_v18, val_main_v17, val_main_v16, val_main_v15, val_main_v14, val_main_v13, val_main_v12, hx, val_main_cst_2, val_main_call0_v0, val_main_call0_v1, val_main_call0_v2, val_main_call0_v3, val_main_call0_v4, val_main_call0_v5, val_main_call0_cst, val_main_call0_cst_0, Rows.dot, Rows.hid]
  simp only [hn]
  rfl

end Cert.FfnARefIdeal.Entry

namespace Cert.FfnAIdeal.Block

/-- The reference runs, its arguments unchanged. -/
theorem ref_frame : quiescent_FfnARefIdeal (hFfnARefIdeal := Cert.FfnARefIdeal.Gen.facts) := fun m ρ _ =>
  (θ_run Cert.FfnARefIdeal.defs _ _).mono (fun r h => ⟨fun c => (h c).2, sem_eq_zero_of_no_sems (by decide) r.2⟩)
    (Cert.FfnARefIdeal.Value.run (F := Ideal) m ρ)

/-- The kernel and the reference end with the same array. -/
theorem value : algebraic_FfnAIdeal_FfnARefIdeal (hFfnAIdeal := Cert.FfnAIdeal.Gen.facts) (hFfnARefIdeal := Cert.FfnARefIdeal.Gen.facts) := by
  intro m ρ m' ρ' _ hagree
  refine ⟨fun c => res m c, (θ_run Cert.FfnAIdeal.defs _ _).mono (fun r h c => ⟨((h c).1).trans (final m c), (h c).2⟩)
      (Cert.FfnAIdeal.Value.run_blocks (F := Ideal) m ρ),
    (θ_run Cert.FfnARefIdeal.defs _ _).mono (fun r h c => ⟨((h c).1).trans ?_, (h c).2⟩) (Cert.FfnARefIdeal.Value.run (F := Ideal) m' ρ')⟩
  rw [Cert.FfnARefIdeal.Read.val_main_v22_eq, (hagree c).1, (hagree c).2.1, (hagree c).2.2.1, (hagree c).2.2.2]
  funext i
  rw [eq_ix2 (n0 := 32768) (n1 := 1024) i]
  exact Cert.FfnARefIdeal.Entry.ref_apply _ _ _ _ _ _

end Cert.FfnAIdeal.Block
end
-- ==== Proof.Blocks.lean ====
module

public import proofs.«01_k».proof.Proof.Rows

/-! More functions of one row, and two facts on where a block of an array lies. -/

@[expose] public section

noncomputable section

open Idealize.ShloMosaic

namespace Cert.Rows

/-- The row length, 1024, as it is printed. -/
abbrev size : EReal := Ideal.ofBits .f32 0x44800000#32

/-- Half a feed-forward step of one row. -/
def half (h nw : Fin 1024 → EReal) (wi : Fin 1024 → Fin 5632 → EReal) (wo : Fin 2816 → Fin 1024 → EReal) (l : Fin 1024) : EReal :=
  h l + Ideal.ofBits .f32 0x3F000000#32 * dot (fun f : Fin 2816 => hid (rms size h nw)
    (fun k => wi k ⟨f.val, by omega⟩) (fun k => wi k ⟨2816 + f.val, by omega⟩)) (fun f => wo f l)

/-- The per-layer input, gated by the row. -/
def ple (h pn : Fin 1024 → EReal) (wg : Fin 1024 → Fin 1024 → EReal) (p : Fin 256 → EReal) (wp : Fin 256 → Fin 1024 → EReal) (l : Fin 1024) : EReal :=
  h l + dot p (fun k => wp k l) * Ideal.logistic (dot (rms size h pn) (fun k => wg k l))

/-- A block at the origin lies where it is. -/
theorem emb_whole {s : Shape} (f g : s.Idx) (idx sz : Fin s.rank → Nat) (hi : ∀ a, idx a = 0)
    (h : ∀ a, (f a).val = idx a * sz a + 1 * (g a).val) : f = g := by
  funext a
  apply Fin.ext
  rw [h a, hi a]
  omega

/-- Block `t` of `b` rows of a matrix starts at row `b t`. -/
theorem emb_rows {n m b : Nat} (f : (⟨2, ![n, m]⟩ : Shape).Idx) (t r k : Nat) (hr : b * t + r < n) (hk : k < m)
    (idx sz : Fin 2 → Nat) (hi : idx = ![t, 0]) (hs : sz 0 = b)
    (h : ∀ a, (f a).val = idx a * sz a + 1 * (![r, k] : Fin 2 → Nat) a) :
    f = ix2 (n0 := n) (n1 := m) ⟨b * t + r, hr⟩ ⟨k, hk⟩ := by
  subst hi
  funext a
  apply Fin.ext
  rw [h a]
  match a with
  | ⟨0, _⟩ => show t * sz 0 + 1 * r = b * t + r; rw [hs, Nat.mul_comm, Nat.one_mul]
  | ⟨1, _⟩ => show 0 * sz 1 + 1 * k = k; omega

end Cert.Rows

namespace Cert.Scratch

variable {s : Shape} {e : EltTy} {Val : EltTy → Type}

/-- Boxes that cover a buffer, each holding its part of one function, make that function. -/
theorem canon_of_tiles [∀ e, Nonempty (Val e)] (G : s.Idx → Val e) (L : List (View.Piece Val s e))
    (hc : ∀ y, ∃ p ∈ L, y ∈ p.1.set) (h : ∀ p ∈ L, ∀ x : p.1.shape.Idx, p.2 x = G (p.1.emb x)) : View.canon L = G :=
  funext fun j => View.canon_apply_of_pieces G L h j (hc j)

end Cert.Scratch
end
-- ==== Proof.FfnBKernel.lean ====
module

public import proofs.«01_k».proof.Proof.Gen.FfnBIdeal.Value
public import proofs.«01_k».proof.Proof.Blocks

/-! What one grid point of the second feed-forward kernel writes: its 512 rows of the result, each a function of the
    same row of its input blocks and of the weights. -/

@[expose] public section

set_option maxRecDepth 16384

noncomputable section

open Idealize.ShloMosaic Idealize.ShloMosaic.TcCoe Idealize.SL.Sem
open Idealize.ShloMosaic.Pipeline (Dat)

namespace Cert.FfnBIdeal.Block

open Cert.FfnBIdeal Cert.FfnBIdeal.Gen

/-- The hidden block: the entry of row `y 0` and hidden unit `y 1`. -/
def hidden (xn : Vec Ideal S512x1024 .bf16) (w : Vec Ideal S1024x5632 .bf16) : Vec Ideal S512x2816 .bf16 := fun y =>
  Rows.hid (fun k : Fin 1024 => xn (ix2 (y 0) k)) (fun k => w (ix2 k ⟨(y 1).val, by have : (y 1).val < 2816 := (y 1).isLt; omega⟩))
    (fun k => w (ix2 k ⟨2816 + (y 1).val, by have : (y 1).val < 2816 := (y 1).isLt; omega⟩))

theorem out_apply (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole)
    (a5 : Memref sig .tc .vmem S1x512x256 .f32) (h5 : a5.IsWhole) (a6 : Memref sig .tc .vmem S1x1024 .f32) (h6 : a6.IsWhole) (a7 : Memref sig .tc .vmem S1024x1024 .bf16) (h7 : a7.IsWhole) (a8 : Memref sig .tc .vmem S256x1024 .bf16) (h8 : a8.IsWhole) (a9 : Memref sig .tc .vmem S1x1024 .f32) (h9 : a9.IsWhole)
    (a10 : Memref sig .tc .vmem S512x1024 .f32) (h10 : a10.IsWhole) (a11 : Memref sig .tc .vmem S512x1024 .bf16) (h11 : a11.IsWhole) (a12 : Memref sig .tc .vmem S512x2816 .bf16) (h12 : a12.IsWhole)
    (x0 : Vec Ideal S512x1024 .f32) (x1 : Vec Ideal S1x1024 .f32) (x2 : Vec Ideal S1024x5632 .bf16) (x3 : Vec Ideal S2816x1024 .bf16)
    (x4 : Vec Ideal S1x512x256 .f32) (x5 : Vec Ideal S1x1024 .f32) (x6 : Vec Ideal S1024x1024 .bf16) (x7 : Vec Ideal S256x1024 .bf16) (x8 : Vec Ideal S1x1024 .f32) :
    out0_A_9 c i a1 h1 a2 h2 a3 h3 a4 h4 a5 h5 a6 h6 a7 h7 a8 h8 a9 h9 a10 h10 a11 h11 a12 h12 x0 x1 x2 x3 x4 x5 x6 x7 x8
      = k0_pay1 (k0_pay17 x0 (hidden (k0_pay2 x0 x1) x2) x3) x5 (k0_pay18 x0 (hidden (k0_pay2 x0 x1) x2) x3) x6 x4 x7 x8 := by
  frame_out
  refine congrArg (fun R => k0_pay1 (k0_pay17 x0 R x3) x5 (k0_pay18 x0 R x3) x6 x4 x7 x8) (?_ : _ = hidden (k0_pay2 x0 x1) x2)
  generalize k0_pay2 x0 x1 = xn
  apply Scratch.readCov_of_tiles _ _ _ ![512, 256] (by sl_kernel_rfl)
  · simp only [List.forall_mem_cons, List.not_mem_nil, false_imp_iff, implies_true, and_true]
    refine ⟨?_, ?_, ?_, ?_, ?_, ?_, ?_, ?_, ?_, ?_, ?_⟩ <;>
    · intro x
      obtain ⟨r, l, rfl⟩ : ∃ (r : Fin 512) (l : Fin 256), x = ix2 r l := ⟨x 0, x 1, eq_ix2 x⟩
      pointwise [k0_pay3, k0_pay4, k0_pay5, k0_pay6, k0_pay7, k0_pay8, k0_pay9, k0_pay10, k0_pay11, k0_pay12, k0_pay13, k0_pay14, k0_pay15, k0_pay16, hidden, Rows.hid, Rows.dot]
      simp only [Scratch.unit_emb_ix2, ix2_0, ix2_1, Nat.zero_add, Fin.eta, ← Nat.add_assoc, Nat.reduceAdd]
  · intro a; fin_cases a <;> rfl

/-- The first half: the input plus half the hidden row times the output weights. -/
theorem half_apply (x0 : Vec Ideal S512x1024 .f32) (x1 : Vec Ideal S1x1024 .f32) (x2 : Vec Ideal S1024x5632 .bf16) (x3 : Vec Ideal S2816x1024 .bf16)
    (r : Fin 512) (l : Fin 1024) :
    k0_pay17 x0 (hidden (k0_pay2 x0 x1) x2) x3 (ix2 r l)
      = Rows.half (fun k => x0 (ix2 r k)) (fun k => x1 (ix2 0 k)) (fun k f => x2 (ix2 k f)) (fun f k => x3 (ix2 f k)) l := by
  have hx : ∀ k : Fin 1024, k0_pay2 x0 x1 (ix2 r k)
      = Rows.rms (Ideal.ofBits .f32 0x44800000#32) (fun k => x0 (ix2 r k)) (fun k => x1 (ix2 0 k)) k := by
    intro k
    pointwise [k0_pay2, Rows.rms]
  generalize k0_pay2 x0 x1 = xn at hx
  unfold Rows.half
  pointwise [k0_pay17, hidden, Rows.dot]
  simp only [hx]

/-- The second half: the gated input and the last norm. -/
theorem last_apply (mid : Vec Ideal S512x1024 .f32) (x4 : Vec Ideal S1x512x256 .f32) (x5 : Vec Ideal S1x1024 .f32) (x6 : Vec Ideal S1024x1024 .bf16) (x7 : Vec Ideal S256x1024 .bf16) (x8 : Vec Ideal S1x1024 .f32)
    (r : Fin 512) (l : Fin 1024) :
    k0_pay1 mid x5 (multiReduction .add [1] S512 (mulf mid mid) 0x00000000#32 reduces_S512x1024_S512 (.inl rfl) rfl) x6 x4 x7 x8 (ix2 r l)
      = Rows.rms Rows.size (Rows.ple (fun k => mid (ix2 r k)) (fun k => x5 (ix2 0 k)) (fun k l => x6 (ix2 k l)) (fun k => x4 (ix3 0 r k)) (fun k l => x7 (ix2 k l)))
          (fun k => x8 (ix2 0 k)) l := by
  unfold Rows.rms Rows.ple Rows.rms Rows.dot
  pointwise [k0_pay1]

end Cert.FfnBIdeal.Block
end
-- ==== Proof.FfnBValue.lean ====
module

public import proofs.«01_k».proof.Proof.FfnBKernel
public import proofs.«01_k».proof.Proof.Gen.FfnBRefIdeal.Run
public import proofs.«01_k».proof.Proof.Gen.FfnBRefIdeal.Read
public import proofs.«01_k».proof.Defs
public import Idealize.ShloMosaic.Lib.Quiescent

/-! The second feed-forward layer: the kernel's whole result, the reference read entry by entry, and the value claim. -/

@[expose] public section

set_option maxRecDepth 16384

noncomputable section

open Idealize.ShloMosaic Idealize.ShloMosaic.TcCoe Idealize.SL.Sem

namespace Cert.FfnBIdeal.Block

open Cert.FfnBIdeal Cert.FfnBIdeal.Gen

/-- The result from the arguments, entry by entry. -/
def out (h : Vec Ideal S32768x1024 .f32) (w : Vec Ideal S1x1024 .f32) (wi : Vec Ideal S1024x5632 .bf16) (wo : Vec Ideal S2816x1024 .bf16)
    (p : Vec Ideal S2x32768x256 .f32) (pn : Vec Ideal S1x1024 .f32) (wg : Vec Ideal S1024x1024 .bf16) (wp : Vec Ideal S256x1024 .bf16) (fw : Vec Ideal S1x1024 .f32)
    (i : S32768x1024.Idx) : EReal :=
  Rows.rms Rows.size (Rows.ple
    (Rows.half (fun k => h (ix2 (i 0) k)) (fun k => w (ix2 0 k)) (fun k f => wi (ix2 k f)) (fun f k => wo (ix2 f k)))
    (fun k => pn (ix2 0 k)) (fun k l => wg (ix2 k l)) (fun k => p (ix3 1 (i 0) k)) (fun k l => wp (ix2 k l)))
    (fun k => fw (ix2 0 k)) (i 1)

variable (m : (ℓ : Loc nD τ sig) → Buf (Elt Ideal) ℓ) (ρ : Dev nD → PrngReg)

/-- The result array. -/
def res (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The blocks that move with the grid point. -/
theorem index_eq : ∀ t : Fin grid0.N, win0_0.index t = ![t.val, 0] ∧ win0_4.index t = ![1, t.val, 0] ∧ win0_9.index t = ![t.val, 0] := by decide +kernel

/-- The blocks that stay. -/
theorem index_zero : ∀ t : Fin grid0.N, (∀ a, win0_1.index t a = 0) ∧ (∀ a, win0_2.index t a = 0) ∧ (∀ a, win0_3.index t a = 0)
    ∧ (∀ a, win0_5.index t a = 0) ∧ (∀ a, win0_6.index t a = 0) ∧ (∀ a, win0_7.index t a = 0) ∧ (∀ a, win0_8.index t a = 0) := by decide +kernel

theorem blk0 (c : Dev nD) (t : Fin cfg0.N) (r : Fin 512) (k : Fin 1024) (h : 512 * t.val + r.val < 32768) :
    (iblk m c 0 t : Vec Ideal S512x1024 .f32) (ix2 r k)
      = (m ((c : Thread nD τ).loc main_arg0) : Vec Ideal S32768x1024 .f32) (ix2 ⟨512 * t.val + r.val, h⟩ k) := by
  rw [← V_main_arg0 m c]
  show (V m c main_arg0 : Vec Ideal S32768x1024 .f32) _ = _
  congr 1
  exact Rows.emb_rows _ t.val r.val k.val h k.isLt _ _ (index_eq t).1 rfl (fun a => by match a with | ⟨0, _⟩ => rfl | ⟨1, _⟩ => rfl)

theorem blk4 (c : Dev nD) (t : Fin cfg0.N) (r : Fin 512) (k : Fin 256) (h : 512 * t.val + r.val < 32768) :
    (iblk m c 4 t : Vec Ideal S1x512x256 .f32) (ix3 0 r k)
      = (m ((c : Thread nD τ).loc main_arg4) : Vec Ideal S2x32768x256 .f32) (ix3 1 ⟨512 * t.val + r.val, h⟩ k) := by
  rw [← V_main_arg4 m c]
  show (V m c main_arg4 : Vec Ideal S2x32768x256 .f32) _ = _
  congr 1
  funext a
  apply Fin.ext
  show win0_4.index t a * win0_4.size a + 1 * (ix3 (n0 := 1) 0 r k a).val = _
  rw [(index_eq t).2.1]
  match a with
  | ⟨0, _⟩ => rfl
  | ⟨1, _⟩ => show t.val * 512 + 1 * r.val = 512 * t.val + r.val; omega
  | ⟨2, _⟩ => show 0 * 256 + 1 * k.val = k.val; omega

theorem blk1 (c : Dev nD) (t : Fin cfg0.N) : iblk m c 1 t = m ((c : Thread nD τ).loc main_arg1) := by
  rw [← V_main_arg1 m c]
  funext j
  exact congrArg (V m c main_arg1 : Vec Ideal S1x1024 .f32) (Rows.emb_whole _ j _ win0_1.size (index_zero t).1 fun _ => rfl)

theorem blk2 (c : Dev nD) (t : Fin cfg0.N) : iblk m c 2 t = m ((c : Thread nD τ).loc main_arg2) := by
  rw [← V_main_arg2 m c]
  funext j
  exact congrArg (V m c main_arg2 : Vec Ideal S1024x5632 .bf16) (Rows.emb_whole _ j _ win0_2.size (index_zero t).2.1 fun _ => rfl)

theorem blk3 (c : Dev nD) (t : Fin cfg0.N) : iblk m c 3 t = m ((c : Thread nD τ).loc main_arg3) := by
  rw [← V_main_arg3 m c]
  funext j
  exact congrArg (V m c main_arg3 : Vec Ideal S2816x1024 .bf16) (Rows.emb_whole _ j _ win0_3.size (index_zero t).2.2.1 fun _ => rfl)

theorem blk5 (c : Dev nD) (t : Fin cfg0.N) : iblk m c 5 t = m ((c : Thread nD τ).loc main_arg5) := by
  rw [← V_main_arg5 m c]
  funext j
  exact congrArg (V m c main_arg5 : Vec Ideal S1x1024 .f32) (Rows.emb_whole _ j _ win0_5.size (index_zero t).2.2.2.1 fun _ => rfl)

theorem blk6 (c : Dev nD) (t : Fin cfg0.N) : iblk m c 6 t = m ((c : Thread nD τ).loc main_arg6) := by
  rw [← V_main_arg6 m c]
  funext j
  exact congrArg (V m c main_arg6 : Vec Ideal S1024x1024 .bf16) (Rows.emb_whole _ j _ win0_6.size (index_zero t).2.2.2.2.1 fun _ => rfl)

theorem blk7 (c : Dev nD) (t : Fin cfg0.N) : iblk m c 7 t = m ((c : Thread nD τ).loc main_arg7) := by
  rw [← V_main_arg7 m c]
  funext j
  exact congrArg (V m c main_arg7 : Vec Ideal S256x1024 .bf16) (Rows.emb_whole _ j _ win0_7.size (index_zero t).2.2.2.2.2.1 fun _ => rfl)

theorem blk8 (c : Dev nD) (t : Fin cfg0.N) : iblk m c 8 t = m ((c : Thread nD τ).loc main_arg8) := by
  rw [← V_main_arg8 m c]
  funext j
  exact congrArg (V m c main_arg8 : Vec Ideal S1x1024 .f32) (Rows.emb_whole _ j _ win0_8.size (index_zero t).2.2.2.2.2.2 fun _ => rfl)

/-- What point `t` writes back is rows `512 t` to `512 t + 511` of the result. -/
theorem flushed_eq (c : Dev nD) (t : Fin cfg0.N) :
    (dats m 0 c).flushed 9 t = (win0_9.blk t).view.read (Elt Ideal) (res m c) := by
  rw [Value.flushed9_A, out_apply]
  funext j
  obtain ⟨r, l, rfl⟩ : ∃ (r : Fin 512) (l : Fin 1024), j = ix2 r l := ⟨j 0, j 1, eq_ix2 j⟩
  have ht : t.val < 64 := t.isLt
  have hr : 512 * t.val + r.val < 32768 := by omega
  have e : (win0_9.blk t).view.emb (ix2 r l) = (ix2 ⟨512 * t.val + r.val, hr⟩ l : S32768x1024.Idx) :=
    Rows.emb_rows _ t.val r.val l.val hr l.isLt _ _ (index_eq t).2.2 rfl (fun a => by match a with | ⟨0, _⟩ => rfl | ⟨1, _⟩ => rfl)
  refine (last_apply (k0_pay17 (iblk m c 0 t) (hidden (k0_pay2 (iblk m c 0 t) (iblk m c 1 t)) (iblk m c 2 t)) (iblk m c 3 t)) _ _ _ _ _ r l).trans
    (Eq.trans ?_ (congrArg (res m c) e).symm)
  simp only [half_apply, blk0 m c t r _ hr, blk4 m c t r _ hr, blk1, blk2, blk3, blk5, blk6, blk7, blk8]
  rfl

theorem cover (i : S32768x1024.Idx) :
    ∃ t : Fin cfg0.N, (cfg0.win 9).flush t = true ∧ i ∈ ((cfg0.win 9).blk t).view.set := by
  have h0 : (i 0).val < 32768 := (i 0).isLt
  have h1 : (i 1).val < 1024 := (i 1).isLt
  have hN : cfg0.N = 64 := N_0
  have ht : (i 0).val / 512 < cfg0.N := by omega
  refine ⟨⟨(i 0).val / 512, ht⟩, flush0_9 _, ?_⟩
  show i ∈ ((View.whole main_v0).slice (win0_9.rect ⟨(i 0).val / 512, ht⟩)).set
  rw [View.set_slice_whole, Rect.mem_set_unit]
  intro a
  show win0_9.index ⟨(i 0).val / 512, ht⟩ a * win0_9.size a ≤ (i a).val
    ∧ (i a).val < win0_9.index ⟨(i 0).val / 512, ht⟩ a * win0_9.size a + win0_9.size a
  rw [(index_eq ⟨(i 0).val / 512, ht⟩).2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- After the run the result array is `res`. -/
theorem final (c : Dev nD) : (dats m 0 c).arrAt 9 cfg0.N = res m c :=
  (dats m 0 c).arrAt_eq_of_cover 9 (res m c) (fun t _ => flushed_eq m c t) cover

end Cert.FfnBIdeal.Block

namespace Cert.FfnBRefIdeal.Entry

open Cert.FfnBRefIdeal Cert.FfnBRefIdeal.Gen Cert.FfnBRefIdeal.Read

/-- The reference's first half. -/
theorem half_apply (h : Vec Ideal S32768x1024 .f32) (w : Vec Ideal S1x1024 .f32) (wi : Vec Ideal S1024x5632 .bf16) (wo : Vec Ideal S2816x1024 .bf16)
    (r : Fin 32768) (l : Fin 1024) :
    val_main_v22 (F := Ideal) h w wi wo (ix2 r l)
      = Rows.half (fun k => h (ix2 r k)) (fun k => w (ix2 0 k)) (fun k f => wi (ix2 k f)) (fun f k => wo (ix2 f k)) l := by
  have hn : ∀ k : Fin 1024, val_main_v11 (F := Ideal) h w (ix2 r k)
      = Rows.rms (Ideal.ofBits .f32 0x44800000#32) (fun k : Fin 1024 => h (ix2 r k)) (fun k => w (ix2 0 k)) k := by
    intro k
    pointwise [val_main_v11, val_main_v10, val_main_v9, val_main_v8, val_main_v7, val_main_v6, val_main_v5, val_main_v4, val_main_v3, val_main_v2, val_main_v1, val_main_v0, val_main_cst, val_main_cst_0, val_main_cst_1, Rows.rms]
  generalize hx : val_main_v11 (F := Ideal) h w = xn at hn
  unfold Rows.half
  pointwise [val_main_v22, val_main_v21, val_main_v20, val_main_v19, val_main_v18, val_main_v17, val_main_v16, val_main_v15, val_main_v14, val_main_v13, val_main_v12, hx, val_main_cst_2, val_main_call0_v0, val_main_call0_v1, val_main_call0_v2, val_main_call0_v3, val_main_call0_v4, val_main_call0_v5, val_main_call0_cst, val_main_call0_cst_0, Rows.dot, Rows.hid]
  simp only [hn]
  rfl

/-- The reference's gated input. -/
theorem ple_apply (h : Vec Ideal S32768x1024 .f32) (w : Vec Ideal S1x1024 .f32) (wi : Vec Ideal S1024x5632 .bf16) (wo : Vec Ideal S2816x1024 .bf16)
    (p : Vec Ideal S2x32768x256 .f32) (pn : Vec Ideal S1x1024 .f32) (wg : Vec Ideal S1024x1024 .bf16) (wp : Vec Ideal S256x1024 .bf16)
    (r : Fin 32768) (l : Fin 1024) :
    val_main_v48 (F := Ideal) h w wi wo p pn wg wp (ix2 r l)
      = Rows.ple (Rows.half (fun k => h (ix2 r k)) (fun k => w (ix2 0 k)) (fun k f => wi (ix2 k f)) (fun f k => wo (ix2 f k)))
          (fun k => pn (ix2 0 k)) (fun k l => wg (ix2 k l)) (fun k => p (ix3 1 r k)) (fun k l => wp (ix2 k l)) l := by
  have hm : ∀ k : Fin 1024, val_main_v22 (F := Ideal) h w wi wo (ix2 r k) = _ := half_apply h w wi wo r
  generalize hx : val_main_v22 (F := Ideal) h w wi wo = mid at hm
  have hn : ∀ k : Fin 1024, val_main_v38 (F := Ideal) h w wi wo pn (ix2 r k)
      = Rows.rms Rows.size (fun k : Fin 1024 => mid (ix2 r k)) (fun k => pn (ix2 0 k)) k := by
    intro k
    pointwise [val_main_v38, val_main_v37, val_main_v36, val_main_v35, val_main_v34, val_main_v33, val_main_v32, val_main_v31, val_main_v30, val_main_v29, val_main_v28, val_main_v27, hx, val_main_cst_3, val_main_cst_4, val_main_cst_5, Rows.rms]
  generalize hy : val_main_v38 (F := Ideal) h w wi wo pn = xn at hn
  simp only [hm] at hn
  unfold Rows.ple
  pointwise [val_main_v48, val_main_v47, val_main_v46, val_main_v45, val_main_v44, val_main_v43, val_main_v42, val_main_v41, val_main_v40, val_main_v39, val_main_v26, val_main_v25, val_main_v24, val_main_v23, hx, hy, val_main_cst_6, val_main_cst_7, Rows.dot]
  simp only [hn, hm]
  rfl

theorem ref_apply (h : Vec Ideal S32768x1024 .f32) (w : Vec Ideal S1x1024 .f32) (wi : Vec Ideal S1024x5632 .bf16) (wo : Vec Ideal S2816x1024 .bf16)
    (p : Vec Ideal S2x32768x256 .f32) (pn : Vec Ideal S1x1024 .f32) (wg : Vec Ideal S1024x1024 .bf16) (wp : Vec Ideal S256x1024 .bf16) (fw : Vec Ideal S1x1024 .f32)
    (r : Fin 32768) (l : Fin 1024) :
    val_main_v60 (F := Ideal) h w wi wo p pn wg wp fw (ix2 r l) = Cert.FfnBIdeal.Block.out h w wi wo p pn wg wp fw (ix2 r l) := by
  have hm : ∀ k : Fin 1024, val_main_v48 (F := Ideal) h w wi wo p pn wg wp (ix2 r k) = _ := ple_apply h w wi wo p pn wg wp r
  generalize hx : val_main_v48 (F := Ideal) h w wi wo p pn wg wp = mid at hm
  have hn : val_main_v60 (F := Ideal) h w wi wo p pn wg wp fw (ix2 r l)
      = Rows.rms Rows.size (fun k : Fin 1024 => mid (ix2 r k)) (fun k => fw (ix2 0 k)) l := by
    pointwise [val_main_v60, val_main_v59, val_main_v58, val_main_v57, val_main_v56, val_main_v55, val_main_v54, val_main_v53, val_main_v52, val_main_v51, val_main_v50, val_main_v49, hx, val_main_cst_8, val_main_cst_9, val_main_cst_10, Rows.rms]
  rw [hn]
  simp only [hm]
  rfl

end Cert.FfnBRefIdeal.Entry

namespace Cert.FfnBIdeal.Block

/-- The reference runs, its arguments unchanged. -/
theorem ref_frame : quiescent_FfnBRefIdeal (hFfnBRefIdeal := Cert.FfnBRefIdeal.Gen.facts) := fun m ρ _ =>
  (θ_run Cert.FfnBRefIdeal.defs _ _).mono (fun r h => ⟨fun c => (h c).2, sem_eq_zero_of_no_sems (by decide) r.2⟩)
    (Cert.FfnBRefIdeal.Value.run (F := Ideal) m ρ)

/-- The kernel and the reference end with the same array. -/
theorem value : algebraic_FfnBIdeal_FfnBRefIdeal (hFfnBIdeal := Cert.FfnBIdeal.Gen.facts) (hFfnBRefIdeal := Cert.FfnBRefIdeal.Gen.facts) := by
  intro m ρ m' ρ' _ hagree
  refine ⟨fun c => res m c, (θ_run Cert.FfnBIdeal.defs _ _).mono (fun r h c => ⟨((h c).1).trans (final m c), (h c).2⟩)
      (Cert.FfnBIdeal.Value.run_blocks (F := Ideal) m ρ),
    (θ_run Cert.FfnBRefIdeal.defs _ _).mono (fun r h c => ⟨((h c).1).trans ?_, (h c).2⟩) (Cert.FfnBRefIdeal.Value.run (F := Ideal) m' ρ')⟩
  obtain ⟨h0, h1, h2, h3, h4, h5, h6, h7, h8⟩ := hagree c
  refine (Cert.FfnBRefIdeal.Read.val_main_v60_eq m' c).trans ?_
  rw [h0, h1, h2, h3, h4, h5, h6, h7, h8]
  funext i
  rw [eq_ix2 (n0 := 32768) (n1 := 1024) i]
  exact Cert.FfnBRefIdeal.Entry.ref_apply _ _ _ _ _ _ _ _ _ _ _

end Cert.FfnBIdeal.Block
end
-- ==== Proof.FfnCValue.lean ====
module

public import proofs.«01_k».proof.Proof.FfnBValue
public import proofs.«01_k».proof.Proof.Gen.FfnCIdeal.Value
public import proofs.«01_k».proof.Proof.Gen.FfnCRefIdeal.Run
public import proofs.«01_k».proof.Proof.Gen.FfnCRefIdeal.Read
public import proofs.«01_k».proof.Defs
public import Idealize.ShloMosaic.Lib.Quiescent

/-! The second feed-forward step of layer 0: as that of layer 1, with the other layer's input and without the last norm.
    The hidden block and the first half are those of layer 1. -/

@[expose] public section

set_option maxRecDepth 16384

noncomputable section

open Idealize.ShloMosaic Idealize.ShloMosaic.TcCoe Idealize.SL.Sem
open Idealize.ShloMosaic.Pipeline (Dat)

namespace Cert.FfnCIdeal.Block

open Cert.FfnCIdeal Cert.FfnCIdeal.Gen

theorem out_apply (c : Dev nD) (i : grid0.Coords) (a1 : Memref sig .tc .vmem S512x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole)
    (a5 : Memref sig .tc .vmem S1x512x256 .f32) (h5 : a5.IsWhole) (a6 : Memref sig .tc .vmem S1x1024 .f32) (h6 : a6.IsWhole) (a7 : Memref sig .tc .vmem S1024x1024 .bf16) (h7 : a7.IsWhole) (a8 : Memref sig .tc .vmem S256x1024 .bf16) (h8 : a8.IsWhole) (a9 : Memref sig .tc .vmem S1x1024 .f32) (h9 : a9.IsWhole)
    (a10 : Memref sig .tc .vmem S512x1024 .f32) (h10 : a10.IsWhole) (a11 : Memref sig .tc .vmem S512x1024 .bf16) (h11 : a11.IsWhole) (a12 : Memref sig .tc .vmem S512x2816 .bf16) (h12 : a12.IsWhole)
    (x0 : Vec Ideal S512x1024 .f32) (x1 : Vec Ideal S1x1024 .f32) (x2 : Vec Ideal S1024x5632 .bf16) (x3 : Vec Ideal S2816x1024 .bf16)
    (x4 : Vec Ideal S1x512x256 .f32) (x5 : Vec Ideal S1x1024 .f32) (x6 : Vec Ideal S1024x1024 .bf16) (x7 : Vec Ideal S256x1024 .bf16) (x8 : Vec Ideal S1x1024 .f32) :
    out0_A_9 c i a1 h1 a2 h2 a3 h3 a4 h4 a5 h5 a6 h6 a7 h7 a8 h8 a9 h9 a10 h10 a11 h11 a12 h12 x0 x1 x2 x3 x4 x5 x6 x7 x8
      = k0_pay1 (k0_pay17 x0 (Cert.FfnBIdeal.Block.hidden (k0_pay2 x0 x1) x2) x3) x5 (k0_pay18 x0 (Cert.FfnBIdeal.Block.hidden (k0_pay2 x0 x1) x2) x3) x6 x4 x7 := by
  frame_out
  refine congrArg (fun R => k0_pay1 (k0_pay17 x0 R x3) x5 (k0_pay18 x0 R x3) x6 x4 x7) (?_ : _ = Cert.FfnBIdeal.Block.hidden (k0_pay2 x0 x1) x2)
  generalize k0_pay2 x0 x1 = xn
  apply Scratch.readCov_of_tiles _ _ _ ![512, 256] (by sl_kernel_rfl)
  · simp only [List.forall_mem_cons, List.not_mem_nil, false_imp_iff, implies_true, and_true]
    refine ⟨?_, ?_, ?_, ?_, ?_, ?_, ?_, ?_, ?_, ?_, ?_⟩ <;>
    · intro x
      obtain ⟨r, l, rfl⟩ : ∃ (r : Fin 512) (l : Fin 256), x = ix2 r l := ⟨x 0, x 1, eq_ix2 x⟩
      pointwise [k0_pay3, k0_pay4, k0_pay5, k0_pay6, k0_pay7, k0_pay8, k0_pay9, k0_pay10, k0_pay11, k0_pay12, k0_pay13, k0_pay14, k0_pay15, k0_pay16, Cert.FfnBIdeal.Block.hidden, Rows.hid, Rows.dot]
      simp only [Scratch.unit_emb_ix2, ix2_0, ix2_1, Nat.zero_add, Fin.eta, ← Nat.add_assoc, Nat.reduceAdd]
  · intro a; fin_cases a <;> rfl

/-- The first half, that of layer 1. -/
theorem half_apply (x0 : Vec Ideal S512x1024 .f32) (x1 : Vec Ideal S1x1024 .f32) (x2 : Vec Ideal S1024x5632 .bf16) (x3 : Vec Ideal S2816x1024 .bf16)
    (r : Fin 512) (l : Fin 1024) :
    k0_pay17 x0 (Cert.FfnBIdeal.Block.hidden (k0_pay2 x0 x1) x2) x3 (ix2 r l)
      = Rows.half (fun k => x0 (ix2 r k)) (fun k => x1 (ix2 0 k)) (fun k f => x2 (ix2 k f)) (fun f k => x3 (ix2 f k)) l :=
  Cert.FfnBIdeal.Block.half_apply x0 x1 x2 x3 r l

/-- The second half: the gated input. -/
theorem last_apply (mid : Vec Ideal S512x1024 .f32) (x4 : Vec Ideal S1x512x256 .f32) (x5 : Vec Ideal S1x1024 .f32) (x6 : Vec Ideal S1024x1024 .bf16) (x7 : Vec Ideal S256x1024 .bf16)
    (r : Fin 512) (l : Fin 1024) :
    k0_pay1 mid x5 (multiReduction .add [1] S512 (mulf mid mid) 0x00000000#32 reduces_S512x1024_S512 (.inl rfl) rfl) x6 x4 x7 (ix2 r l)
      = Rows.ple (fun k => mid (ix2 r k)) (fun k => x5 (ix2 0 k)) (fun k l => x6 (ix2 k l)) (fun k => x4 (ix3 0 r k)) (fun k l => x7 (ix2 k l)) l := by
  unfold Rows.ple Rows.rms Rows.dot
  pointwise [k0_pay1]

/-- The result from the arguments, entry by entry. -/
def out (h : Vec Ideal S32768x1024 .f32) (w : Vec Ideal S1x1024 .f32) (wi : Vec Ideal S1024x5632 .bf16) (wo : Vec Ideal S2816x1024 .bf16)
    (p : Vec Ideal S2x32768x256 .f32) (pn : Vec Ideal S1x1024 .f32) (wg : Vec Ideal S1024x1024 .bf16) (wp : Vec Ideal S256x1024 .bf16)
    (i : S32768x1024.Idx) : EReal :=
  Rows.ple
    (Rows.half (fun k => h (ix2 (i 0) k)) (fun k => w (ix2 0 k)) (fun k f => wi (ix2 k f)) (fun f k => wo (ix2 f k)))
    (fun k => pn (ix2 0 k)) (fun k l => wg (ix2 k l)) (fun k => p (ix3 0 (i 0) k)) (fun k l => wp (ix2 k l)) (i 1)

variable (m : (ℓ : Loc nD τ sig) → Buf (Elt Ideal) ℓ) (ρ : Dev nD → PrngReg)

/-- The result array. -/
def res (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The blocks that move with the grid point. -/
theorem index_eq : ∀ t : Fin grid0.N, win0_0.index t = ![t.val, 0] ∧ win0_4.index t = ![0, t.val, 0] ∧ win0_9.index t = ![t.val, 0] := by decide +kernel

/-- The blocks that stay. -/
theorem index_zero : ∀ t : Fin grid0.N, (∀ a, win0_1.index t a = 0) ∧ (∀ a, win0_2.index t a = 0) ∧ (∀ a, win0_3.index t a = 0)
    ∧ (∀ a, win0_5.index t a = 0) ∧ (∀ a, win0_6.index t a = 0) ∧ (∀ a, win0_7.index t a = 0) := by decide +kernel

theorem blk0 (c : Dev nD) (t : Fin cfg0.N) (r : Fin 512) (k : Fin 1024) (h : 512 * t.val + r.val < 32768) :
    (iblk m c 0 t : Vec Ideal S512x1024 .f32) (ix2 r k)
      = (m ((c : Thread nD τ).loc main_arg0) : Vec Ideal S32768x1024 .f32) (ix2 ⟨512 * t.val + r.val, h⟩ k) := by
  rw [← V_main_arg0 m c]
  show (V m c main_arg0 : Vec Ideal S32768x1024 .f32) _ = _
  congr 1
  exact Rows.emb_rows _ t.val r.val k.val h k.isLt _ _ (index_eq t).1 rfl (fun a => by match a with | ⟨0, _⟩ => rfl | ⟨1, _⟩ => rfl)

theorem blk4 (c : Dev nD) (t : Fin cfg0.N) (r : Fin 512) (k : Fin 256) (h : 512 * t.val + r.val < 32768) :
    (iblk m c 4 t : Vec Ideal S1x512x256 .f32) (ix3 0 r k)
      = (m ((c : Thread nD τ).loc main_arg4) : Vec Ideal S2x32768x256 .f32) (ix3 0 ⟨512 * t.val + r.val, h⟩ k) := by
  rw [← V_main_arg4 m c]
  show (V m c main_arg4 : Vec Ideal S2x32768x256 .f32) _ = _
  congr 1
  funext a
  apply Fin.ext
  show win0_4.index t a * win0_4.size a + 1 * (ix3 (n0 := 1) 0 r k a).val = _
  rw [(index_eq t).2.1]
  match a with
  | ⟨0, _⟩ => rfl
  | ⟨1, _⟩ => show t.val * 512 + 1 * r.val = 512 * t.val + r.val; omega
  | ⟨2, _⟩ => show 0 * 256 + 1 * k.val = k.val; omega

/-- A block that stays is its whole argument. -/
theorem stay (c : Dev nD) (t : Fin cfg0.N) :
    iblk m c 1 t = m ((c : Thread nD τ).loc main_arg1) ∧ iblk m c 2 t = m ((c : Thread nD τ).loc main_arg2)
    ∧ iblk m c 3 t = m ((c : Thread nD τ).loc main_arg3) ∧ iblk m c 5 t = m ((c : Thread nD τ).loc main_arg5)
    ∧ iblk m c 6 t = m ((c : Thread nD τ).loc main_arg6) ∧ iblk m c 7 t = m ((c : Thread nD τ).loc main_arg7) := by
  rw [← V_main_arg1 m c, ← V_main_arg2 m c, ← V_main_arg3 m c, ← V_main_arg5 m c, ← V_main_arg6 m c, ← V_main_arg7 m c]
  obtain ⟨z1, z2, z3, z5, z6, z7⟩ := index_zero t
  exact ⟨funext fun j => congrArg (V m c main_arg1 : Vec Ideal S1x1024 .f32) (Rows.emb_whole _ j _ win0_1.size z1 fun _ => rfl),
    funext fun j => congrArg (V m c main_arg2 : Vec Ideal S1024x5632 .bf16) (Rows.emb_whole _ j _ win0_2.size z2 fun _ => rfl),
    funext fun j => congrArg (V m c main_arg3 : Vec Ideal S2816x1024 .bf16) (Rows.emb_whole _ j _ win0_3.size z3 fun _ => rfl),
    funext fun j => congrArg (V m c main_arg5 : Vec Ideal S1x1024 .f32) (Rows.emb_whole _ j _ win0_5.size z5 fun _ => rfl),
    funext fun j => congrArg (V m c main_arg6 : Vec Ideal S1024x1024 .bf16) (Rows.emb_whole _ j _ win0_6.size z6 fun _ => rfl),
    funext fun j => congrArg (V m c main_arg7 : Vec Ideal S256x1024 .bf16) (Rows.emb_whole _ j _ win0_7.size z7 fun _ => rfl)⟩

/-- What point `t` writes back is rows `512 t` to `512 t + 511` of the result. -/
theorem flushed_eq (c : Dev nD) (t : Fin cfg0.N) :
    (dats m 0 c).flushed 9 t = (win0_9.blk t).view.read (Elt Ideal) (res m c) := by
  rw [Value.flushed9_A, out_apply]
  funext j
  obtain ⟨r, l, rfl⟩ : ∃ (r : Fin 512) (l : Fin 1024), j = ix2 r l := ⟨j 0, j 1, eq_ix2 j⟩
  have ht : t.val < 64 := t.isLt
  have hr : 512 * t.val + r.val < 32768 := by omega
  have e : (win0_9.blk t).view.emb (ix2 r l) = (ix2 ⟨512 * t.val + r.val, hr⟩ l : S32768x1024.Idx) :=
    Rows.emb_rows _ t.val r.val l.val hr l.isLt _ _ (index_eq t).2.2 rfl (fun a => by match a with | ⟨0, _⟩ => rfl | ⟨1, _⟩ => rfl)
  refine (last_apply (k0_pay17 (iblk m c 0 t) (Cert.FfnBIdeal.Block.hidden (k0_pay2 (iblk m c 0 t) (iblk m c 1 t)) (iblk m c 2 t)) (iblk m c 3 t)) _ _ _ _ r l).trans
    (Eq.trans ?_ (congrArg (res m c) e).symm)
  obtain ⟨b1, b2, b3, b5, b6, b7⟩ := stay m c t
  simp only [half_apply, blk0 m c t r _ hr, blk4 m c t r _ hr, b1, b2, b3, b5, b6, b7]
  rfl

theorem cover (i : S32768x1024.Idx) :
    ∃ t : Fin cfg0.N, (cfg0.win 9).flush t = true ∧ i ∈ ((cfg0.win 9).blk t).view.set := by
  have h0 : (i 0).val < 32768 := (i 0).isLt
  have h1 : (i 1).val < 1024 := (i 1).isLt
  have hN : cfg0.N = 64 := N_0
  have ht : (i 0).val / 512 < cfg0.N := by omega
  refine ⟨⟨(i 0).val / 512, ht⟩, flush0_9 _, ?_⟩
  show i ∈ ((View.whole main_v0).slice (win0_9.rect ⟨(i 0).val / 512, ht⟩)).set
  rw [View.set_slice_whole, Rect.mem_set_unit]
  intro a
  show win0_9.index ⟨(i 0).val / 512, ht⟩ a * win0_9.size a ≤ (i a).val
    ∧ (i a).val < win0_9.index ⟨(i 0).val / 512, ht⟩ a * win0_9.size a + win0_9.size a
  rw [(index_eq ⟨(i 0).val / 512, ht⟩).2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- After the run the result array is `res`. -/
theorem final (c : Dev nD) : (dats m 0 c).arrAt 9 cfg0.N = res m c :=
  (dats m 0 c).arrAt_eq_of_cover 9 (res m c) (fun t _ => flushed_eq m c t) cover

end Cert.FfnCIdeal.Block

namespace Cert.FfnCRefIdeal.Entry

open Cert.FfnCRefIdeal Cert.FfnCRefIdeal.Gen Cert.FfnCRefIdeal.Read

/-- The reference, entry by entry. -/
theorem ref_apply (h : Vec Ideal S32768x1024 .f32) (w : Vec Ideal S1x1024 .f32) (wi : Vec Ideal S1024x5632 .bf16) (wo : Vec Ideal S2816x1024 .bf16)
    (p : Vec Ideal S2x32768x256 .f32) (pn : Vec Ideal S1x1024 .f32) (wg : Vec Ideal S1024x1024 .bf16) (wp : Vec Ideal S256x1024 .bf16)
    (r : Fin 32768) (l : Fin 1024) :
    val_main_v48 (F := Ideal) h w wi wo p pn wg wp (ix2 r l) = Cert.FfnCIdeal.Block.out h w wi wo p pn wg wp (ix2 r l) := by
  have hm : ∀ k : Fin 1024, val_main_v22 (F := Ideal) h w wi wo (ix2 r k) = _ := Cert.FfnBRefIdeal.Entry.half_apply h w wi wo r
  generalize hx : val_main_v22 (F := Ideal) h w wi wo = mid at hm
  have hn : ∀ k : Fin 1024, val_main_v38 (F := Ideal) h w wi wo pn (ix2 r k)
      = Rows.rms Rows.size (fun k : Fin 1024 => mid (ix2 r k)) (fun k => pn (ix2 0 k)) k := by
    intro k
    pointwise [val_main_v38, val_main_v37, val_main_v36, val_main_v35, val_main_v34, val_main_v33, val_main_v32, val_main_v31, val_main_v30, val_main_v29, val_main_v28, val_main_v27, hx, val_main_cst_3, val_main_cst_4, val_main_cst_5, Rows.rms]
  generalize hy : val_main_v38 (F := Ideal) h w wi wo pn = xn at hn
  simp only [hm] at hn
  unfold Cert.FfnCIdeal.Block.out Rows.ple
  pointwise [val_main_v48, val_main_v47, val_main_v46, val_main_v45, val_main_v44, val_main_v43, val_main_v42, val_main_v41, val_main_v40, val_main_v39, val_main_v26, val_main_v25, val_main_v24, val_main_v23, hx, hy, val_main_cst_6, val_main_cst_7, Rows.dot]
  simp only [hn, hm]
  rfl

end Cert.FfnCRefIdeal.Entry

namespace Cert.FfnCIdeal.Block

/-- The reference runs, its arguments unchanged. -/
theorem ref_frame : quiescent_FfnCRefIdeal (hFfnCRefIdeal := Cert.FfnCRefIdeal.Gen.facts) := fun m ρ _ =>
  (θ_run Cert.FfnCRefIdeal.defs _ _).mono (fun r h => ⟨fun c => (h c).2, sem_eq_zero_of_no_sems (by decide) r.2⟩)
    (Cert.FfnCRefIdeal.Value.run (F := Ideal) m ρ)

/-- The kernel and the reference end with the same array. -/
theorem value : algebraic_FfnCIdeal_FfnCRefIdeal (hFfnCIdeal := Cert.FfnCIdeal.Gen.facts) (hFfnCRefIdeal := Cert.FfnCRefIdeal.Gen.facts) := by
  intro m ρ m' ρ' _ hagree
  refine ⟨fun c => res m c, (θ_run Cert.FfnCIdeal.defs _ _).mono (fun r h c => ⟨((h c).1).trans (final m c), (h c).2⟩)
      (Cert.FfnCIdeal.Value.run_blocks (F := Ideal) m ρ),
    (θ_run Cert.FfnCRefIdeal.defs _ _).mono (fun r h c => ⟨((h c).1).trans ?_, (h c).2⟩) (Cert.FfnCRefIdeal.Value.run (F := Ideal) m' ρ')⟩
  obtain ⟨h0, h1, h2, h3, h4, h5, h6, h7, _⟩ := hagree c
  refine (Cert.FfnCRefIdeal.Read.val_main_v48_eq m' c).trans ?_
  rw [h0, h1, h2, h3, h4, h5, h6, h7]
  funext i
  rw [eq_ix2 (n0 := 32768) (n1 := 1024) i]
  exact Cert.FfnCRefIdeal.Entry.ref_apply _ _ _ _ _ _ _ _ _ _

end Cert.FfnCIdeal.Block
end
-- ==== Proof.InprojKernel.lean ====
module

public import proofs.«01_k».proof.Proof.Blocks
public import proofs.«01_k».proof.Proof.Gen.InprojIdeal.Value

/-! What one grid point of the input projection writes into each of its five results. -/

@[expose] public section

set_option maxRecDepth 16384

noncomputable section

open Idealize.ShloMosaic Idealize.ShloMosaic.TcCoe Idealize.SL.Sem

namespace Cert.InprojIdeal.Block

open Cert.InprojIdeal Cert.InprojIdeal.Gen

/-- Columns `o` to `o + n - 1` of a block of rows times the weights. -/
def cols {n : Nat} (o : Nat) (ho : o + n ≤ 7552) (xn : Vec Ideal S512x1024 .bf16) (w : Vec Ideal S1024x7552 .bf16)
    (y : (⟨2, ![512, n]⟩ : Shape).Idx) : EReal :=
  Rows.dot (fun k : Fin 1024 => xn (ix2 (y 0) k)) (fun k => w (ix2 k ⟨o + (y 1).val, by have : (y 1).val < n := (y 1).isLt; omega⟩))

/-- The normed rows. -/
theorem norm_apply (x0 : Vec Ideal S512x1024 .f32) (x1 : Vec Ideal S1x1024 .f32) (r : Fin 512) (k : Fin 1024) :
    k0_pay6 x0 x1 (ix2 r k) = Rows.rms Rows.size (fun k => x0 (ix2 r k)) (fun k => x1 (ix2 0 k)) k := by
  pointwise [k0_pay6, Rows.rms]

variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x7552 .bf16) (h3 : a3.IsWhole)
    (a4 : Memref sig .tc .vmem S512x896 .bf16) (h4 : a4.IsWhole) (a5 : Memref sig .tc .vmem S512x1536 .bf16) (h5 : a5.IsWhole) (a6 : Memref sig .tc .vmem S512x512 .f32) (h6 : a6.IsWhole) (a7 : Memref sig .tc .vmem S512x1536 .bf16) (h7 : a7.IsWhole) (a8 : Memref sig .tc .vmem S512x3072 .bf16) (h8 : a8.IsWhole)
    (x0 : Vec Ideal S512x1024 .f32) (x1 : Vec Ideal S1x1024 .f32) (x2 : Vec Ideal S1024x7552 .bf16)

theorem out3_eq : out0_A_3 c i a1 h1 a2 h2 a3 h3 a4 h4 a5 h5 a6 h6 a7 h7 a8 h8 x0 x1 x2 = cols (n := 896) 0 (by decide) (k0_pay6 x0 x1) x2 := by
  frame_out
  apply Scratch.canon_of_tiles _ _ (View.cover_of_tiledBy _ ![512, 128] (by sl_kernel_rfl))
  simp only [List.forall_mem_cons, List.not_mem_nil, false_imp_iff, implies_true, and_true]
  refine ⟨?_, ?_, ?_, ?_⟩ <;>
  · intro x
    obtain ⟨r, l, rfl⟩ : ∃ r l, x = ix2 r l := ⟨x 0, x 1, eq_ix2 x⟩
    pointwise [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, cols, Rows.dot]
    simp only [Scratch.unit_emb_ix2, ix2_0, ix2_1, Nat.zero_add, Fin.eta, ← Nat.add_assoc, Nat.reduceAdd]

theorem out4_eq : out0_A_4 c i a1 h1 a2 h2 a3 h3 a4 h4 a5 h5 a6 h6 a7 h7 a8 h8 x0 x1 x2 = cols (n := 1536) 896 (by decide) (k0_pay6 x0 x1) x2 := by
  frame_out
  apply Scratch.canon_of_tiles _ _ (View.cover_of_tiledL _ ![512, 256] (by sl_kernel_rfl))
  simp only [List.forall_mem_cons, List.not_mem_nil, false_imp_iff, implies_true, and_true]
  refine ⟨?_, ?_, ?_, ?_, ?_, ?_⟩ <;>
  · intro x
    obtain ⟨r, l, rfl⟩ : ∃ r l, x = ix2 r l := ⟨x 0, x 1, eq_ix2 x⟩
    pointwise [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, cols, Rows.dot]
    simp only [Scratch.unit_emb_ix2, ix2_0, ix2_1, Nat.zero_add, Fin.eta, ← Nat.add_assoc, Nat.reduceAdd]

theorem out5_eq : out0_A_5 c i a1 h1 a2 h2 a3 h3 a4 h4 a5 h5 a6 h6 a7 h7 a8 h8 x0 x1 x2 = cols (n := 512) 2432 (by decide) (k0_pay6 x0 x1) x2 := by
  frame_out
  apply Scratch.canon_of_tiles _ _ (View.cover_of_tiledL _ ![512, 256] (by sl_kernel_rfl))
  simp only [List.forall_mem_cons, List.not_mem_nil, false_imp_iff, implies_true, and_true]
  refine ⟨?_, ?_⟩ <;>
  · intro x
    obtain ⟨r, l, rfl⟩ : ∃ r l, x = ix2 r l := ⟨x 0, x 1, eq_ix2 x⟩
    pointwise [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, cols, Rows.dot]
    simp only [Scratch.unit_emb_ix2, ix2_0, ix2_1, Nat.zero_add, Fin.eta, ← Nat.add_assoc, Nat.reduceAdd]

theorem out6_eq : out0_A_6 c i a1 h1 a2 h2 a3 h3 a4 h4 a5 h5 a6 h6 a7 h7 a8 h8 x0 x1 x2 = cols (n := 1536) 2944 (by decide) (k0_pay6 x0 x1) x2 := by
  frame_out
  apply Scratch.canon_of_tiles _ _ (View.cover_of_tiledL _ ![512, 256] (by sl_kernel_rfl))
  simp only [List.forall_mem_cons, List.not_mem_nil, false_imp_iff, implies_true, and_true]
  refine ⟨?_, ?_, ?_, ?_, ?_, ?_⟩ <;>
  · intro x
    obtain ⟨r, l, rfl⟩ : ∃ r l, x = ix2 r l := ⟨x 0, x 1, eq_ix2 x⟩
    pointwise [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, cols, Rows.dot]
    simp only [Scratch.unit_emb_ix2, ix2_0, ix2_1, Nat.zero_add, Fin.eta, ← Nat.add_assoc, Nat.reduceAdd]

theorem out7_eq : out0_A_7 c i a1 h1 a2 h2 a3 h3 a4 h4 a5 h5 a6 h6 a7 h7 a8 h8 x0 x1 x2 = cols (n := 3072) 4480 (by decide) (k0_pay6 x0 x1) x2 := by
  frame_out
  refine Scratch.canon_of_tiles _ _ (fun y => ?_) ?_
  · exact View.cover_of_tiledL _ ![512, 256] (by sl_kernel_rfl) y
  simp only [List.forall_mem_cons, List.not_mem_nil, false_imp_iff, implies_true, and_true]
  refine ⟨?_, ?_, ?_, ?_, ?_, ?_, ?_, ?_, ?_, ?_, ?_, ?_⟩ <;>
  · intro x
    obtain ⟨r, l, rfl⟩ : ∃ r l, x = ix2 r l := ⟨x 0, x 1, eq_ix2 x⟩
    pointwise [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, cols, Rows.dot]
    simp only [Scratch.unit_emb_ix2, ix2_0, ix2_1, Nat.zero_add, Fin.eta, ← Nat.add_assoc, Nat.reduceAdd]

end Cert.InprojIdeal.Block
end
-- ==== Proof.InprojHost.lean ====
module

public import proofs.«01_k».proof.Proof.Blocks
public import proofs.«01_k».proof.Proof.Stages
public import proofs.«01_k».proof.Proof.Gen.InprojIdeal.Value

/-! The weights the input projection is given: the columns of `w_in`, laid out by the host. -/

@[expose] public section

set_option maxRecDepth 16384

noncomputable section

open Idealize.ShloMosaic Idealize.ShloMosaic.TcCoe Idealize.SL.Sem

namespace Cert.InprojIdeal.Cols

/-- The stick-breaking queries' scale, `64 ^ (-1/2) / ln 2`, as it is printed. -/
abbrev scale : EReal := Ideal.ofBits .f32 0x3E38AA3B#32

/-- The attention's packed row: two compressed rows, the shared rotary key four times, its rotated partner four times. -/
def mla (z : Fin 7328 → EReal) (l : Fin 896) : EReal :=
  if l.val < 640 then z ⟨l.val, by omega⟩
  else if l.val < 768 then z ⟨640 + l.val % 32, by omega⟩
  else if l.val % 32 < 16 then -z ⟨656 + l.val % 32, by omega⟩
  else z ⟨624 + l.val % 32, by omega⟩

/-- The stick-breaking attention's row: scaled queries, keys, values. -/
def sb (z : Fin 7328 → EReal) (l : Fin 1536) : EReal :=
  if l.val < 512 then z ⟨672 + l.val, by omega⟩ * scale else z ⟨672 + l.val, by omega⟩

/-- The recurrence's forget gates. -/
def fg (z : Fin 7328 → EReal) (l : Fin 512) : EReal := z ⟨2720 + l.val, by omega⟩

/-- The recurrence's queries, inputs and output gates. -/
def qig (z : Fin 7328 → EReal) (l : Fin 1536) : EReal :=
  if l.val < 512 then z ⟨2208 + l.val, by omega⟩ else z ⟨2720 + l.val, by omega⟩

/-- The branches' gates. -/
def gates (z : Fin 7328 → EReal) (l : Fin 3072) : EReal := z ⟨4256 + l.val, by omega⟩

end Cert.InprojIdeal.Cols

namespace Cert.InprojIdeal.Host

open Cert.InprojIdeal Cert.InprojIdeal.Gen
variable (m : (ℓ : Loc nD τ sig) → Buf (Elt Ideal) ℓ) (c : Dev nD)

theorem norm_apply (k : Fin 1024) : (V m c main_v27 : Vec Ideal S1x1024 .f32) (ix2 0 k)
    = (m (c, Proc.tc.devRef main_arg1) : Vec Ideal S1024 .f32) (ix1 k) := by
  entry_read; pointwise

/-- The shared rotary key's columns, four times over. -/
def four (a : FVec Ideal S1024x32 .f32) : FVec Ideal S1024x128 .f32 :=
  shapeCast S1024x128 (broadcastInDim S1x1024x4x32 ![0, 1, 2, 3] bcast_S1x1024x1x32_S1x1024x4x32_0_1_2_3
    (shapeCast S1x1024x1x32 a shapeCasts_S1024x32_S1x1024x1x32)) shapeCasts_S1x1024x4x32_S1024x128

/-- Their rotated partner: the second half negated, then the first half. -/
def turned (a : FVec Ideal S1024x32 .f32) : FVec Ideal S1024x32 .f32 :=
  concatenate S1024x32 1 [⟨S1024x16, (Host.negf (extractStridedSlice S1024x16 ![0, 16] a slices_S1024x32_S1024x16_0_16) : FVec Ideal S1024x16 .f32)⟩,
    ⟨S1024x16, (extractStridedSlice S1024x16 ![0, 0] a slices_S1024x32_S1024x16_0_0 : FVec Ideal S1024x16 .f32)⟩] concatenates_S1024x16_S1024x16_S1024x32_d1

/-- The stick-breaking columns, the queries' scaled. -/
def scaled (a : FVec Ideal S1024x1536 .f32) : FVec Ideal S1024x1536 .f32 :=
  concatenate S1024x1536 1 [⟨S1024x512, (mulf (extractStridedSlice S1024x512 ![0, 0] a slices_S1024x1536_S1024x512_0_0)
      (broadcastInDim S1024x512 ![] bcast_S_S1024x512 (constant S_ .f32 0x3E38AA3B#32 : FVec Ideal S_ .f32)) : FVec Ideal S1024x512 .f32)⟩,
    ⟨S1024x1024, (extractStridedSlice S1024x1024 ![0, 512] a slices_S1024x1536_S1024x1024_0_512 : FVec Ideal S1024x1024 .f32)⟩] concatenates_S1024x512_S1024x1024_S1024x1536_d1

/-- The laid-out weights. -/
def laid (w : FVec Ideal S1024x7328 .f32) : FVec Ideal S1024x7552 .bf16 :=
  truncf .bf16 (concatenate S1024x7552 1
    [⟨S1024x384, (extractStridedSlice S1024x384 ![0, 0] w slices_S1024x7328_S1024x384_0_0 : FVec Ideal S1024x384 .f32)⟩,
     ⟨S1024x256, (extractStridedSlice S1024x256 ![0, 384] w slices_S1024x7328_S1024x256_0_384 : FVec Ideal S1024x256 .f32)⟩,
     ⟨S1024x128, four (extractStridedSlice S1024x32 ![0, 640] w slices_S1024x7328_S1024x32_0_640)⟩,
     ⟨S1024x128, four (turned (extractStridedSlice S1024x32 ![0, 640] w slices_S1024x7328_S1024x32_0_640))⟩,
     ⟨S1024x1536, scaled (extractStridedSlice S1024x1536 ![0, 672] w slices_S1024x7328_S1024x1536_0_672)⟩,
     ⟨S1024x512, (extractStridedSlice S1024x512 ![0, 512] (extractStridedSlice S1024x2048 ![0, 2208] w slices_S1024x7328_S1024x2048_0_2208) slices_S1024x2048_S1024x512_0_512 : FVec Ideal S1024x512 .f32)⟩,
     ⟨S1024x512, (extractStridedSlice S1024x512 ![0, 0] (extractStridedSlice S1024x2048 ![0, 2208] w slices_S1024x7328_S1024x2048_0_2208) slices_S1024x2048_S1024x512_0_0 : FVec Ideal S1024x512 .f32)⟩,
     ⟨S1024x512, (extractStridedSlice S1024x512 ![0, 1024] (extractStridedSlice S1024x2048 ![0, 2208] w slices_S1024x7328_S1024x2048_0_2208) slices_S1024x2048_S1024x512_0_1024 : FVec Ideal S1024x512 .f32)⟩,
     ⟨S1024x512, (extractStridedSlice S1024x512 ![0, 1536] (extractStridedSlice S1024x2048 ![0, 2208] w slices_S1024x7328_S1024x2048_0_2208) slices_S1024x2048_S1024x512_0_1536 : FVec Ideal S1024x512 .f32)⟩,
     ⟨S1024x3072, (extractStridedSlice S1024x3072 ![0, 4256] w slices_S1024x7328_S1024x3072_0_4256 : FVec Ideal S1024x3072 .f32)⟩]
    concatenates_S1024x384_S1024x256_S1024x128_S1024x128_S1024x1536_S1024x512_S1024x512_S1024x512_S1024x512_S1024x3072_S1024x7552_d1 : FVec Ideal S1024x7552 .f32) bitsLt_bf16_f32

theorem laid_eq : (V m c main_v26 : Vec Ideal S1024x7552 .bf16) = laid (m (c, Proc.tc.devRef main_arg2)) := by
  unfold_abbrev_sides
  simp (disch := decide) only [StableHlo.after_cons, StableHlo.after_nil, StableHlo.unary_result', StableHlo.binary_result', StableHlo.nullary_result', StableHlo.reshape_result', StableHlo.nary_result', StableHlo.unary_result_ne', StableHlo.binary_result_ne', StableHlo.nullary_result_ne', StableHlo.reshape_result_ne', StableHlo.nary_result_ne', Matrix.cons_val_zero, Matrix.cons_val_one, Matrix.cons_val]
  rfl

variable (w : FVec Ideal S1024x7328 .f32) (k : Fin 1024)

/-- Two readings of one row at equal columns. -/
theorem at_eq {n : Nat} (z : Fin n → EReal) {a b : Nat} (ha : a < n) (hb : b < n) (e : a = b) : z ⟨a, ha⟩ = z ⟨b, hb⟩ := by
  subst e; rfl

theorem laid_mla (l : Fin 896) (h : 0 + l.val < 7552) : laid w (ix2 k ⟨0 + l.val, h⟩) = Cols.mla (fun j => w (ix2 k j)) l := by
  pointwise [laid, four, turned]
  by_cases h0 : l.val < 384
  · refine (dif_pos (by omega)).trans ?_
    exact (if_pos (by omega)).symm
  by_cases h1 : l.val < 640
  · refine (dif_neg (by omega)).trans <| (dif_pos (by omega)).trans ?_
    exact (at_eq (fun j => w (ix2 k j)) _ _ (by omega)).trans (if_pos h1).symm
  by_cases h2 : l.val < 768
  · refine (dif_neg (by omega)).trans <| (dif_neg (by omega)).trans <| (dif_pos (by omega)).trans ?_
    exact (at_eq (fun j => w (ix2 k j)) _ _ (by omega)).trans ((if_neg h1).trans (if_pos h2)).symm
  refine (dif_neg (by omega)).trans <| (dif_neg (by omega)).trans <| (dif_neg (by omega)).trans <| (dif_pos (by omega)).trans ?_
  by_cases h3 : l.val % 32 < 16
  · refine (dif_pos (by omega)).trans ?_
    exact (congrArg Neg.neg (at_eq (fun j => w (ix2 k j)) _ _ (by omega))).trans ((if_neg h1).trans <| (if_neg h2).trans (if_pos h3)).symm
  · refine (dif_neg (by omega)).trans ?_
    exact (at_eq (fun j => w (ix2 k j)) _ _ (by omega)).trans ((if_neg h1).trans <| (if_neg h2).trans (if_neg h3)).symm

theorem laid_sb (l : Fin 1536) (h : 896 + l.val < 7552) : laid w (ix2 k ⟨896 + l.val, h⟩) = Cols.sb (fun j => w (ix2 k j)) l := by
  pointwise [laid, scaled]
  refine (dif_neg (by omega)).trans <| (dif_neg (by omega)).trans <| (dif_neg (by omega)).trans <| (dif_neg (by omega)).trans <| (dif_pos (by omega)).trans ?_
  by_cases h0 : l.val < 512
  · refine (dif_pos (by omega)).trans ?_
    exact (congrArg (· * Cols.scale) (at_eq (fun j => w (ix2 k j)) _ _ (by omega))).trans (if_pos h0).symm
  · refine (dif_neg (by omega)).trans ?_
    exact (at_eq (fun j => w (ix2 k j)) _ _ (by omega)).trans (if_neg h0).symm

theorem laid_fg (l : Fin 512) (h : 2432 + l.val < 7552) : laid w (ix2 k ⟨2432 + l.val, h⟩) = Cols.fg (fun j => w (ix2 k j)) l := by
  pointwise [laid]
  refine (dif_neg (by omega)).trans <| (dif_neg (by omega)).trans <| (dif_neg (by omega)).trans <| (dif_neg (by omega)).trans <| (dif_neg (by omega)).trans <| (dif_pos (by omega)).trans ?_
  exact at_eq (fun j => w (ix2 k j)) _ _ (by omega)

theorem laid_qig (l : Fin 1536) (h : 2944 + l.val < 7552) : laid w (ix2 k ⟨2944 + l.val, h⟩) = Cols.qig (fun j => w (ix2 k j)) l := by
  pointwise [laid]
  refine (dif_neg (by omega)).trans <| (dif_neg (by omega)).trans <| (dif_neg (by omega)).trans <| (dif_neg (by omega)).trans <| (dif_neg (by omega)).trans <| (dif_neg (by omega)).trans <| ?_
  by_cases h0 : l.val < 512
  · refine (dif_pos (by omega)).trans ?_
    exact (at_eq (fun j => w (ix2 k j)) _ _ (by omega)).trans (if_pos h0).symm
  by_cases h1 : l.val < 1024
  · refine (dif_neg (by omega)).trans <| (dif_pos (by omega)).trans ?_
    exact (at_eq (fun j => w (ix2 k j)) _ _ (by omega)).trans (if_neg h0).symm
  · refine (dif_neg (by omega)).trans <| (dif_neg (by omega)).trans <| (dif_pos (by omega)).trans ?_
    exact (at_eq (fun j => w (ix2 k j)) _ _ (by omega)).trans (if_neg h0).symm

theorem laid_gates (l : Fin 3072) (h : 4480 + l.val < 7552) : laid w (ix2 k ⟨4480 + l.val, h⟩) = Cols.gates (fun j => w (ix2 k j)) l := by
  pointwise [laid]
  refine (dif_neg (by omega)).trans <| (dif_neg (by omega)).trans <| (dif_neg (by omega)).trans <| (dif_neg (by omega)).trans <| (dif_neg (by omega)).trans <| (dif_neg (by omega)).trans <| (dif_neg (by omega)).trans <| (dif_neg (by omega)).trans <| (dif_neg (by omega)).trans <| ?_
  exact at_eq (fun j => w (ix2 k j)) _ _ (by omega)

end Cert.InprojIdeal.Host

namespace Cert.InprojIdeal.Cols

variable {n : Nat} (x : Fin n → ℝ) (W : Fin n → Fin 7328 → ℝ)

/-- A map of rows that a product with reals passes through. -/
def Linear {q : Nat} (f : (Fin 7328 → EReal) → Fin q → EReal) : Prop :=
  ∀ (x : Fin 1024 → ℝ) (W : Fin 1024 → Fin 7328 → ℝ) (l : Fin q),
    Rows.dot (fun k => (x k : EReal)) (fun k => f (fun j => (W k j : EReal)) l)
      = f (fun j => Rows.dot (fun k => (x k : EReal)) (fun k => (W k j : EReal))) l

theorem dot_neg (w : Fin n → ℝ) : Rows.dot (fun k => (x k : EReal)) (fun k => -(w k : EReal))
    = -Rows.dot (fun k => (x k : EReal)) (fun k => (w k : EReal)) := by
  rw [Att.dot_up, ← EReal.coe_neg, ← Finset.sum_neg_distrib]
  refine (Att.dot_up x fun k => -w k).trans (congrArg Real.toEReal (Finset.sum_congr rfl fun k _ => by ring))

theorem scale_real : scale = (((12102203 : ℝ) / 2 ^ 26 : ℝ) : EReal) := by
  simp [scale, Ideal.ofBits, Ideal.ieee, -EReal.coe_mul]; norm_num

theorem dot_scale (w : Fin n → ℝ) : Rows.dot (fun k => (x k : EReal)) (fun k => (w k : EReal) * scale)
    = Rows.dot (fun k => (x k : EReal)) (fun k => (w k : EReal)) * scale := by
  rw [Att.dot_up, scale_real, ← EReal.coe_mul, Finset.sum_mul]
  refine Eq.trans ?_ ((Att.dot_up x fun k => w k * (12102203 / 2 ^ 26)).trans (congrArg Real.toEReal (Finset.sum_congr rfl fun k _ => by ring)))
  simp only [EReal.coe_mul]

theorem mla_linear : Linear mla := fun x W l => by
  unfold mla
  by_cases h0 : l.val < 640
  · simp only [h0, if_true]
  · by_cases h1 : l.val < 768
    · simp only [h0, h1, if_true, if_false]
    · by_cases h2 : l.val % 32 < 16
      · simp only [h0, h1, h2, if_true, if_false]; exact dot_neg x _
      · simp only [h0, h1, h2, if_false]

theorem sb_linear : Linear sb := fun x W l => by
  unfold sb
  by_cases h : l.val < 512
  · simp only [h, if_true]; exact dot_scale x _
  · simp only [h, if_false]

theorem fg_linear : Linear fg := fun _ _ _ => rfl

theorem qig_linear : Linear qig := fun x W l => by
  unfold qig
  by_cases h : l.val < 512
  · simp only [h, if_true]
  · simp only [h, if_false]

theorem gates_linear : Linear gates := fun _ _ _ => rfl

end Cert.InprojIdeal.Cols
end
-- ==== Proof.InprojValue.lean ====
module

public import proofs.«01_k».proof.Proof.InprojKernel
public import proofs.«01_k».proof.Proof.InprojHost
public import proofs.«01_k».proof.Proof.Finite
public import proofs.«01_k».proof.Proof.Gen.Pre_inproj_finite
public import proofs.«01_k».proof.Proof.Gen.InprojRefIdeal.Run
public import proofs.«01_k».proof.Proof.Gen.InprojRefIdeal.Read
public import proofs.«01_k».proof.Defs
public import Idealize.ShloMosaic.Lib.Quiescent

/-! The input projection: its five arrays, the reference, and the value claim. -/

@[expose] public section

set_option maxRecDepth 16384

noncomputable section

open Idealize.ShloMosaic Idealize.ShloMosaic.TcCoe Idealize.SL.Sem

namespace Cert.InprojIdeal.Block

open Cert.InprojIdeal Cert.InprojIdeal.Gen

/-- One result from the arguments: the normed row times `w_in`, then a map of the columns. -/
def out {q : Nat} (f : (Fin 7328 → EReal) → Fin q → EReal) (h : Vec Ideal S32768x1024 .f32) (nw : Vec Ideal S1024 .f32)
    (w : Vec Ideal S1024x7328 .f32) (i : (⟨2, ![32768, q]⟩ : Shape).Idx) : EReal :=
  f (fun j => Rows.dot (Rows.rms Rows.size (fun k => h (ix2 (i 0) k)) (fun k => nw (ix1 k))) (fun k => w (ix2 k j))) (i 1)

/-- An array of reals. -/
def Reals {s : Shape} (a : FVec Ideal s .f32) : Prop := ∀ i, (a i : EReal) = (((a i : EReal).toReal : ℝ) : EReal)

theorem ofBits_size : Rows.size = ((1024 : ℝ) : EReal) := by
  simp [Rows.size, Ideal.ofBits, Ideal.ieee, -EReal.coe_mul]; norm_num

/-- With real arguments, a linear map of the weights' columns is that map of the products. -/
theorem out_of_cols {q : Nat} {f : (Fin 7328 → EReal) → Fin q → EReal} (hf : Cols.Linear f) (h : Vec Ideal S32768x1024 .f32)
    (nw : Vec Ideal S1024 .f32) (w : Vec Ideal S1024x7328 .f32) (rh : Reals h) (rn : Reals nw) (rw' : Reals w) (r : Fin 32768) (l : Fin q) :
    Rows.dot (Rows.rms Rows.size (fun k => h (ix2 r k)) (fun k => nw (ix1 k))) (fun k => f (fun j => w (ix2 k j)) l)
      = out f h nw w (ix2 r l) := by
  have e : Rows.rms Rows.size (fun k => h (ix2 r k)) (fun k => nw (ix1 k))
      = fun k => ((Att.rms 1024 (fun k => (h (ix2 r k) : EReal).toReal) (fun k => (nw (ix1 k) : EReal).toReal) k : ℝ) : EReal) := by
    funext k
    rw [ofBits_size, ← Att.rms_up 1024 (by norm_num)]
    congr 1 <;> funext k
    · exact rh _
    · exact rn _
  have ew : (fun k j => w (ix2 k j)) = fun (k : Fin 1024) (j : Fin 7328) => (((w (ix2 k j) : EReal).toReal : ℝ) : EReal) := by
    funext k j; exact rw' _
  have key := hf (Att.rms 1024 (fun k => (h (ix2 r k) : EReal).toReal) (fun k => (nw (ix1 k) : EReal).toReal)) (fun k j => (w (ix2 k j) : EReal).toReal) l
  unfold out
  show Rows.dot (Rows.rms Rows.size (fun k => h (ix2 r k)) (fun k => nw (ix1 k))) (fun k => f ((fun k j => w (ix2 k j)) k) l)
    = f (fun j => Rows.dot (Rows.rms Rows.size (fun k => h (ix2 r k)) (fun k => nw (ix1 k))) (fun k => (fun k j => w (ix2 k j)) k j)) l
  rw [e, ew]
  exact key

variable (m : (ℓ : Loc nD τ sig) → Buf (Elt Ideal) ℓ) (ρ : Dev nD → PrngReg)

/-- The blocks that move with the grid point. -/
theorem index_eq : ∀ t : Fin grid0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The blocks that stay. -/
theorem index_zero : ∀ t : Fin grid0.N, (∀ a, win0_1.index t a = 0) ∧ (∀ a, win0_2.index t a = 0) := by decide +kernel

theorem blk0 (c : Dev nD) (t : Fin cfg0.N) (r : Fin 512) (k : Fin 1024) (h : 512 * t.val + r.val < 32768) :
    (iblk m c 0 t : Vec Ideal S512x1024 .f32) (ix2 r k)
      = (m ((c : Thread nD τ).loc main_arg0) : Vec Ideal S32768x1024 .f32) (ix2 ⟨512 * t.val + r.val, h⟩ k) := by
  rw [← V_main_arg0 m c]
  exact congrArg (V m c main_arg0 : Vec Ideal S32768x1024 .f32) (Rows.emb_rows _ t.val r.val k.val h k.isLt _ win0_0.size (index_eq t).1 rfl
    (fun a => by match a with | ⟨0, _⟩ => rfl | ⟨1, _⟩ => rfl))

theorem blk1 (c : Dev nD) (t : Fin cfg0.N) : iblk m c 1 t = V m c main_v27 := by
  funext j
  exact congrArg (V m c main_v27 : Vec Ideal S1x1024 .f32) (Rows.emb_whole _ j _ win0_1.size (index_zero t).1 fun _ => rfl)

theorem blk2 (c : Dev nD) (t : Fin cfg0.N) : iblk m c 2 t = Host.laid (m ((c : Thread nD τ).loc main_arg2)) := by
  refine Eq.trans ?_ (Host.laid_eq m c)
  funext j
  exact congrArg (V m c main_v26 : Vec Ideal S1024x7552 .bf16) (Rows.emb_whole _ j _ win0_2.size (index_zero t).2 fun _ => rfl)

/-- Every argument is real. -/
def Finite (c : Dev nD) : Prop :=
  Reals (m ((c : Thread nD τ).loc main_arg0) : Vec Ideal S32768x1024 .f32) ∧ Reals (m ((c : Thread nD τ).loc main_arg1) : Vec Ideal S1024 .f32)
    ∧ Reals (m ((c : Thread nD τ).loc main_arg2) : Vec Ideal S1024x7328 .f32)

/-- One result array. -/
def res {q : Nat} (f : (Fin 7328 → EReal) → Fin q → EReal) (c : Dev nD) : (⟨2, ![32768, q]⟩ : Shape).Idx → EReal :=
  out f (m ((c : Thread nD τ).loc main_arg0)) (m ((c : Thread nD τ).loc main_arg1)) (m ((c : Thread nD τ).loc main_arg2))

/-- One entry of a point's columns is an entry of the result. -/
theorem cols_eq {q : Nat} {f : (Fin 7328 → EReal) → Fin q → EReal} (hf : Cols.Linear f) (o : Nat) (ho : o + q ≤ 7552)
    (hl : ∀ (w : FVec Ideal S1024x7328 .f32) (k : Fin 1024) (l : Fin q) (h : o + l.val < 7552), Host.laid w (ix2 k ⟨o + l.val, h⟩) = f (fun j => w (ix2 k j)) l)
    (c : Dev nD) (hc : Finite m c) (t : Fin cfg0.N) (r : Fin 512) (l : Fin q) (hr : 512 * t.val + r.val < 32768) :
    cols o ho (k0_pay6 (iblk m c 0 t) (iblk m c 1 t)) (iblk m c 2 t) (ix2 r l) = res m f c (ix2 ⟨512 * t.val + r.val, hr⟩ l) := by
  refine Eq.trans ?_ (out_of_cols hf _ _ _ hc.1 hc.2.1 hc.2.2 ⟨512 * t.val + r.val, hr⟩ l)
  unfold cols
  rw [blk2]
  congr 1
  · funext k
    refine (norm_apply (iblk m c 0 t) (iblk m c 1 t) r k).trans ?_
    simp only [blk0 m c t r _ hr, blk1]
    exact congrArg (fun n => Rows.rms Rows.size _ n k) (funext fun k => Host.norm_apply m c k)
  · funext k
    exact hl _ k l _

/-- An entry lies in the block of its row's grid point. -/
theorem mem_rows {q : Nat} (i : (⟨2, ![32768, q]⟩ : Shape).Idx) (idx sz : Fin 2 → Nat) (hi : idx = ![(i 0).val / 512, 0]) (h0 : sz 0 = 512)
    (h1 : sz 1 = q) (a : Fin 2) : idx a * sz a ≤ (i a).val ∧ (i a).val < idx a * sz a + sz a := by
  subst hi
  have hq : (i 1).val < q := (i 1).isLt
  match a with
  | ⟨0, _⟩ => show (i 0).val / 512 * sz 0 ≤ (i 0).val ∧ (i 0).val < (i 0).val / 512 * sz 0 + sz 0; rw [h0]; omega
  | ⟨1, _⟩ => show 0 * sz 1 ≤ (i 1).val ∧ (i 1).val < 0 * sz 1 + sz 1; rw [h1]; omega

theorem point_lt {q : Nat} (i : (⟨2, ![32768, q]⟩ : Shape).Idx) : (i 0).val / 512 < cfg0.N := by
  have h0 : (i 0).val < 32768 := (i 0).isLt
  have hN : cfg0.N = 64 := N_0
  omega

/-- After the run result 0 is the map `mla` of the products. -/
theorem final3 (c : Dev nD) (hc : Finite m c) : (dats m 0 c).arrAt 3 cfg0.N = res m Cols.mla c :=
  (dats m 0 c).arrAt_eq_of_cover 3 (res m Cols.mla c) (fun t _ => by
    rw [Value.flushed3_A, out3_eq]
    funext j
    obtain ⟨r, l, rfl⟩ : ∃ (r : Fin 512) (l : Fin 896), j = ix2 r l := ⟨j 0, j 1, eq_ix2 j⟩
    have ht : t.val < 64 := t.isLt
    have hr : 512 * t.val + r.val < 32768 := by omega
    have e : (win0_3.blk t).view.emb (ix2 r l) = (ix2 ⟨512 * t.val + r.val, hr⟩ l : S32768x896.Idx) :=
      Rows.emb_rows _ t.val r.val l.val hr l.isLt _ _ (index_eq t).2.1 rfl (fun a => by match a with | ⟨0, _⟩ => rfl | ⟨1, _⟩ => rfl)
    exact (cols_eq m Cols.mla_linear 0 (by decide) Host.laid_mla c hc t r l hr).trans (congrArg (res m Cols.mla c) e).symm)
  fun i => ⟨⟨(i 0).val / 512, point_lt i⟩, flush0_3 _, by
    show i ∈ ((View.whole main_v28_0).slice (win0_3.rect ⟨(i 0).val / 512, point_lt i⟩)).set
    rw [View.set_slice_whole, Rect.mem_set_unit]
    exact mem_rows i _ win0_3.size (index_eq ⟨(i 0).val / 512, point_lt i⟩).2.1 rfl rfl⟩

/-- After the run result 1 is the map `sb` of the products. -/
theorem final4 (c : Dev nD) (hc : Finite m c) : (dats m 0 c).arrAt 4 cfg0.N = res m Cols.sb c :=
  (dats m 0 c).arrAt_eq_of_cover 4 (res m Cols.sb c) (fun t _ => by
    rw [Value.flushed4_A, out4_eq]
    funext j
    obtain ⟨r, l, rfl⟩ : ∃ (r : Fin 512) (l : Fin 1536), j = ix2 r l := ⟨j 0, j 1, eq_ix2 j⟩
    have ht : t.val < 64 := t.isLt
    have hr : 512 * t.val + r.val < 32768 := by omega
    have e : (win0_4.blk t).view.emb (ix2 r l) = (ix2 ⟨512 * t.val + r.val, hr⟩ l : S32768x1536.Idx) :=
      Rows.emb_rows _ t.val r.val l.val hr l.isLt _ _ (index_eq t).2.2.1 rfl (fun a => by match a with | ⟨0, _⟩ => rfl | ⟨1, _⟩ => rfl)
    exact (cols_eq m Cols.sb_linear 896 (by decide) Host.laid_sb c hc t r l hr).trans (congrArg (res m Cols.sb c) e).symm)
  fun i => ⟨⟨(i 0).val / 512, point_lt i⟩, flush0_4 _, by
    show i ∈ ((View.whole main_v28_1).slice (win0_4.rect ⟨(i 0).val / 512, point_lt i⟩)).set
    rw [View.set_slice_whole, Rect.mem_set_unit]
    exact mem_rows i _ win0_4.size (index_eq ⟨(i 0).val / 512, point_lt i⟩).2.2.1 rfl rfl⟩

/-- After the run result 2 is the map `fg` of the products. -/
theorem final5 (c : Dev nD) (hc : Finite m c) : (dats m 0 c).arrAt 5 cfg0.N = res m Cols.fg c :=
  (dats m 0 c).arrAt_eq_of_cover 5 (res m Cols.fg c) (fun t _ => by
    rw [Value.flushed5_A, out5_eq]
    funext j
    obtain ⟨r, l, rfl⟩ : ∃ (r : Fin 512) (l : Fin 512), j = ix2 r l := ⟨j 0, j 1, eq_ix2 j⟩
    have ht : t.val < 64 := t.isLt
    have hr : 512 * t.val + r.val < 32768 := by omega
    have e : (win0_5.blk t).view.emb (ix2 r l) = (ix2 ⟨512 * t.val + r.val, hr⟩ l : S32768x512.Idx) :=
      Rows.emb_rows _ t.val r.val l.val hr l.isLt _ _ (index_eq t).2.2.2.1 rfl (fun a => by match a with | ⟨0, _⟩ => rfl | ⟨1, _⟩ => rfl)
    exact (cols_eq m Cols.fg_linear 2432 (by decide) Host.laid_fg c hc t r l hr).trans (congrArg (res m Cols.fg c) e).symm)
  fun i => ⟨⟨(i 0).val / 512, point_lt i⟩, flush0_5 _, by
    show i ∈ ((View.whole main_v28_2).slice (win0_5.rect ⟨(i 0).val / 512, point_lt i⟩)).set
    rw [View.set_slice_whole, Rect.mem_set_unit]
    exact mem_rows i _ win0_5.size (index_eq ⟨(i 0).val / 512, point_lt i⟩).2.2.2.1 rfl rfl⟩

/-- After the run result 3 is the map `qig` of the products. -/
theorem final6 (c : Dev nD) (hc : Finite m c) : (dats m 0 c).arrAt 6 cfg0.N = res m Cols.qig c :=
  (dats m 0 c).arrAt_eq_of_cover 6 (res m Cols.qig c) (fun t _ => by
    rw [Value.flushed6_A, out6_eq]
    funext j
    obtain ⟨r, l, rfl⟩ : ∃ (r : Fin 512) (l : Fin 1536), j = ix2 r l := ⟨j 0, j 1, eq_ix2 j⟩
    have ht : t.val < 64 := t.isLt
    have hr : 512 * t.val + r.val < 32768 := by omega
    have e : (win0_6.blk t).view.emb (ix2 r l) = (ix2 ⟨512 * t.val + r.val, hr⟩ l : S32768x1536.Idx) :=
      Rows.emb_rows _ t.val r.val l.val hr l.isLt _ _ (index_eq t).2.2.2.2.1 rfl (fun a => by match a with | ⟨0, _⟩ => rfl | ⟨1, _⟩ => rfl)
    exact (cols_eq m Cols.qig_linear 2944 (by decide) Host.laid_qig c hc t r l hr).trans (congrArg (res m Cols.qig c) e).symm)
  fun i => ⟨⟨(i 0).val / 512, point_lt i⟩, flush0_6 _, by
    show i ∈ ((View.whole main_v28_3).slice (win0_6.rect ⟨(i 0).val / 512, point_lt i⟩)).set
    rw [View.set_slice_whole, Rect.mem_set_unit]
    exact mem_rows i _ win0_6.size (index_eq ⟨(i 0).val / 512, point_lt i⟩).2.2.2.2.1 rfl rfl⟩

/-- After the run result 4 is the map `gates` of the products. -/
theorem final7 (c : Dev nD) (hc : Finite m c) : (dats m 0 c).arrAt 7 cfg0.N = res m Cols.gates c :=
  (dats m 0 c).arrAt_eq_of_cover 7 (res m Cols.gates c) (fun t _ => by
    rw [Value.flushed7_A, out7_eq]
    funext j
    obtain ⟨r, l, rfl⟩ : ∃ (r : Fin 512) (l : Fin 3072), j = ix2 r l := ⟨j 0, j 1, eq_ix2 j⟩
    have ht : t.val < 64 := t.isLt
    have hr : 512 * t.val + r.val < 32768 := by omega
    have e : (win0_7.blk t).view.emb (ix2 r l) = (ix2 ⟨512 * t.val + r.val, hr⟩ l : S32768x3072.Idx) :=
      Rows.emb_rows _ t.val r.val l.val hr l.isLt _ _ (index_eq t).2.2.2.2.2 rfl (fun a => by match a with | ⟨0, _⟩ => rfl | ⟨1, _⟩ => rfl)
    exact (cols_eq m Cols.gates_linear 4480 (by decide) Host.laid_gates c hc t r l hr).trans (congrArg (res m Cols.gates c) e).symm)
  fun i => ⟨⟨(i 0).val / 512, point_lt i⟩, flush0_7 _, by
    show i ∈ ((View.whole main_v28_4).slice (win0_7.rect ⟨(i 0).val / 512, point_lt i⟩)).set
    rw [View.set_slice_whole, Rect.mem_set_unit]
    exact mem_rows i _ win0_7.size (index_eq ⟨(i 0).val / 512, point_lt i⟩).2.2.2.2.2 rfl rfl⟩

end Cert.InprojIdeal.Block

namespace Cert.InprojRefIdeal.Entry

open Cert.InprojRefIdeal Cert.InprojRefIdeal.Gen Cert.InprojRefIdeal.Read
open Cert.InprojIdeal.Block (out)
open Cert.InprojIdeal (Cols.mla Cols.sb Cols.fg Cols.qig Cols.gates Cols.scale)
open Cert.InprojIdeal.Host (at_eq)

variable (h : Vec Ideal S32768x1024 .f32) (nw : Vec Ideal S1024 .f32) (w : Vec Ideal S1024x7328 .f32) (r : Fin 32768)

/-- The products. -/
theorem z_apply (j : Fin 7328) : val_main_v13 (F := Ideal) h nw w (ix2 r j)
    = Rows.dot (Rows.rms Rows.size (fun k => h (ix2 r k)) (fun k => nw (ix1 k))) (fun k => w (ix2 k j)) := by
  unfold Rows.dot Rows.rms
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

theorem out_eq {q : Nat} (f : (Fin 7328 → EReal) → Fin q → EReal) (l : Fin q) :
    out f h nw w (ix2 r l) = f (fun j => val_main_v13 (F := Ideal) h nw w (ix2 r j)) l :=
  congrArg (fun z => f z l) (funext fun j => (z_apply h nw w r j).symm)

theorem mla_apply (l : Fin 896) : val_main_v40 (F := Ideal) h nw w (ix2 r l) = out Cols.mla h nw w (ix2 r l) := by
  rw [out_eq]
  pointwise [val_main_v40, val_main_v35, val_main_v34, val_main_v33, val_main_v32, val_main_v31, val_main_v30, val_main_v29, val_main_v28, val_main_v27, val_main_v26, val_main_v25, val_main_v16, val_main_v15, val_main_v14]
  by_cases h0 : l.val < 384
  · refine (dif_pos (by omega)).trans ?_
    exact (if_pos (by omega)).symm
  by_cases h1 : l.val < 640
  · refine (dif_neg (by omega)).trans <| (dif_pos (by omega)).trans ?_
    exact (at_eq (fun j => val_main_v13 (F := Ideal) h nw w (ix2 r j)) _ _ (by omega)).trans (if_pos h1).symm
  by_cases h2 : l.val < 768
  · refine (dif_neg (by omega)).trans <| (dif_neg (by omega)).trans <| (dif_pos (by omega)).trans ?_
    exact (at_eq (fun j => val_main_v13 (F := Ideal) h nw w (ix2 r j)) _ _ (by omega)).trans ((if_neg h1).trans (if_pos h2)).symm
  refine (dif_neg (by omega)).trans <| (dif_neg (by omega)).trans <| (dif_neg (by omega)).trans <| ?_
  by_cases h3 : l.val % 32 < 16
  · refine (dif_pos (by omega)).trans ?_
    exact (congrArg Neg.neg (at_eq (fun j => val_main_v13 (F := Ideal) h nw w (ix2 r j)) _ _ (by omega))).trans ((if_neg h1).trans <| (if_neg h2).trans (if_pos h3)).symm
  · refine (dif_neg (by omega)).trans ?_
    exact (at_eq (fun j => val_main_v13 (F := Ideal) h nw w (ix2 r j)) _ _ (by omega)).trans ((if_neg h1).trans <| (if_neg h2).trans (if_neg h3)).symm

theorem sb_apply (l : Fin 1536) : val_main_v41 (F := Ideal) h nw w (ix2 r l) = out Cols.sb h nw w (ix2 r l) := by
  rw [out_eq]
  pointwise [val_main_v41, val_main_v38, val_main_v37, val_main_v36, val_main_cst_2, val_main_v17, val_main_v18, val_main_v19]
  by_cases h0 : l.val < 512
  · refine (dif_pos (by omega)).trans ?_
    exact (congrArg (· * Cols.scale) (at_eq (fun j => val_main_v13 (F := Ideal) h nw w (ix2 r j)) _ _ (by omega))).trans (if_pos h0).symm
  by_cases h1 : l.val < 1024
  · refine (dif_neg (by omega)).trans <| (dif_pos (by omega)).trans ?_
    exact (at_eq (fun j => val_main_v13 (F := Ideal) h nw w (ix2 r j)) _ _ (by omega)).trans (if_neg h0).symm
  · refine (dif_neg (by omega)).trans <| (dif_neg (by omega)).trans <| ?_
    exact (at_eq (fun j => val_main_v13 (F := Ideal) h nw w (ix2 r j)) _ _ (by omega)).trans (if_neg h0).symm

theorem fg_apply (l : Fin 512) : val_main_v21 (F := Ideal) h nw w (ix2 r l) = out Cols.fg h nw w (ix2 r l) := by
  rw [out_eq]
  pointwise [val_main_v21, Cols.fg]

theorem qig_apply (l : Fin 1536) : val_main_v42 (F := Ideal) h nw w (ix2 r l) = out Cols.qig h nw w (ix2 r l) := by
  rw [out_eq]
  pointwise [val_main_v42, val_main_v39, val_main_v20, val_main_v22, val_main_v23]
  by_cases h0 : l.val < 512
  · refine (dif_pos (by omega)).trans ?_
    exact (if_pos h0).symm
  by_cases h1 : l.val < 1024
  · refine (dif_neg (by omega)).trans <| (dif_pos (by omega)).trans ?_
    exact (at_eq (fun j => val_main_v13 (F := Ideal) h nw w (ix2 r j)) _ _ (by omega)).trans (if_neg h0).symm
  · refine (dif_neg (by omega)).trans <| (dif_neg (by omega)).trans <| ?_
    exact (at_eq (fun j => val_main_v13 (F := Ideal) h nw w (ix2 r j)) _ _ (by omega)).trans (if_neg h0).symm

theorem gates_apply (l : Fin 3072) : val_main_v43 (F := Ideal) h nw w (ix2 r l) = out Cols.gates h nw w (ix2 r l) := by
  rw [out_eq]
  pointwise [val_main_v43, val_main_v24, Cols.gates]

end Cert.InprojRefIdeal.Entry

namespace Cert.InprojIdeal.Block

/-- The reference runs, its arguments unchanged. -/
theorem ref_frame : quiescent_InprojRefIdeal (hInprojRefIdeal := Cert.InprojRefIdeal.Gen.facts) := fun m ρ _ =>
  (θ_run Cert.InprojRefIdeal.defs _ _).mono (fun r h => ⟨fun c => (h c).2.2.2.2.2, sem_eq_zero_of_no_sems (by decide) r.2⟩)
    (Cert.InprojRefIdeal.Value.run (F := Ideal) m ρ)

/-- Under the precondition the arguments are real. -/
theorem args_real (m : (ℓ : Loc Cert.InprojIdeal.nD Cert.InprojIdeal.τ Cert.InprojIdeal.sig) → Buf (Elt Ideal) ℓ)
    (hpre : Pre_InprojIdeal_inproj_finite (hPre_inproj_finite := Cert.Pre_inproj_finite.Gen.facts) m) (c : Dev Cert.InprojIdeal.nD) : Finite m c :=
  ⟨Cert.Finite.real_of _ _ (fun _ => rfl) (hpre c).1, Cert.Finite.real_of _ _ (fun _ => rfl) (hpre c).2.1, Cert.Finite.real_of _ _ (fun _ => rfl) (hpre c).2.2⟩

/-- The kernel and the reference end with the same arrays. -/
theorem value : algebraic_InprojIdeal_InprojRefIdeal_pre_inproj_finite (hInprojIdeal := Cert.InprojIdeal.Gen.facts)
    (hInprojRefIdeal := Cert.InprojRefIdeal.Gen.facts) (hPre_inproj_finite := Cert.Pre_inproj_finite.Gen.facts) := by
  intro m ρ m' ρ' hpre hagree
  refine ⟨fun c => res m Cols.mla c, fun c => res m Cols.sb c, fun c => res m Cols.fg c, fun c => res m Cols.qig c, fun c => res m Cols.gates c,
    (θ_run Cert.InprojIdeal.defs _ _).mono (fun r h c => ⟨(h c).1.trans (final3 m c (args_real m hpre c)), (h c).2.1.trans (final4 m c (args_real m hpre c)),
      (h c).2.2.1.trans (final5 m c (args_real m hpre c)), (h c).2.2.2.1.trans (final6 m c (args_real m hpre c)),
      (h c).2.2.2.2.1.trans (final7 m c (args_real m hpre c)), (h c).2.2.2.2.2⟩) (Cert.InprojIdeal.Value.run_blocks (F := Ideal) m ρ),
    (θ_run Cert.InprojRefIdeal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.InprojRefIdeal.Value.run (F := Ideal) m' ρ')⟩
  · obtain ⟨h0, h1, h2⟩ := hagree c
    rw [Cert.InprojRefIdeal.Read.val_main_v40_eq, h0, h1, h2]
    funext i
    rw [eq_ix2 (n0 := 32768) (n1 := 896) i]
    exact Cert.InprojRefIdeal.Entry.mla_apply _ _ _ _ _
  · obtain ⟨h0, h1, h2⟩ := hagree c
    rw [Cert.InprojRefIdeal.Read.val_main_v41_eq, h0, h1, h2]
    funext i
    rw [eq_ix2 (n0 := 32768) (n1 := 1536) i]
    exact Cert.InprojRefIdeal.Entry.sb_apply _ _ _ _ _
  · obtain ⟨h0, h1, h2⟩ := hagree c
    rw [Cert.InprojRefIdeal.Read.val_main_v21_eq, h0, h1, h2]
    funext i
    rw [eq_ix2 (n0 := 32768) (n1 := 512) i]
    exact Cert.InprojRefIdeal.Entry.fg_apply _ _ _ _ _
  · obtain ⟨h0, h1, h2⟩ := hagree c
    rw [Cert.InprojRefIdeal.Read.val_main_v42_eq, h0, h1, h2]
    funext i
    rw [eq_ix2 (n0 := 32768) (n1 := 1536) i]
    exact Cert.InprojRefIdeal.Entry.qig_apply _ _ _ _ _
  · obtain ⟨h0, h1, h2⟩ := hagree c
    rw [Cert.InprojRefIdeal.Read.val_main_v43_eq, h0, h1, h2]
    funext i
    rw [eq_ix2 (n0 := 32768) (n1 := 3072) i]
    exact Cert.InprojRefIdeal.Entry.gates_apply _ _ _ _ _

end Cert.InprojIdeal.Block
end
-- ==== Proof.MergeValue.lean ====
module

public import proofs.«01_k».proof.Proof.Blocks
public import proofs.«01_k».proof.Proof.Gen.MergeIdeal.Value
public import proofs.«01_k».proof.Proof.Gen.MergeRefIdeal.Run
public import proofs.«01_k».proof.Proof.Gen.MergeRefIdeal.Read
public import proofs.«01_k».proof.Defs
public import Idealize.ShloMosaic.Lib.Quiescent

/-! The merge of the three branches: one grid point's rows, the whole result, the reference, and the value claim. -/

@[expose] public section

set_option maxRecDepth 16384

noncomputable section

open Idealize.ShloMosaic Idealize.ShloMosaic.TcCoe Idealize.SL.Sem

namespace Cert.MergeIdeal.Block

open Cert.MergeIdeal Cert.MergeIdeal.Gen

/-- One row: three branches through their projections, each times its gate, added, projected, and added to the row. -/
def row (h : Fin 1024 → EReal) (ya yb yc : Fin 512 → EReal) (g : Fin 3072 → EReal) (wa wb wc : Fin 512 → Fin 1024 → EReal)
    (wo : Fin 1024 → Fin 1024 → EReal) (l : Fin 1024) : EReal :=
  h l + Rows.dot (fun k : Fin 1024 => Ideal.logistic (g ⟨k.val, by omega⟩) * Rows.dot ya (fun j => wa j k)
    + Ideal.logistic (g ⟨1024 + k.val, by omega⟩) * Rows.dot yb (fun j => wb j k)
    + Ideal.logistic (g ⟨2048 + k.val, by omega⟩) * Rows.dot yc (fun j => wc j k)) (fun k => wo k l)

theorem out_apply (x0 : Vec Ideal S512x1024 .f32) (x1 x2 x3 : Vec Ideal S512x512 .bf16) (x4 : Vec Ideal S512x3072 .bf16)
    (x5 x6 x7 : Vec Ideal S512x1024 .bf16) (x8 : Vec Ideal S1024x1024 .bf16) (r : Fin 512) (l : Fin 1024) :
    out0_9 x0 x1 x2 x3 x4 x5 x6 x7 x8 (ix2 r l)
      = row (fun k => x0 (ix2 r k)) (fun k => x1 (ix2 r k)) (fun k => x2 (ix2 r k)) (fun k => x3 (ix2 r k)) (fun k => x4 (ix2 r k))
          (fun j k => x5 (ix2 j k)) (fun j k => x6 (ix2 j k)) (fun j k => x7 (ix2 j k)) (fun j k => x8 (ix2 j k)) l := by
  frame_out
  unfold row Rows.dot
  pointwise [k0_pay1]

/-- The result from the arguments, entry by entry. -/
def out (h : Vec Ideal S32768x1024 .f32) (ya yb yc : Vec Ideal S32768x512 .bf16) (g : Vec Ideal S32768x3072 .bf16)
    (wa wb wc : Vec Ideal S512x1024 .bf16) (wo : Vec Ideal S1024x1024 .bf16) (i : S32768x1024.Idx) : EReal :=
  row (fun k => h (ix2 (i 0) k)) (fun k => ya (ix2 (i 0) k)) (fun k => yb (ix2 (i 0) k)) (fun k => yc (ix2 (i 0) k)) (fun k => g (ix2 (i 0) k))
    (fun j k => wa (ix2 j k)) (fun j k => wb (ix2 j k)) (fun j k => wc (ix2 j k)) (fun j k => wo (ix2 j k)) (i 1)

variable (m : (ℓ : Loc nD τ sig) → Buf (Elt Ideal) ℓ) (ρ : Dev nD → PrngReg)

/-- The result array. -/
def res (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The blocks that move with the grid point. -/
theorem index_eq : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_9.index t = ![t.val, 0] := by decide +kernel

/-- The blocks that stay. -/
theorem index_zero : ∀ t : Fin grid0.N, (∀ a, win0_5.index t a = 0) ∧ (∀ a, win0_6.index t a = 0) ∧ (∀ a, win0_7.index t a = 0)
    ∧ (∀ a, win0_8.index t a = 0) := by decide +kernel

theorem blk0 (c : Dev nD) (t : Fin cfg0.N) (r : Fin 512) (k : Fin 1024) (h : 512 * t.val + r.val < 32768) :
    (iblk m c 0 t : Vec Ideal S512x1024 .f32) (ix2 r k)
      = (m ((c : Thread nD τ).loc main_arg0) : Vec Ideal S32768x1024 .f32) (ix2 ⟨512 * t.val + r.val, h⟩ k) := by
  rw [← V_main_arg0 m c]
  exact congrArg (V m c main_arg0 : Vec Ideal S32768x1024 .f32) (Rows.emb_rows _ t.val r.val k.val h k.isLt _ win0_0.size (index_eq t).1 rfl
    (fun a => by match a with | ⟨0, _⟩ => rfl | ⟨1, _⟩ => rfl))

theorem blk1 (c : Dev nD) (t : Fin cfg0.N) (r : Fin 512) (k : Fin 512) (h : 512 * t.val + r.val < 32768) :
    (iblk m c 1 t : Vec Ideal S512x512 .bf16) (ix2 r k)
      = (m ((c : Thread nD τ).loc main_arg1) : Vec Ideal S32768x512 .bf16) (ix2 ⟨512 * t.val + r.val, h⟩ k) := by
  rw [← V_main_arg1 m c]
  exact congrArg (V m c main_arg1 : Vec Ideal S32768x512 .bf16) (Rows.emb_rows _ t.val r.val k.val h k.isLt _ win0_1.size (index_eq t).2.1 rfl
    (fun a => by match a with | ⟨0, _⟩ => rfl | ⟨1, _⟩ => rfl))

theorem blk2 (c : Dev nD) (t : Fin cfg0.N) (r : Fin 512) (k : Fin 512) (h : 512 * t.val + r.val < 32768) :
    (iblk m c 2 t : Vec Ideal S512x512 .bf16) (ix2 r k)
      = (m ((c : Thread nD τ).loc main_arg2) : Vec Ideal S32768x512 .bf16) (ix2 ⟨512 * t.val + r.val, h⟩ k) := by
  rw [← V_main_arg2 m c]
  exact congrArg (V m c main_arg2 : Vec Ideal S32768x512 .bf16) (Rows.emb_rows _ t.val r.val k.val h k.isLt _ win0_2.size (index_eq t).2.2.1 rfl
    (fun a => by match a with | ⟨0, _⟩ => rfl | ⟨1, _⟩ => rfl))

theorem blk3 (c : Dev nD) (t : Fin cfg0.N) (r : Fin 512) (k : Fin 512) (h : 512 * t.val + r.val < 32768) :
    (iblk m c 3 t : Vec Ideal S512x512 .bf16) (ix2 r k)
      = (m ((c : Thread nD τ).loc main_arg3) : Vec Ideal S32768x512 .bf16) (ix2 ⟨512 * t.val + r.val, h⟩ k) := by
  rw [← V_main_arg3 m c]
  exact congrArg (V m c main_arg3 : Vec Ideal S32768x512 .bf16) (Rows.emb_rows _ t.val r.val k.val h k.isLt _ win0_3.size (index_eq t).2.2.2.1 rfl
    (fun a => by match a with | ⟨0, _⟩ => rfl | ⟨1, _⟩ => rfl))

theorem blk4 (c : Dev nD) (t : Fin cfg0.N) (r : Fin 512) (k : Fin 3072) (h : 512 * t.val + r.val < 32768) :
    (iblk m c 4 t : Vec Ideal S512x3072 .bf16) (ix2 r k)
      = (m ((c : Thread nD τ).loc main_arg4) : Vec Ideal S32768x3072 .bf16) (ix2 ⟨512 * t.val + r.val, h⟩ k) := by
  rw [← V_main_arg4 m c]
  exact congrArg (V m c main_arg4 : Vec Ideal S32768x3072 .bf16) (Rows.emb_rows _ t.val r.val k.val h k.isLt _ win0_4.size (index_eq t).2.2.2.2.1 rfl
    (fun a => by match a with | ⟨0, _⟩ => rfl | ⟨1, _⟩ => rfl))

theorem blk5 (c : Dev nD) (t : Fin cfg0.N) : iblk m c 5 t = m ((c : Thread nD τ).loc main_arg5) := by
  rw [← V_main_arg5 m c]
  funext j
  exact congrArg (V m c main_arg5 : Vec Ideal S512x1024 .bf16) (Rows.emb_whole _ j _ win0_5.size (index_zero t).1 fun _ => rfl)

theorem blk6 (c : Dev nD) (t : Fin cfg0.N) : iblk m c 6 t = m ((c : Thread nD τ).loc main_arg6) := by
  rw [← V_main_arg6 m c]
  funext j
  exact congrArg (V m c main_arg6 : Vec Ideal S512x1024 .bf16) (Rows.emb_whole _ j _ win0_6.size (index_zero t).2.1 fun _ => rfl)

theorem blk7 (c : Dev nD) (t : Fin cfg0.N) : iblk m c 7 t = m ((c : Thread nD τ).loc main_arg7) := by
  rw [← V_main_arg7 m c]
  funext j
  exact congrArg (V m c main_arg7 : Vec Ideal S512x1024 .bf16) (Rows.emb_whole _ j _ win0_7.size (index_zero t).2.2.1 fun _ => rfl)

theorem blk8 (c : Dev nD) (t : Fin cfg0.N) : iblk m c 8 t = m ((c : Thread nD τ).loc main_arg8) := by
  rw [← V_main_arg8 m c]
  funext j
  exact congrArg (V m c main_arg8 : Vec Ideal S1024x1024 .bf16) (Rows.emb_whole _ j _ win0_8.size (index_zero t).2.2.2 fun _ => rfl)

/-- What point `t` writes back is rows `512 t` to `512 t + 511` of the result. -/
theorem flushed_eq (c : Dev nD) (t : Fin cfg0.N) :
    (dats m 0 c).flushed 9 t = (win0_9.blk t).view.read (Elt Ideal) (res m c) := by
  rw [Value.flushed9]
  funext j
  obtain ⟨r, l, rfl⟩ : ∃ (r : Fin 512) (l : Fin 1024), j = ix2 r l := ⟨j 0, j 1, eq_ix2 j⟩
  have ht : t.val < 64 := t.isLt
  have hr : 512 * t.val + r.val < 32768 := by omega
  have e : (win0_9.blk t).view.emb (ix2 r l) = (ix2 ⟨512 * t.val + r.val, hr⟩ l : S32768x1024.Idx) :=
    Rows.emb_rows _ t.val r.val l.val hr l.isLt _ _ (index_eq t).2.2.2.2.2 rfl (fun a => by match a with | ⟨0, _⟩ => rfl | ⟨1, _⟩ => rfl)
  refine (out_apply (iblk m c 0 t) (iblk m c 1 t) (iblk m c 2 t) (iblk m c 3 t) (iblk m c 4 t) (iblk m c 5 t) (iblk m c 6 t) (iblk m c 7 t) (iblk m c 8 t) r l).trans
    (Eq.trans ?_ (congrArg (res m c) e).symm)
  simp only [blk0 m c t r _ hr, blk1 m c t r _ hr, blk2 m c t r _ hr, blk3 m c t r _ hr, blk4 m c t r _ hr, blk5, blk6, blk7, blk8]
  rfl

theorem cover (i : S32768x1024.Idx) :
    ∃ t : Fin cfg0.N, (cfg0.win 9).flush t = true ∧ i ∈ ((cfg0.win 9).blk t).view.set := by
  have h0 : (i 0).val < 32768 := (i 0).isLt
  have h1 : (i 1).val < 1024 := (i 1).isLt
  have hN : cfg0.N = 64 := N_0
  have ht : (i 0).val / 512 < cfg0.N := by omega
  refine ⟨⟨(i 0).val / 512, ht⟩, flush0_9 _, ?_⟩
  show i ∈ ((View.whole main_v0).slice (win0_9.rect ⟨(i 0).val / 512, ht⟩)).set
  rw [View.set_slice_whole, Rect.mem_set_unit]
  intro a
  show win0_9.index ⟨(i 0).val / 512, ht⟩ a * win0_9.size a ≤ (i a).val
    ∧ (i a).val < win0_9.index ⟨(i 0).val / 512, ht⟩ a * win0_9.size a + win0_9.size a
  rw [(index_eq ⟨(i 0).val / 512, ht⟩).2.2.2.2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- After the run the result array is `res`. -/
theorem final (c : Dev nD) : (dats m 0 c).arrAt 9 cfg0.N = res m c :=
  (dats m 0 c).arrAt_eq_of_cover 9 (res m c) (fun t _ => flushed_eq m c t) cover

end Cert.MergeIdeal.Block

namespace Cert.MergeRefIdeal.Entry

open Cert.MergeRefIdeal Cert.MergeRefIdeal.Gen Cert.MergeRefIdeal.Read

theorem ref_apply (h : Vec Ideal S32768x1024 .f32) (ya yb yc : Vec Ideal S32768x512 .bf16) (g : Vec Ideal S32768x3072 .bf16)
    (wa wb wc : Vec Ideal S512x1024 .bf16) (wo : Vec Ideal S1024x1024 .bf16) (r : Fin 32768) (l : Fin 1024) :
    val_main_v30 (F := Ideal) h ya yb yc g wa wb wc wo (ix2 r l) = Cert.MergeIdeal.Block.out h ya yb yc g wa wb wc wo (ix2 r l) := by
  unfold Cert.MergeIdeal.Block.out Cert.MergeIdeal.Block.row Rows.dot
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0]
  rfl

end Cert.MergeRefIdeal.Entry

namespace Cert.MergeIdeal.Block

/-- The reference runs, its arguments unchanged. -/
theorem ref_frame : quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel and the reference end with the same array. -/
theorem value : algebraic_MergeIdeal_MergeRefIdeal (hMergeIdeal := Cert.MergeIdeal.Gen.facts) (hMergeRefIdeal := Cert.MergeRefIdeal.Gen.facts) := by
  intro m ρ m' ρ' _ hagree
  refine ⟨fun c => res m c, (θ_run Cert.MergeIdeal.defs _ _).mono (fun r h c => ⟨((h c).1).trans (final m c), (h c).2⟩)
      (Cert.MergeIdeal.Value.run_blocks (F := Ideal) m ρ),
    (θ_run Cert.MergeRefIdeal.defs _ _).mono (fun r h c => ⟨((h c).1).trans ?_, (h c).2⟩) (Cert.MergeRefIdeal.Value.run (F := Ideal) m' ρ')⟩
  obtain ⟨h0, h1, h2, h3, h4, h5, h6, h7, h8⟩ := hagree c
  rw [Cert.MergeRefIdeal.Read.val_main_v30_eq, h0, h1, h2, h3, h4, h5, h6, h7, h8]
  funext i
  rw [eq_ix2 (n0 := 32768) (n1 := 1024) i]
  exact Cert.MergeRefIdeal.Entry.ref_apply _ _ _ _ _ _ _ _ _ _ _

end Cert.MergeIdeal.Block
end
-- ==== Proof.RopeValue.lean ====
module

public import proofs.«01_k».proof.Proof.Blocks
public import proofs.«01_k».proof.Proof.Gen.RopeIdeal.Frame
public import Idealize.ShloMosaic.Lib.Pipeline.Value
public import proofs.«01_k».proof.Proof.Gen.RopeRefIdeal.Run
public import proofs.«01_k».proof.Proof.Gen.RopeRefIdeal.Read
public import proofs.«01_k».proof.Defs
public import Idealize.ShloMosaic.Lib.Quiescent

/-! The rope tables: cosine and sine of the position times the lane's frequency, the sixteen frequencies eight times over. -/

@[expose] public section

set_option maxRecDepth 16384

noncomputable section

open Idealize.ShloMosaic Idealize.ShloMosaic.TcCoe Idealize.SL.Sem

namespace Cert.RopeIdeal

/-- The angle at position `p` and lane `l`. -/
def angle (p : BitVec 32) (l : Nat) : EReal :=
  FloatOps.sitofp (F := Ideal) .f32 p
    * Ideal.pow (Ideal.ofBits .f32 0x461C4000#32) (Ideal.div (-FloatOps.sitofp (F := Ideal) .f32 (BitVec.ofNat 32 (l % 16))) (Ideal.ofBits .f32 0x41800000#32))

end Cert.RopeIdeal

namespace Cert.RopeIdeal.Block

open Cert.RopeIdeal Cert.RopeIdeal.Gen

theorem cos_apply (x0 : Vec Ideal S1x2048x1 .i32) (x1 : Vec Ideal S1x128 .f32) (r : Fin 2048) (l : Fin 128) :
    out0_2 x0 x1 (ix3 0 r l) = Ideal.cos (FloatOps.sitofp (F := Ideal) .f32 (x0 (ix3 0 r 0)) * x1 (ix2 0 l)) := by
  frame_out
  pointwise [k0_pay2, k0_pay1]

theorem sin_apply (x0 : Vec Ideal S1x2048x1 .i32) (x1 : Vec Ideal S1x128 .f32) (r : Fin 2048) (l : Fin 128) :
    out0_3 x0 x1 (ix3 0 r l) = Ideal.sin (FloatOps.sitofp (F := Ideal) .f32 (x0 (ix3 0 r 0)) * x1 (ix2 0 l)) := by
  frame_out
  pointwise [k0_pay3, k0_pay1]

/-- A table from the positions, entry by entry; `f` is cosine or sine. -/
def table (f : EReal → EReal) (p : Vec Ideal S16x2048 .i32) (i : S16x2048x128.Idx) : EReal := f (angle (p (ix2 (i 0) (i 1))) (i 2).val)

variable (m : (ℓ : Loc nD τ sig) → Buf (Elt Ideal) ℓ) (ρ : Dev nD → PrngReg)

/-- A table as an array. -/
def res (f : EReal → EReal) (c : Dev nD) : Vec Ideal S16x2048x128 .f32 := table f (m ((c : Thread nD τ).loc main_arg0))

/-- The frequencies as the host lays them out. -/
theorem inv_apply (c : Dev nD) (l : Fin 128) : (V m c main_v9 : Vec Ideal S1x128 .f32) (ix2 0 l)
    = Ideal.pow (Ideal.ofBits .f32 0x461C4000#32) (Ideal.div (-FloatOps.sitofp (F := Ideal) .f32 (BitVec.ofNat 32 (l.val % 16))) (Ideal.ofBits .f32 0x41800000#32)) := by
  entry_read; pointwise

/-- The positions as a column. -/
theorem pos_apply (c : Dev nD) (b : Fin 16) (s : Fin 2048) : (V m c main_v10 : Vec Ideal S16x2048x1 .i32) (ix3 b s 0)
    = (m ((c : Thread nD τ).loc main_arg0) : Vec Ideal S16x2048 .i32) (ix2 b s) := by
  entry_read; pointwise

theorem index_eq : ∀ t : Fin grid0.N, win0_0.index t = ![t.val, 0, 0] ∧ win0_2.index t = ![t.val, 0, 0] ∧ win0_3.index t = ![t.val, 0, 0]
    ∧ ∀ a, win0_1.index t a = 0 := by decide +kernel

/-- Block `t` of an array of sixteen is its part `t`. -/
theorem emb_part {n m : Nat} (f : (⟨3, ![16, n, m]⟩ : Shape).Idx) (t : Fin 16) (r : Fin n) (l : Fin m)
    (idx sz : Fin 3 → Nat) (hi : idx = ![t.val, 0, 0]) (hs : sz 0 = 1)
    (h : ∀ a, (f a).val = idx a * sz a + 1 * (![0, r.val, l.val] : Fin 3 → Nat) a) : f = ix3 t r l := by
  subst hi
  funext a
  apply Fin.ext
  rw [h a]
  match a with
  | ⟨0, _⟩ => show t.val * sz 0 + 1 * 0 = t.val; rw [hs]; omega
  | ⟨1, _⟩ => show 0 * sz 1 + 1 * r.val = r.val; omega
  | ⟨2, _⟩ => show 0 * sz 2 + 1 * l.val = l.val; omega

theorem blk0 (c : Dev nD) (t : Fin cfg0.N) (r : Fin 2048) (ht : t.val < 16) :
    (iblk m c 0 t : Vec Ideal S1x2048x1 .i32) (ix3 0 r 0)
      = (m ((c : Thread nD τ).loc main_arg0) : Vec Ideal S16x2048 .i32) (ix2 ⟨t.val, ht⟩ r) := by
  refine Eq.trans ?_ (pos_apply m c ⟨t.val, ht⟩ r)
  exact congrArg (V m c main_v10 : Vec Ideal S16x2048x1 .i32) (emb_part _ ⟨t.val, ht⟩ r 0 _ win0_0.size (index_eq t).1 rfl
    (fun a => by match a with | ⟨0, _⟩ => rfl | ⟨1, _⟩ => rfl | ⟨2, _⟩ => rfl))

theorem blk1 (c : Dev nD) (t : Fin cfg0.N) : iblk m c 1 t = V m c main_v9 := by
  funext j
  exact congrArg (V m c main_v9 : Vec Ideal S1x128 .f32) (Rows.emb_whole _ j _ win0_1.size (index_eq t).2.2.2 fun _ => rfl)

theorem angle_eq (c : Dev nD) (t : Fin cfg0.N) (r : Fin 2048) (l : Fin 128) (ht : t.val < 16) :
    FloatOps.sitofp (F := Ideal) .f32 ((iblk m c 0 t : Vec Ideal S1x2048x1 .i32) (ix3 0 r 0)) * (iblk m c 1 t : Vec Ideal S1x128 .f32) (ix2 0 l)
      = angle ((m ((c : Thread nD τ).loc main_arg0) : Vec Ideal S16x2048 .i32) (ix2 ⟨t.val, ht⟩ r)) l.val := by
  rw [blk0 m c t r ht, blk1, inv_apply]; rfl

/-- The part of an index is a grid point. -/
theorem part_lt (i : S16x2048x128.Idx) : (i 0).val < cfg0.N := lt_of_lt_of_eq (i 0).isLt N_0.symm

/-- An index lies in the block of its part. -/
theorem mem_part (i : S16x2048x128.Idx) (idx sz : Fin 3 → Nat) (hi : idx = ![(i 0).val, 0, 0]) (hs : sz = ![1, 2048, 128]) :
    ∀ a : Fin 3, idx a * sz a ≤ (i a).val ∧ (i a).val < idx a * sz a + sz a := by
  subst hi hs
  intro a
  have h1 : (i 1).val < 2048 := (i 1).isLt
  have h2 : (i 2).val < 128 := (i 2).isLt
  match a with
  | ⟨0, _⟩ => show (i 0).val * 1 ≤ (i 0).val ∧ (i 0).val < (i 0).val * 1 + 1; omega
  | ⟨1, _⟩ => show 0 * 2048 ≤ (i 1).val ∧ (i 1).val < 0 * 2048 + 2048; omega
  | ⟨2, _⟩ => show 0 * 128 ≤ (i 2).val ∧ (i 2).val < 0 * 128 + 128; omega

/-- After the run result 0 is the cosines. -/
theorem final2 (c : Dev nD) : (dats m 0 c).arrAt 2 cfg0.N = res m Ideal.cos c :=
  (dats m 0 c).arrAt_eq_of_cover 2 (res m Ideal.cos c) (fun t _ => by
    show (cfg0.win 2).cut (grid0.coords t) ((dats m 0 c).after 2 t) = _
    rw [after0_2]
    funext j
    obtain ⟨r, l, rfl⟩ : ∃ (r : Fin 2048) (l : Fin 128), j = ix3 0 r l := ⟨j 1, j 2, (eq_ix3 j).trans (congrArg (fun z => ix3 z (j 1) (j 2)) (Subsingleton.elim (α := Fin 1) _ _))⟩
    have ht : t.val < 16 := t.isLt
    have e : (win0_2.blk t).view.emb (ix3 0 r l) = (ix3 ⟨t.val, ht⟩ r l : S16x2048x128.Idx) :=
      emb_part _ ⟨t.val, ht⟩ r l _ win0_2.size (index_eq t).2.1 rfl (fun a => by match a with | ⟨0, _⟩ => rfl | ⟨1, _⟩ => rfl | ⟨2, _⟩ => rfl)
    exact (cos_apply (iblk m c 0 t) (iblk m c 1 t) r l).trans ((congrArg Ideal.cos (angle_eq m c t r l ht)).trans (congrArg (res m Ideal.cos c) e).symm))
  fun i => ⟨⟨(i 0).val, part_lt i⟩, flush0_2 _, by
    show i ∈ ((View.whole main_v11_0).slice (win0_2.rect ⟨(i 0).val, part_lt i⟩)).set
    rw [View.set_slice_whole, Rect.mem_set_unit]
    exact mem_part i _ win0_2.size (index_eq ⟨(i 0).val, part_lt i⟩).2.1 rfl⟩

/-- After the run result 1 is the sines. -/
theorem final3 (c : Dev nD) : (dats m 0 c).arrAt 3 cfg0.N = res m Ideal.sin c :=
  (dats m 0 c).arrAt_eq_of_cover 3 (res m Ideal.sin c) (fun t _ => by
    show (cfg0.win 3).cut (grid0.coords t) ((dats m 0 c).after 3 t) = _
    rw [after0_3]
    funext j
    obtain ⟨r, l, rfl⟩ : ∃ (r : Fin 2048) (l : Fin 128), j = ix3 0 r l := ⟨j 1, j 2, (eq_ix3 j).trans (congrArg (fun z => ix3 z (j 1) (j 2)) (Subsingleton.elim (α := Fin 1) _ _))⟩
    have ht : t.val < 16 := t.isLt
    have e : (win0_3.blk t).view.emb (ix3 0 r l) = (ix3 ⟨t.val, ht⟩ r l : S16x2048x128.Idx) :=
      emb_part _ ⟨t.val, ht⟩ r l _ win0_3.size (index_eq t).2.2.1 rfl (fun a => by match a with | ⟨0, _⟩ => rfl | ⟨1, _⟩ => rfl | ⟨2, _⟩ => rfl)
    exact (sin_apply (iblk m c 0 t) (iblk m c 1 t) r l).trans ((congrArg Ideal.sin (angle_eq m c t r l ht)).trans (congrArg (res m Ideal.sin c) e).symm))
  fun i => ⟨⟨(i 0).val, part_lt i⟩, flush0_3 _, by
    show i ∈ ((View.whole main_v11_1).slice (win0_3.rect ⟨(i 0).val, part_lt i⟩)).set
    rw [View.set_slice_whole, Rect.mem_set_unit]
    exact mem_part i _ win0_3.size (index_eq ⟨(i 0).val, part_lt i⟩).2.2.1 rfl⟩

end Cert.RopeIdeal.Block

namespace Cert.RopeRefIdeal.Entry

open Cert.RopeRefIdeal Cert.RopeRefIdeal.Gen Cert.RopeRefIdeal.Read

variable (p : Vec Ideal S16x2048 .i32) (b : Fin 16) (s : Fin 2048)

theorem angle_apply (k : Fin 16) : val_main_v11 (F := Ideal) p (ix3 b s k) = Cert.RopeIdeal.angle (p (ix2 b s)) k.val := by
  unfold Cert.RopeIdeal.angle
  pointwise [val_main_v11, val_main_v10, val_main_v9, val_main_v8, val_main_v7, val_main_v6, val_main_v5, val_main_v4, val_main_v3, val_main_v2, val_main_v1, val_main_v0, val_main_cst, val_main_cst_0]
  rw [Nat.mod_eq_of_lt k.isLt]

theorem lane (p : BitVec 32) (l : Nat) : Cert.RopeIdeal.angle p (l % 16) = Cert.RopeIdeal.angle p l := by
  unfold Cert.RopeIdeal.angle; rw [Nat.mod_mod]

theorem cos_apply (l : Fin 128) : val_main_v15 (F := Ideal) p (ix3 b s l) = Cert.RopeIdeal.Block.table Ideal.cos p (ix3 b s l) := by
  have h := angle_apply p b s
  generalize hx : val_main_v11 (F := Ideal) p = x at h
  pointwise [val_main_v15, val_main_v14, val_main_v13, val_main_v12, hx]
  rw [h]
  exact congrArg Ideal.cos (lane _ _)

theorem sin_apply (l : Fin 128) : val_main_v19 (F := Ideal) p (ix3 b s l) = Cert.RopeIdeal.Block.table Ideal.sin p (ix3 b s l) := by
  have h := angle_apply p b s
  generalize hx : val_main_v11 (F := Ideal) p = x at h
  pointwise [val_main_v19, val_main_v18, val_main_v17, val_main_v16, hx]
  rw [h]
  exact congrArg Ideal.sin (lane _ _)

end Cert.RopeRefIdeal.Entry

namespace Cert.RopeIdeal.Block

/-- The reference runs, its argument unchanged. -/
theorem ref_frame : quiescent_RopeRefIdeal (hRopeRefIdeal := Cert.RopeRefIdeal.Gen.facts) := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The kernel and the reference end with the same tables. -/
theorem value : algebraic_RopeIdeal_RopeRefIdeal (hRopeIdeal := Cert.RopeIdeal.Gen.facts) (hRopeRefIdeal := Cert.RopeRefIdeal.Gen.facts) := by
  intro m ρ m' ρ' _ hagree
  refine ⟨fun c => res m Ideal.cos c, fun c => res m Ideal.sin c,
    (θ_run Cert.RopeIdeal.defs _ _).mono (fun r h c => ⟨((h c).1 2).trans (final2 m c), ((h c).1 3).trans (final3 m c),
      ((h c).2 Cert.RopeIdeal.main_arg0 (Pipeline.mem_restRefs_of Cert.RopeIdeal.main_arg0 (by decide) (by decide))).trans (Cert.RopeIdeal.Gen.V_main_arg0 m c)⟩)
      (Cert.RopeIdeal.Gen.run_main (F := Ideal) m ρ),
    (θ_run Cert.RopeRefIdeal.defs _ _).mono (fun r h c => ⟨(h c).1.trans ?_, (h c).2.1.trans ?_, (h c).2.2⟩) (Cert.RopeRefIdeal.Value.run (F := Ideal) m' ρ')⟩
  · rw [Cert.RopeRefIdeal.Read.val_main_v15_eq, hagree c]
    funext i
    rw [eq_ix3 (n0 := 16) (n1 := 2048) (n2 := 128) i]
    exact Cert.RopeRefIdeal.Entry.cos_apply _ _ _ _
  · rw [Cert.RopeRefIdeal.Read.val_main_v19_eq, hagree c]
    funext i
    rw [eq_ix3 (n0 := 16) (n1 := 2048) (n2 := 128) i]
    exact Cert.RopeRefIdeal.Entry.sin_apply _ _ _ _

end Cert.RopeIdeal.Block
end
-- ==== Proof.CastValue.lean ====
module

public import proofs.«01_k».proof.Proof.Blocks
public import proofs.«01_k».proof.Proof.Gen.CastIdeal.Value
public import proofs.«01_k».proof.Proof.Gen.CastRefIdeal.Run
public import proofs.«01_k».proof.Proof.Gen.CastRefIdeal.Read
public import proofs.«01_k».proof.Defs
public import Idealize.ShloMosaic.Lib.Quiescent

/-! One layer's weights cast to bf16: over the ideal values nothing but the choice of the layer. -/

@[expose] public section

set_option maxRecDepth 16384

noncomputable section

open Idealize.ShloMosaic Idealize.ShloMosaic.TcCoe Idealize.SL.Sem

namespace Cert.CastIdeal.Block

open Cert.CastIdeal Cert.CastIdeal.Gen

theorem out_apply (x0 : Vec Ideal S1x256x5632 .f32) (r : Fin 256) (l : Fin 5632) : out0_1 x0 (ix2 r l) = x0 (ix3 0 r l) := by
  frame_out
  pointwise [k0_pay1]

/-- The result from the argument, entry by entry. -/
def out (w : Vec Ideal S2x1024x5632 .f32) (i : S1024x5632.Idx) : EReal := w (ix3 1 (i 0) (i 1))

variable (m : (ℓ : Loc nD τ sig) → Buf (Elt Ideal) ℓ) (ρ : Dev nD → PrngReg)

/-- The result array. -/
def res (c : Dev nD) : Buf (Elt Ideal) ((c : Thread nD τ).loc main_v0) := out (m ((c : Thread nD τ).loc main_arg0))

theorem index_eq : ∀ t : Fin grid0.N, win0_0.index t = ![1, t.val, 0] ∧ win0_1.index t = ![t.val, 0] := by decide +kernel

theorem blk0 (c : Dev nD) (t : Fin cfg0.N) (r : Fin 256) (k : Fin 5632) (h : 256 * t.val + r.val < 1024) :
    (iblk m c 0 t : Vec Ideal S1x256x5632 .f32) (ix3 0 r k)
      = (m ((c : Thread nD τ).loc main_arg0) : Vec Ideal S2x1024x5632 .f32) (ix3 1 ⟨256 * t.val + r.val, h⟩ k) := by
  rw [← V_main_arg0 m c]
  show (V m c main_arg0 : Vec Ideal S2x1024x5632 .f32) _ = _
  congr 1
  funext a
  apply Fin.ext
  show win0_0.index t a * win0_0.size a + 1 * (ix3 (n0 := 1) 0 r k a).val = _
  rw [(index_eq t).1]
  match a with
  | ⟨0, _⟩ => rfl
  | ⟨1, _⟩ => show t.val * 256 + 1 * r.val = 256 * t.val + r.val; omega
  | ⟨2, _⟩ => show 0 * 5632 + 1 * k.val = k.val; omega

/-- What point `t` writes back is rows `256 t` to `256 t + 255` of the result. -/
theorem flushed_eq (c : Dev nD) (t : Fin cfg0.N) :
    (dats m 0 c).flushed 1 t = (win0_1.blk t).view.read (Elt Ideal) (res m c) := by
  rw [Value.flushed1]
  funext j
  obtain ⟨r, l, rfl⟩ : ∃ (r : Fin 256) (l : Fin 5632), j = ix2 r l := ⟨j 0, j 1, eq_ix2 j⟩
  have ht : t.val < 4 := t.isLt
  have hr : 256 * t.val + r.val < 1024 := by omega
  have e : (win0_1.blk t).view.emb (ix2 r l) = (ix2 ⟨256 * t.val + r.val, hr⟩ l : S1024x5632.Idx) :=
    Rows.emb_rows _ t.val r.val l.val hr l.isLt _ _ (index_eq t).2 rfl (fun a => by match a with | ⟨0, _⟩ => rfl | ⟨1, _⟩ => rfl)
  exact (out_apply (iblk m c 0 t) r l).trans ((blk0 m c t r l hr).trans (congrArg (res m c) e).symm)

theorem cover (i : S1024x5632.Idx) :
    ∃ t : Fin cfg0.N, (cfg0.win 1).flush t = true ∧ i ∈ ((cfg0.win 1).blk t).view.set := by
  have h0 : (i 0).val < 1024 := (i 0).isLt
  have h1 : (i 1).val < 5632 := (i 1).isLt
  have hN : cfg0.N = 4 := N_0
  have ht : (i 0).val / 256 < cfg0.N := by omega
  refine ⟨⟨(i 0).val / 256, ht⟩, flush0_1 _, ?_⟩
  show i ∈ ((View.whole main_v0).slice (win0_1.rect ⟨(i 0).val / 256, ht⟩)).set
  rw [View.set_slice_whole, Rect.mem_set_unit]
  intro a
  show win0_1.index ⟨(i 0).val / 256, ht⟩ a * win0_1.size a ≤ (i a).val
    ∧ (i a).val < win0_1.index ⟨(i 0).val / 256, ht⟩ a * win0_1.size a + win0_1.size a
  rw [(index_eq ⟨(i 0).val / 256, ht⟩).2]
  match a with
  | ⟨0, _⟩ => show (i 0).val / 256 * 256 ≤ (i 0).val ∧ (i 0).val < (i 0).val / 256 * 256 + 256; omega
  | ⟨1, _⟩ => show 0 * 5632 ≤ (i 1).val ∧ (i 1).val < 0 * 5632 + 5632; omega

/-- The reference runs, its argument unchanged. -/
theorem ref_frame : quiescent_CastRefIdeal (hCastRefIdeal := Cert.CastRefIdeal.Gen.facts) := fun m ρ _ =>
  (θ_run Cert.CastRefIdeal.defs _ _).mono (fun r h => ⟨fun c => (h c).2, sem_eq_zero_of_no_sems (by decide) r.2⟩)
    (Cert.CastRefIdeal.Value.run (F := Ideal) m ρ)

theorem ref_apply (w : Vec Ideal S2x1024x5632 .f32) (r : Fin 1024) (l : Fin 5632) :
    Cert.CastRefIdeal.Read.val_main_v2 (F := Ideal) w (ix2 r l) = out w (ix2 r l) := by
  pointwise [Cert.CastRefIdeal.Read.val_main_v2, Cert.CastRefIdeal.Read.val_main_v1, Cert.CastRefIdeal.Read.val_main_v0, out]

/-- The kernel and the reference end with the same array. -/
theorem value : algebraic_CastIdeal_CastRefIdeal (hCastIdeal := Cert.CastIdeal.Gen.facts) (hCastRefIdeal := Cert.CastRefIdeal.Gen.facts) := by
  intro m ρ m' ρ' _ hagree
  refine ⟨fun c => res m c, (θ_run Cert.CastIdeal.defs _ _).mono (fun r h c =>
        ⟨((h c).1).trans ((dats m 0 c).arrAt_eq_of_cover 1 (res m c) (fun t _ => flushed_eq m c t) cover), (h c).2⟩)
      (Cert.CastIdeal.Value.run_blocks (F := Ideal) m ρ),
    (θ_run Cert.CastRefIdeal.defs _ _).mono (fun r h c => ⟨((h c).1).trans ?_, (h c).2⟩) (Cert.CastRefIdeal.Value.run (F := Ideal) m' ρ')⟩
  rw [Cert.CastRefIdeal.Read.val_main_v2_eq, hagree c]
  funext i
  rw [eq_ix2 (n0 := 1024) (n1 := 5632) i]
  exact ref_apply _ _ _

end Cert.CastIdeal.Block
end
-- ==== Proof.lean ====
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_mla_finite
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame
public import proofs.«01_k».proof.Proof.Gen.FfnAIdeal.Value
public import proofs.«01_k».proof.Proof.Gen.FfnARefIdeal
public import proofs.«01_k».proof.Proof.Gen.FfnARefIdeal.Run
public import proofs.«01_k».proof.Proof.Gen.FfnARefIdeal.Read
public import proofs.«01_k».proof.Proof.MlaValue
public import proofs.«01_k».proof.Proof.FfnAValue
public import proofs.«01_k».proof.Proof.Gen.FfnB
public import proofs.«01_k».proof.Proof.Gen.FfnB.Skeleton
public import proofs.«01_k».proof.Proof.Gen.FfnB.Launch
public import proofs.«01_k».proof.Proof.Gen.FfnB.Points
public import proofs.«01_k».proof.Proof.Gen.FfnB.Frame
public import proofs.«01_k».proof.Proof.Gen.FfnBIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBIdeal.Value
public import proofs.«01_k».proof.Proof.Gen.FfnBRefIdeal
public import proofs.«01_k».proof.Proof.Gen.FfnBRefIdeal.Run
public import proofs.«01_k».proof.Proof.Gen.FfnBRefIdeal.Read
public import proofs.«01_k».proof.Proof.FfnBValue
public import proofs.«01_k».proof.Proof.Gen.FfnC
public import proofs.«01_k».proof.Proof.Gen.FfnC.Skeleton
public import proofs.«01_k».proof.Proof.Gen.FfnC.Launch
public import proofs.«01_k».proof.Proof.Gen.FfnC.Points
public import proofs.«01_k».proof.Proof.Gen.FfnC.Frame
public import proofs.«01_k».proof.Proof.Gen.FfnCIdeal
public import proofs.«01_k».proof.Proof.Gen.FfnCIdeal.Skeleton
public import proofs.«01_k».proof.Proof.Gen.FfnCIdeal.Launch
public import proofs.«01_k».proof.Proof.Gen.FfnCIdeal.Points
public import proofs.«01_k».proof.Proof.Gen.FfnCIdeal.Frame
public import proofs.«01_k».proof.Proof.Gen.FfnCIdeal.Value
public import proofs.«01_k».proof.Proof.Gen.FfnCRefIdeal
public import proofs.«01_k».proof.Proof.Gen.FfnCRefIdeal.Run
public import proofs.«01_k».proof.Proof.Gen.FfnCRefIdeal.Read
public import proofs.«01_k».proof.Proof.FfnCValue
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_inproj_finite
public import proofs.«01_k».proof.Proof.InprojValue
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeValue
public import proofs.«01_k».proof.Proof.RopeValue
public import proofs.«01_k».proof.Proof.CastValue
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastIdeal.Value
public import proofs.«01_k».proof.Proof.Gen.CastRefIdeal
public import proofs.«01_k».proof.Proof.Gen.CastRefIdeal.Run
public import proofs.«01_k».proof.Proof.Gen.CastRefIdeal.Read
public import Idealize.ShloMosaic.Adequacy
public import Idealize.ShloMosaic.Init

@[expose] public section

noncomputable section

namespace Cert.Proof

open Idealize.ShloMosaic Idealize.SL.Sem Cert.FfnA

theorem claim : Cert.Claim := ⟨Cert.Mla.Gen.facts, Cert.MlaIdeal.Gen.facts, Cert.MlaRefIdeal.Gen.facts,
    Cert.FfnA.Gen.facts, Cert.FfnAIdeal.Gen.facts, Cert.FfnARefIdeal.Gen.facts, Cert.FfnB.Gen.facts, Cert.FfnBIdeal.Gen.facts, Cert.FfnBRefIdeal.Gen.facts,
    Cert.FfnC.Gen.facts, Cert.FfnCIdeal.Gen.facts, Cert.FfnCRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Rope.Gen.facts, Cert.RopeIdeal.Gen.facts, Cert.RopeRefIdeal.Gen.facts,
    Cert.Cast.Gen.facts, Cert.CastIdeal.Gen.facts, Cert.CastRefIdeal.Gen.facts,
    Cert.Pre_mla_finite.Gen.facts, Cert.Pre_inproj_finite.Gen.facts,
    fun m ρ _ => Cert.Mla.Gen.frame m ρ,
    fun m ρ _ => Cert.MlaIdeal.Gen.frame m ρ,
    fun m ρ _ => Cert.MlaIdeal.Gen.frame m ρ,
    Cert.MlaIdeal.Real.ref_frame,
    fun m ρ _ => Cert.MlaIdeal.Real.ref_frame m ρ trivial,
    fun m ρ _ => Cert.FfnA.Gen.frame m ρ,
    fun m ρ _ => Cert.FfnAIdeal.Gen.frame m ρ,
    Cert.FfnAIdeal.Block.ref_frame,
    fun m ρ _ => Cert.FfnB.Gen.frame m ρ,
    fun m ρ _ => Cert.FfnBIdeal.Gen.frame m ρ,
    Cert.FfnBIdeal.Block.ref_frame,
    fun m ρ _ => Cert.FfnC.Gen.frame m ρ,
    fun m ρ _ => Cert.FfnCIdeal.Gen.frame m ρ,
    Cert.FfnCIdeal.Block.ref_frame,
    fun m ρ _ => Cert.Inproj.Gen.frame m ρ,
    fun m ρ _ => Cert.InprojIdeal.Gen.frame m ρ,
    fun m ρ _ => Cert.InprojIdeal.Gen.frame m ρ,
    Cert.InprojIdeal.Block.ref_frame,
    fun m ρ _ => Cert.InprojIdeal.Block.ref_frame m ρ trivial,
    fun m ρ _ => Cert.Merge.Gen.frame m ρ,
    fun m ρ _ => Cert.MergeIdeal.Gen.frame m ρ,
    Cert.MergeIdeal.Block.ref_frame,
    fun m ρ _ => Cert.Rope.Gen.frame m ρ,
    fun m ρ _ => Cert.RopeIdeal.Gen.frame m ρ,
    Cert.RopeIdeal.Block.ref_frame,
    fun m ρ _ => Cert.Cast.Gen.frame m ρ,
    fun m ρ _ => Cert.CastIdeal.Gen.frame m ρ,
    Cert.CastIdeal.Block.ref_frame,
    IdealRules.named_const.statement Cert.MlaIdeal.κ "q_scale" .f32 0x3E16C740#32 (((Real.sqrt 96)⁻¹ * (Real.log 2)⁻¹ : ℝ) : EReal) rfl,
    Cert.MlaIdeal.Real.value,
    trivial,
    Cert.FfnAIdeal.Block.value,
    trivial,
    Cert.FfnBIdeal.Block.value,
    trivial,
    Cert.FfnCIdeal.Block.value,
    trivial,
    Cert.InprojIdeal.Block.value,
    trivial,
    Cert.MergeIdeal.Block.value,
    trivial,
    Cert.RopeIdeal.Block.value,
    trivial,
    Cert.CastIdeal.Block.value⟩

end Cert.Proof

end
